-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal [hPre_experts_in_range : Cert.Pre_experts_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_AdaMod (m : (ℓ : Loc Cert.AdaMod.nD Cert.AdaMod.τ Cert.AdaMod.sig) → Buf (Elt Bits) ℓ) : Prop :=
  True

def Pre_AdaModIdeal (m : (ℓ : Loc Cert.AdaModIdeal.nD Cert.AdaModIdeal.τ Cert.AdaModIdeal.sig) → Buf (Elt Ideal) ℓ) : Prop :=
  True

def Pre_AdaModRefIdeal (m : (ℓ : Loc Cert.AdaModRefIdeal.nD Cert.AdaModRefIdeal.τ Cert.AdaModRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_all_finite [hPre_all_finite : Cert.Pre_all_finite.Facts] (m : (ℓ : Loc Cert.PostIdeal.nD Cert.PostIdeal.τ Cert.PostIdeal.sig) → Buf (Elt Ideal) ℓ) : Prop :=
  ∀ c : Dev Cert.PostIdeal.nD,
    (Cert.Pre_all_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6))) = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_all_finite [hPre_all_finite : Cert.Pre_all_finite.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_all_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6))) = (fun _ => 1#1)

def Pre_InProjSample (m : (ℓ : Loc Cert.InProjSample.nD Cert.InProjSample.τ Cert.InProjSample.sig) → Buf (Elt Bits) ℓ) : Prop :=
  True

def Pre_InProjSampleIdeal (m : (ℓ : Loc Cert.InProjSampleIdeal.nD Cert.InProjSampleIdeal.τ Cert.InProjSampleIdeal.sig) → Buf (Elt Ideal) ℓ) : Prop :=
  True

def Pre_InProjSampleRefIdeal (m : (ℓ : Loc Cert.InProjSampleRefIdeal.nD Cert.InProjSampleRefIdeal.τ Cert.InProjSampleRefIdeal.sig) → Buf (Elt Ideal) ℓ) : Prop :=
  True

def Pre_PostSample (m : (ℓ : Loc Cert.PostSample.nD Cert.PostSample.τ Cert.PostSample.sig) → Buf (Elt Bits) ℓ) : Prop :=
  True

def Pre_PostSampleIdeal (m : (ℓ : Loc Cert.PostSampleIdeal.nD Cert.PostSampleIdeal.τ Cert.PostSampleIdeal.sig) → Buf (Elt Ideal) ℓ) : Prop :=
  True

def Pre_PostSampleIdeal_all_finite_sample [hPre_all_finite_sample : Cert.Pre_all_finite_sample.Facts] (m : (ℓ : Loc Cert.PostSampleIdeal.nD Cert.PostSampleIdeal.τ Cert.PostSampleIdeal.sig) → Buf (Elt Ideal) ℓ) : Prop :=
  ∀ c : Dev Cert.PostSampleIdeal.nD,
    (Cert.Pre_all_finite_sample.fn (F := Ideal) (m ((c.tc : Thread Cert.PostSampleIdeal.nD Cert.PostSampleIdeal.τ).loc Cert.PostSampleIdeal.main_arg0)) (m ((c.tc : Thread Cert.PostSampleIdeal.nD Cert.PostSampleIdeal.τ).loc Cert.PostSampleIdeal.main_arg1)) (m ((c.tc : Thread Cert.PostSampleIdeal.nD Cert.PostSampleIdeal.τ).loc Cert.PostSampleIdeal.main_arg2)) (m ((c.tc : Thread Cert.PostSampleIdeal.nD Cert.PostSampleIdeal.τ).loc Cert.PostSampleIdeal.main_arg3)) (m ((c.tc : Thread Cert.PostSampleIdeal.nD Cert.PostSampleIdeal.τ).loc Cert.PostSampleIdeal.main_arg4)) (m ((c.tc : Thread Cert.PostSampleIdeal.nD Cert.PostSampleIdeal.τ).loc Cert.PostSampleIdeal.main_arg5)) (m ((c.tc : Thread Cert.PostSampleIdeal.nD Cert.PostSampleIdeal.τ).loc Cert.PostSampleIdeal.main_arg6))) = (fun _ => 1#1)

def Pre_PostSampleRefIdeal (m : (ℓ : Loc Cert.PostSampleRefIdeal.nD Cert.PostSampleRefIdeal.τ Cert.PostSampleRefIdeal.sig) → Buf (Elt Ideal) ℓ) : Prop :=
  True

def Pre_PostSampleRefIdeal_all_finite_sample [hPre_all_finite_sample : Cert.Pre_all_finite_sample.Facts] (m : (ℓ : Loc Cert.PostSampleRefIdeal.nD Cert.PostSampleRefIdeal.τ Cert.PostSampleRefIdeal.sig) → Buf (Elt Ideal) ℓ) : Prop :=
  ∀ c : Dev Cert.PostSampleRefIdeal.nD,
    (Cert.Pre_all_finite_sample.fn (F := Ideal) (m ((c.tc : Thread Cert.PostSampleRefIdeal.nD Cert.PostSampleRefIdeal.τ).loc Cert.PostSampleRefIdeal.main_arg0)) (m ((c.tc : Thread Cert.PostSampleRefIdeal.nD Cert.PostSampleRefIdeal.τ).loc Cert.PostSampleRefIdeal.main_arg1)) (m ((c.tc : Thread Cert.PostSampleRefIdeal.nD Cert.PostSampleRefIdeal.τ).loc Cert.PostSampleRefIdeal.main_arg2)) (m ((c.tc : Thread Cert.PostSampleRefIdeal.nD Cert.PostSampleRefIdeal.τ).loc Cert.PostSampleRefIdeal.main_arg3)) (m ((c.tc : Thread Cert.PostSampleRefIdeal.nD Cert.PostSampleRefIdeal.τ).loc Cert.PostSampleRefIdeal.main_arg4)) (m ((c.tc : Thread Cert.PostSampleRefIdeal.nD Cert.PostSampleRefIdeal.τ).loc Cert.PostSampleRefIdeal.main_arg5)) (m ((c.tc : Thread Cert.PostSampleRefIdeal.nD Cert.PostSampleRefIdeal.τ).loc Cert.PostSampleRefIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] [hPre_experts_in_range : Cert.Pre_experts_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_AdaMod [hAdaMod : Cert.AdaMod.Facts] : Prop :=
  ∀ (m : (ℓ : Loc Cert.AdaMod.nD Cert.AdaMod.τ Cert.AdaMod.sig) → Buf (Elt Bits) ℓ) (g : Dev Cert.AdaMod.nD → PrngReg), Pre_AdaMod m →
    θ_run (Cert.AdaMod.defs (F := Bits)) (onTc (τ := Cert.AdaMod.τ) (Cert.AdaMod.main (F := Bits))) ⟨m, fun _ => 0, g⟩ (fun r => (∀ c : Dev Cert.AdaMod.nD,
      r.2.mem ((c.tc : Thread Cert.AdaMod.nD Cert.AdaMod.τ).loc Cert.AdaMod.main_arg0) = m ((c.tc : Thread Cert.AdaMod.nD Cert.AdaMod.τ).loc Cert.AdaMod.main_arg0)
      ∧ r.2.mem ((c.tc : Thread Cert.AdaMod.nD Cert.AdaMod.τ).loc Cert.AdaMod.main_arg1) = m ((c.tc : Thread Cert.AdaMod.nD Cert.AdaMod.τ).loc Cert.AdaMod.main_arg1)
      ∧ r.2.mem ((c.tc : Thread Cert.AdaMod.nD Cert.AdaMod.τ).loc Cert.AdaMod.main_arg2) = m ((c.tc : Thread Cert.AdaMod.nD Cert.AdaMod.τ).loc Cert.AdaMod.main_arg2)
      ∧ r.2.mem ((c.tc : Thread Cert.AdaMod.nD Cert.AdaMod.τ).loc Cert.AdaMod.main_arg3) = m ((c.tc : Thread Cert.AdaMod.nD Cert.AdaMod.τ).loc Cert.AdaMod.main_arg3))
      ∧ r.2.sem = fun _ => 0)

def quiescent_AdaModIdeal [hAdaModIdeal : Cert.AdaModIdeal.Facts] : Prop :=
  ∀ (m : (ℓ : Loc Cert.AdaModIdeal.nD Cert.AdaModIdeal.τ Cert.AdaModIdeal.sig) → Buf (Elt Ideal) ℓ) (g : Dev Cert.AdaModIdeal.nD → PrngReg), Pre_AdaModIdeal m →
    θ_run (Cert.AdaModIdeal.defs (F := Ideal)) (onTc (τ := Cert.AdaModIdeal.τ) (Cert.AdaModIdeal.main (F := Ideal))) ⟨m, fun _ => 0, g⟩ (fun r => (∀ c : Dev Cert.AdaModIdeal.nD,
      r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
      ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
      ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2)
      ∧ r.2.mem ((c.tc : Thread Cert.AdaModIdeal.nD Cert.AdaModIdeal.τ).loc Cert.AdaModIdeal.main_arg3) = m ((c.tc : Thread Cert.AdaModIdeal.nD Cert.AdaModIdeal.τ).loc Cert.AdaModIdeal.main_arg3))
      ∧ r.2.sem = fun _ => 0)

def quiescent_AdaModRefIdeal [hAdaModRefIdeal : Cert.AdaModRefIdeal.Facts] : Prop :=
  ∀ (m : (ℓ : Loc Cert.AdaModRefIdeal.nD Cert.AdaModRefIdeal.τ Cert.AdaModRefIdeal.sig) → Buf (Elt Ideal) ℓ) (g : Dev Cert.AdaModRefIdeal.nD → PrngReg), Pre_AdaModRefIdeal m →
    θ_run (Cert.AdaModRefIdeal.defs (F := Ideal)) (onTc (τ := Cert.AdaModRefIdeal.τ) (Cert.AdaModRefIdeal.main (F := Ideal))) ⟨m, fun _ => 0, g⟩ (fun r => (∀ c : Dev Cert.AdaModRefIdeal.nD,
      r.2.mem ((c.tc : Thread Cert.AdaModRefIdeal.nD Cert.AdaModRefIdeal.τ).loc Cert.AdaModRefIdeal.main_arg0) = m ((c.tc : Thread Cert.AdaModRefIdeal.nD Cert.AdaModRefIdeal.τ).loc Cert.AdaModRefIdeal.main_arg0)
      ∧ r.2.mem ((c.tc : Thread Cert.AdaModRefIdeal.nD Cert.AdaModRefIdeal.τ).loc Cert.AdaModRefIdeal.main_arg1) = m ((c.tc : Thread Cert.AdaModRefIdeal.nD Cert.AdaModRefIdeal.τ).loc Cert.AdaModRefIdeal.main_arg1)
      ∧ r.2.mem ((c.tc : Thread Cert.AdaModRefIdeal.nD Cert.AdaModRefIdeal.τ).loc Cert.AdaModRefIdeal.main_arg2) = m ((c.tc : Thread Cert.AdaModRefIdeal.nD Cert.AdaModRefIdeal.τ).loc Cert.AdaModRefIdeal.main_arg2)
      ∧ r.2.mem ((c.tc : Thread Cert.AdaModRefIdeal.nD Cert.AdaModRefIdeal.τ).loc Cert.AdaModRefIdeal.main_arg3) = m ((c.tc : Thread Cert.AdaModRefIdeal.nD Cert.AdaModRefIdeal.τ).loc Cert.AdaModRefIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ r.2.sem = fun _ => 0)

def quiescent_PostIdeal_pre_all_finite [hPostIdeal : Cert.PostIdeal.Facts] [hPre_all_finite : Cert.Pre_all_finite.Facts] : Prop :=
  ∀ (m : (ℓ : Loc Cert.PostIdeal.nD Cert.PostIdeal.τ Cert.PostIdeal.sig) → Buf (Elt Ideal) ℓ) (g : Dev Cert.PostIdeal.nD → PrngReg), Pre_PostIdeal_all_finite m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6))
      ∧ r.2.sem = fun _ => 0)

def quiescent_PostRefIdeal_pre_all_finite [hPostRefIdeal : Cert.PostRefIdeal.Facts] [hPre_all_finite : Cert.Pre_all_finite.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_all_finite m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6))
      ∧ r.2.sem = fun _ => 0)

def quiescent_InProjSample [hInProjSample : Cert.InProjSample.Facts] : Prop :=
  ∀ (m : (ℓ : Loc Cert.InProjSample.nD Cert.InProjSample.τ Cert.InProjSample.sig) → Buf (Elt Bits) ℓ) (g : Dev Cert.InProjSample.nD → PrngReg), Pre_InProjSample m →
    θ_run (Cert.InProjSample.defs (F := Bits)) (onTc (τ := Cert.InProjSample.τ) (Cert.InProjSample.main (F := Bits))) ⟨m, fun _ => 0, g⟩ (fun r => (∀ c : Dev Cert.InProjSample.nD,
      r.2.mem ((c.tc : Thread Cert.InProjSample.nD Cert.InProjSample.τ).loc Cert.InProjSample.main_arg0) = m ((c.tc : Thread Cert.InProjSample.nD Cert.InProjSample.τ).loc Cert.InProjSample.main_arg0)
      ∧ r.2.mem ((c.tc : Thread Cert.InProjSample.nD Cert.InProjSample.τ).loc Cert.InProjSample.main_arg1) = m ((c.tc : Thread Cert.InProjSample.nD Cert.InProjSample.τ).loc Cert.InProjSample.main_arg1)
      ∧ r.2.mem ((c.tc : Thread Cert.InProjSample.nD Cert.InProjSample.τ).loc Cert.InProjSample.main_arg2) = m ((c.tc : Thread Cert.InProjSample.nD Cert.InProjSample.τ).loc Cert.InProjSample.main_arg2)
      ∧ r.2.mem ((c.tc : Thread Cert.InProjSample.nD Cert.InProjSample.τ).loc Cert.InProjSample.main_arg3) = m ((c.tc : Thread Cert.InProjSample.nD Cert.InProjSample.τ).loc Cert.InProjSample.main_arg3)
      ∧ r.2.mem ((c.tc : Thread Cert.InProjSample.nD Cert.InProjSample.τ).loc Cert.InProjSample.main_arg4) = m ((c.tc : Thread Cert.InProjSample.nD Cert.InProjSample.τ).loc Cert.InProjSample.main_arg4)
      ∧ r.2.mem ((c.tc : Thread Cert.InProjSample.nD Cert.InProjSample.τ).loc Cert.InProjSample.main_arg5) = m ((c.tc : Thread Cert.InProjSample.nD Cert.InProjSample.τ).loc Cert.InProjSample.main_arg5))
      ∧ r.2.sem = fun _ => 0)

def quiescent_InProjSampleIdeal [hInProjSampleIdeal : Cert.InProjSampleIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg), Pre_InProjSampleIdeal m →
    θ_run (Cert.InProjSampleIdeal.defs (F := Ideal)) (onTc (τ := Cert.InProjSampleIdeal.τ) (Cert.InProjSampleIdeal.main (F := Ideal))) ⟨m, fun _ => 0, g⟩ (fun r => (∀ c : Dev Cert.InProjSampleIdeal.nD,
      r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
      ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
      ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2)
      ∧ r.2.mem ((c.tc : Thread Cert.InProjSampleIdeal.nD Cert.InProjSampleIdeal.τ).loc Cert.InProjSampleIdeal.main_arg3) = m ((c.tc : Thread Cert.InProjSampleIdeal.nD Cert.InProjSampleIdeal.τ).loc Cert.InProjSampleIdeal.main_arg3)
      ∧ r.2.mem ((c.tc : Thread Cert.InProjSampleIdeal.nD Cert.InProjSampleIdeal.τ).loc Cert.InProjSampleIdeal.main_arg4) = m ((c.tc : Thread Cert.InProjSampleIdeal.nD Cert.InProjSampleIdeal.τ).loc Cert.InProjSampleIdeal.main_arg4)
      ∧ r.2.mem ((c.tc : Thread Cert.InProjSampleIdeal.nD Cert.InProjSampleIdeal.τ).loc Cert.InProjSampleIdeal.main_arg5) = m ((c.tc : Thread Cert.InProjSampleIdeal.nD Cert.InProjSampleIdeal.τ).loc Cert.InProjSampleIdeal.main_arg5))
      ∧ r.2.sem = fun _ => 0)

def quiescent_InProjSampleRefIdeal [hInProjSampleRefIdeal : Cert.InProjSampleRefIdeal.Facts] : Prop :=
  ∀ (m : (ℓ : Loc Cert.InProjSampleRefIdeal.nD Cert.InProjSampleRefIdeal.τ Cert.InProjSampleRefIdeal.sig) → Buf (Elt Ideal) ℓ) (g : Dev Cert.InProjSampleRefIdeal.nD → PrngReg), Pre_InProjSampleRefIdeal m →
    θ_run (Cert.InProjSampleRefIdeal.defs (F := Ideal)) (onTc (τ := Cert.InProjSampleRefIdeal.τ) (Cert.InProjSampleRefIdeal.main (F := Ideal))) ⟨m, fun _ => 0, g⟩ (fun r => (∀ c : Dev Cert.InProjSampleRefIdeal.nD,
      r.2.mem ((c.tc : Thread Cert.InProjSampleRefIdeal.nD Cert.InProjSampleRefIdeal.τ).loc Cert.InProjSampleRefIdeal.main_arg0) = m ((c.tc : Thread Cert.InProjSampleRefIdeal.nD Cert.InProjSampleRefIdeal.τ).loc Cert.InProjSampleRefIdeal.main_arg0)
      ∧ r.2.mem ((c.tc : Thread Cert.InProjSampleRefIdeal.nD Cert.InProjSampleRefIdeal.τ).loc Cert.InProjSampleRefIdeal.main_arg1) = m ((c.tc : Thread Cert.InProjSampleRefIdeal.nD Cert.InProjSampleRefIdeal.τ).loc Cert.InProjSampleRefIdeal.main_arg1)
      ∧ r.2.mem ((c.tc : Thread Cert.InProjSampleRefIdeal.nD Cert.InProjSampleRefIdeal.τ).loc Cert.InProjSampleRefIdeal.main_arg2) = m ((c.tc : Thread Cert.InProjSampleRefIdeal.nD Cert.InProjSampleRefIdeal.τ).loc Cert.InProjSampleRefIdeal.main_arg2)
      ∧ r.2.mem ((c.tc : Thread Cert.InProjSampleRefIdeal.nD Cert.InProjSampleRefIdeal.τ).loc Cert.InProjSampleRefIdeal.main_arg3) = m ((c.tc : Thread Cert.InProjSampleRefIdeal.nD Cert.InProjSampleRefIdeal.τ).loc Cert.InProjSampleRefIdeal.main_arg3)
      ∧ r.2.mem ((c.tc : Thread Cert.InProjSampleRefIdeal.nD Cert.InProjSampleRefIdeal.τ).loc Cert.InProjSampleRefIdeal.main_arg4) = m ((c.tc : Thread Cert.InProjSampleRefIdeal.nD Cert.InProjSampleRefIdeal.τ).loc Cert.InProjSampleRefIdeal.main_arg4)
      ∧ r.2.mem ((c.tc : Thread Cert.InProjSampleRefIdeal.nD Cert.InProjSampleRefIdeal.τ).loc Cert.InProjSampleRefIdeal.main_arg5) = m ((c.tc : Thread Cert.InProjSampleRefIdeal.nD Cert.InProjSampleRefIdeal.τ).loc Cert.InProjSampleRefIdeal.main_arg5))
      ∧ r.2.sem = fun _ => 0)

def quiescent_PostSample [hPostSample : Cert.PostSample.Facts] : Prop :=
  ∀ (m : (ℓ : Loc Cert.PostSample.nD Cert.PostSample.τ Cert.PostSample.sig) → Buf (Elt Bits) ℓ) (g : Dev Cert.PostSample.nD → PrngReg), Pre_PostSample m →
    θ_run (Cert.PostSample.defs (F := Bits)) (onTc (τ := Cert.PostSample.τ) (Cert.PostSample.main (F := Bits))) ⟨m, fun _ => 0, g⟩ (fun r => (∀ c : Dev Cert.PostSample.nD,
      r.2.mem ((c.tc : Thread Cert.PostSample.nD Cert.PostSample.τ).loc Cert.PostSample.main_arg0) = m ((c.tc : Thread Cert.PostSample.nD Cert.PostSample.τ).loc Cert.PostSample.main_arg0)
      ∧ r.2.mem ((c.tc : Thread Cert.PostSample.nD Cert.PostSample.τ).loc Cert.PostSample.main_arg1) = m ((c.tc : Thread Cert.PostSample.nD Cert.PostSample.τ).loc Cert.PostSample.main_arg1)
      ∧ r.2.mem ((c.tc : Thread Cert.PostSample.nD Cert.PostSample.τ).loc Cert.PostSample.main_arg2) = m ((c.tc : Thread Cert.PostSample.nD Cert.PostSample.τ).loc Cert.PostSample.main_arg2)
      ∧ r.2.mem ((c.tc : Thread Cert.PostSample.nD Cert.PostSample.τ).loc Cert.PostSample.main_arg3) = m ((c.tc : Thread Cert.PostSample.nD Cert.PostSample.τ).loc Cert.PostSample.main_arg3)
      ∧ r.2.mem ((c.tc : Thread Cert.PostSample.nD Cert.PostSample.τ).loc Cert.PostSample.main_arg4) = m ((c.tc : Thread Cert.PostSample.nD Cert.PostSample.τ).loc Cert.PostSample.main_arg4)
      ∧ r.2.mem ((c.tc : Thread Cert.PostSample.nD Cert.PostSample.τ).loc Cert.PostSample.main_arg5) = m ((c.tc : Thread Cert.PostSample.nD Cert.PostSample.τ).loc Cert.PostSample.main_arg5)
      ∧ r.2.mem ((c.tc : Thread Cert.PostSample.nD Cert.PostSample.τ).loc Cert.PostSample.main_arg6) = m ((c.tc : Thread Cert.PostSample.nD Cert.PostSample.τ).loc Cert.PostSample.main_arg6))
      ∧ r.2.sem = fun _ => 0)

def quiescent_PostSampleIdeal [hPostSampleIdeal : Cert.PostSampleIdeal.Facts] : Prop :=
  ∀ (m : (ℓ : Loc Cert.PostSampleIdeal.nD Cert.PostSampleIdeal.τ Cert.PostSampleIdeal.sig) → Buf (Elt Ideal) ℓ) (g : Dev Cert.PostSampleIdeal.nD → PrngReg), Pre_PostSampleIdeal m →
    θ_run (Cert.PostSampleIdeal.defs (F := Ideal)) (onTc (τ := Cert.PostSampleIdeal.τ) (Cert.PostSampleIdeal.main (F := Ideal))) ⟨m, fun _ => 0, g⟩ (fun r => (∀ c : Dev Cert.PostSampleIdeal.nD,
      r.2.mem ((c.tc : Thread Cert.PostSampleIdeal.nD Cert.PostSampleIdeal.τ).loc Cert.PostSampleIdeal.main_arg0) = m ((c.tc : Thread Cert.PostSampleIdeal.nD Cert.PostSampleIdeal.τ).loc Cert.PostSampleIdeal.main_arg0)
      ∧ r.2.mem ((c.tc : Thread Cert.PostSampleIdeal.nD Cert.PostSampleIdeal.τ).loc Cert.PostSampleIdeal.main_arg1) = m ((c.tc : Thread Cert.PostSampleIdeal.nD Cert.PostSampleIdeal.τ).loc Cert.PostSampleIdeal.main_arg1)
      ∧ r.2.mem ((c.tc : Thread Cert.PostSampleIdeal.nD Cert.PostSampleIdeal.τ).loc Cert.PostSampleIdeal.main_arg2) = m ((c.tc : Thread Cert.PostSampleIdeal.nD Cert.PostSampleIdeal.τ).loc Cert.PostSampleIdeal.main_arg2)
      ∧ r.2.mem ((c.tc : Thread Cert.PostSampleIdeal.nD Cert.PostSampleIdeal.τ).loc Cert.PostSampleIdeal.main_arg3) = m ((c.tc : Thread Cert.PostSampleIdeal.nD Cert.PostSampleIdeal.τ).loc Cert.PostSampleIdeal.main_arg3)
      ∧ r.2.mem ((c.tc : Thread Cert.PostSampleIdeal.nD Cert.PostSampleIdeal.τ).loc Cert.PostSampleIdeal.main_arg4) = m ((c.tc : Thread Cert.PostSampleIdeal.nD Cert.PostSampleIdeal.τ).loc Cert.PostSampleIdeal.main_arg4)
      ∧ r.2.mem ((c.tc : Thread Cert.PostSampleIdeal.nD Cert.PostSampleIdeal.τ).loc Cert.PostSampleIdeal.main_arg5) = m ((c.tc : Thread Cert.PostSampleIdeal.nD Cert.PostSampleIdeal.τ).loc Cert.PostSampleIdeal.main_arg5)
      ∧ r.2.mem ((c.tc : Thread Cert.PostSampleIdeal.nD Cert.PostSampleIdeal.τ).loc Cert.PostSampleIdeal.main_arg6) = m ((c.tc : Thread Cert.PostSampleIdeal.nD Cert.PostSampleIdeal.τ).loc Cert.PostSampleIdeal.main_arg6))
      ∧ r.2.sem = fun _ => 0)

def quiescent_PostSampleIdeal_pre_all_finite_sample [hPostSampleIdeal : Cert.PostSampleIdeal.Facts] [hPre_all_finite_sample : Cert.Pre_all_finite_sample.Facts] : Prop :=
  ∀ (m : (ℓ : Loc Cert.PostSampleIdeal.nD Cert.PostSampleIdeal.τ Cert.PostSampleIdeal.sig) → Buf (Elt Ideal) ℓ) (g : Dev Cert.PostSampleIdeal.nD → PrngReg), Pre_PostSampleIdeal_all_finite_sample m →
    θ_run (Cert.PostSampleIdeal.defs (F := Ideal)) (onTc (τ := Cert.PostSampleIdeal.τ) (Cert.PostSampleIdeal.main (F := Ideal))) ⟨m, fun _ => 0, g⟩ (fun r => (∀ c : Dev Cert.PostSampleIdeal.nD,
      r.2.mem ((c.tc : Thread Cert.PostSampleIdeal.nD Cert.PostSampleIdeal.τ).loc Cert.PostSampleIdeal.main_arg0) = m ((c.tc : Thread Cert.PostSampleIdeal.nD Cert.PostSampleIdeal.τ).loc Cert.PostSampleIdeal.main_arg0)
      ∧ r.2.mem ((c.tc : Thread Cert.PostSampleIdeal.nD Cert.PostSampleIdeal.τ).loc Cert.PostSampleIdeal.main_arg1) = m ((c.tc : Thread Cert.PostSampleIdeal.nD Cert.PostSampleIdeal.τ).loc Cert.PostSampleIdeal.main_arg1)
      ∧ r.2.mem ((c.tc : Thread Cert.PostSampleIdeal.nD Cert.PostSampleIdeal.τ).loc Cert.PostSampleIdeal.main_arg2) = m ((c.tc : Thread Cert.PostSampleIdeal.nD Cert.PostSampleIdeal.τ).loc Cert.PostSampleIdeal.main_arg2)
      ∧ r.2.mem ((c.tc : Thread Cert.PostSampleIdeal.nD Cert.PostSampleIdeal.τ).loc Cert.PostSampleIdeal.main_arg3) = m ((c.tc : Thread Cert.PostSampleIdeal.nD Cert.PostSampleIdeal.τ).loc Cert.PostSampleIdeal.main_arg3)
      ∧ r.2.mem ((c.tc : Thread Cert.PostSampleIdeal.nD Cert.PostSampleIdeal.τ).loc Cert.PostSampleIdeal.main_arg4) = m ((c.tc : Thread Cert.PostSampleIdeal.nD Cert.PostSampleIdeal.τ).loc Cert.PostSampleIdeal.main_arg4)
      ∧ r.2.mem ((c.tc : Thread Cert.PostSampleIdeal.nD Cert.PostSampleIdeal.τ).loc Cert.PostSampleIdeal.main_arg5) = m ((c.tc : Thread Cert.PostSampleIdeal.nD Cert.PostSampleIdeal.τ).loc Cert.PostSampleIdeal.main_arg5)
      ∧ r.2.mem ((c.tc : Thread Cert.PostSampleIdeal.nD Cert.PostSampleIdeal.τ).loc Cert.PostSampleIdeal.main_arg6) = m ((c.tc : Thread Cert.PostSampleIdeal.nD Cert.PostSampleIdeal.τ).loc Cert.PostSampleIdeal.main_arg6))
      ∧ r.2.sem = fun _ => 0)

def quiescent_PostSampleRefIdeal [hPostSampleRefIdeal : Cert.PostSampleRefIdeal.Facts] : Prop :=
  ∀ (m : (ℓ : Loc Cert.PostSampleRefIdeal.nD Cert.PostSampleRefIdeal.τ Cert.PostSampleRefIdeal.sig) → Buf (Elt Ideal) ℓ) (g : Dev Cert.PostSampleRefIdeal.nD → PrngReg), Pre_PostSampleRefIdeal m →
    θ_run (Cert.PostSampleRefIdeal.defs (F := Ideal)) (onTc (τ := Cert.PostSampleRefIdeal.τ) (Cert.PostSampleRefIdeal.main (F := Ideal))) ⟨m, fun _ => 0, g⟩ (fun r => (∀ c : Dev Cert.PostSampleRefIdeal.nD,
      r.2.mem ((c.tc : Thread Cert.PostSampleRefIdeal.nD Cert.PostSampleRefIdeal.τ).loc Cert.PostSampleRefIdeal.main_arg0) = m ((c.tc : Thread Cert.PostSampleRefIdeal.nD Cert.PostSampleRefIdeal.τ).loc Cert.PostSampleRefIdeal.main_arg0)
      ∧ r.2.mem ((c.tc : Thread Cert.PostSampleRefIdeal.nD Cert.PostSampleRefIdeal.τ).loc Cert.PostSampleRefIdeal.main_arg1) = m ((c.tc : Thread Cert.PostSampleRefIdeal.nD Cert.PostSampleRefIdeal.τ).loc Cert.PostSampleRefIdeal.main_arg1)
      ∧ r.2.mem ((c.tc : Thread Cert.PostSampleRefIdeal.nD Cert.PostSampleRefIdeal.τ).loc Cert.PostSampleRefIdeal.main_arg2) = m ((c.tc : Thread Cert.PostSampleRefIdeal.nD Cert.PostSampleRefIdeal.τ).loc Cert.PostSampleRefIdeal.main_arg2)
      ∧ r.2.mem ((c.tc : Thread Cert.PostSampleRefIdeal.nD Cert.PostSampleRefIdeal.τ).loc Cert.PostSampleRefIdeal.main_arg3) = m ((c.tc : Thread Cert.PostSampleRefIdeal.nD Cert.PostSampleRefIdeal.τ).loc Cert.PostSampleRefIdeal.main_arg3)
      ∧ r.2.mem ((c.tc : Thread Cert.PostSampleRefIdeal.nD Cert.PostSampleRefIdeal.τ).loc Cert.PostSampleRefIdeal.main_arg4) = m ((c.tc : Thread Cert.PostSampleRefIdeal.nD Cert.PostSampleRefIdeal.τ).loc Cert.PostSampleRefIdeal.main_arg4)
      ∧ r.2.mem ((c.tc : Thread Cert.PostSampleRefIdeal.nD Cert.PostSampleRefIdeal.τ).loc Cert.PostSampleRefIdeal.main_arg5) = m ((c.tc : Thread Cert.PostSampleRefIdeal.nD Cert.PostSampleRefIdeal.τ).loc Cert.PostSampleRefIdeal.main_arg5)
      ∧ r.2.mem ((c.tc : Thread Cert.PostSampleRefIdeal.nD Cert.PostSampleRefIdeal.τ).loc Cert.PostSampleRefIdeal.main_arg6) = m ((c.tc : Thread Cert.PostSampleRefIdeal.nD Cert.PostSampleRefIdeal.τ).loc Cert.PostSampleRefIdeal.main_arg6))
      ∧ r.2.sem = fun _ => 0)

def quiescent_PostSampleRefIdeal_pre_all_finite_sample [hPostSampleRefIdeal : Cert.PostSampleRefIdeal.Facts] [hPre_all_finite_sample : Cert.Pre_all_finite_sample.Facts] : Prop :=
  ∀ (m : (ℓ : Loc Cert.PostSampleRefIdeal.nD Cert.PostSampleRefIdeal.τ Cert.PostSampleRefIdeal.sig) → Buf (Elt Ideal) ℓ) (g : Dev Cert.PostSampleRefIdeal.nD → PrngReg), Pre_PostSampleRefIdeal_all_finite_sample m →
    θ_run (Cert.PostSampleRefIdeal.defs (F := Ideal)) (onTc (τ := Cert.PostSampleRefIdeal.τ) (Cert.PostSampleRefIdeal.main (F := Ideal))) ⟨m, fun _ => 0, g⟩ (fun r => (∀ c : Dev Cert.PostSampleRefIdeal.nD,
      r.2.mem ((c.tc : Thread Cert.PostSampleRefIdeal.nD Cert.PostSampleRefIdeal.τ).loc Cert.PostSampleRefIdeal.main_arg0) = m ((c.tc : Thread Cert.PostSampleRefIdeal.nD Cert.PostSampleRefIdeal.τ).loc Cert.PostSampleRefIdeal.main_arg0)
      ∧ r.2.mem ((c.tc : Thread Cert.PostSampleRefIdeal.nD Cert.PostSampleRefIdeal.τ).loc Cert.PostSampleRefIdeal.main_arg1) = m ((c.tc : Thread Cert.PostSampleRefIdeal.nD Cert.PostSampleRefIdeal.τ).loc Cert.PostSampleRefIdeal.main_arg1)
      ∧ r.2.mem ((c.tc : Thread Cert.PostSampleRefIdeal.nD Cert.PostSampleRefIdeal.τ).loc Cert.PostSampleRefIdeal.main_arg2) = m ((c.tc : Thread Cert.PostSampleRefIdeal.nD Cert.PostSampleRefIdeal.τ).loc Cert.PostSampleRefIdeal.main_arg2)
      ∧ r.2.mem ((c.tc : Thread Cert.PostSampleRefIdeal.nD Cert.PostSampleRefIdeal.τ).loc Cert.PostSampleRefIdeal.main_arg3) = m ((c.tc : Thread Cert.PostSampleRefIdeal.nD Cert.PostSampleRefIdeal.τ).loc Cert.PostSampleRefIdeal.main_arg3)
      ∧ r.2.mem ((c.tc : Thread Cert.PostSampleRefIdeal.nD Cert.PostSampleRefIdeal.τ).loc Cert.PostSampleRefIdeal.main_arg4) = m ((c.tc : Thread Cert.PostSampleRefIdeal.nD Cert.PostSampleRefIdeal.τ).loc Cert.PostSampleRefIdeal.main_arg4)
      ∧ r.2.mem ((c.tc : Thread Cert.PostSampleRefIdeal.nD Cert.PostSampleRefIdeal.τ).loc Cert.PostSampleRefIdeal.main_arg5) = m ((c.tc : Thread Cert.PostSampleRefIdeal.nD Cert.PostSampleRefIdeal.τ).loc Cert.PostSampleRefIdeal.main_arg5)
      ∧ r.2.mem ((c.tc : Thread Cert.PostSampleRefIdeal.nD Cert.PostSampleRefIdeal.τ).loc Cert.PostSampleRefIdeal.main_arg6) = m ((c.tc : Thread Cert.PostSampleRefIdeal.nD Cert.PostSampleRefIdeal.τ).loc Cert.PostSampleRefIdeal.main_arg6))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v58) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v5_0)) (v1 : (c : Dev Cert.InProjIdeal.nD) → Buf (Elt Ideal) ((c.tc : Thread Cert.InProjIdeal.nD Cert.InProjIdeal.τ).loc Cert.InProjIdeal.main_v5_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5_0) = v0 c
          ∧ r.2.mem ((c.tc : Thread Cert.InProjIdeal.nD Cert.InProjIdeal.τ).loc Cert.InProjIdeal.main_v5_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v29) = v0 c
          ∧ r.2.mem ((c.tc : Thread Cert.InProjRefIdeal.nD Cert.InProjRefIdeal.τ).loc Cert.InProjRefIdeal.main_v30) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_AdaMod_AdaModIdeal : Prop :=
  True

def algebraic_AdaModIdeal_AdaModRefIdeal [hAdaModIdeal : Cert.AdaModIdeal.Facts] [hAdaModRefIdeal : Cert.AdaModRefIdeal.Facts] : Prop :=
  ∀ (m : (ℓ : Loc Cert.AdaModIdeal.nD Cert.AdaModIdeal.τ Cert.AdaModIdeal.sig) → Buf (Elt Ideal) ℓ) (g : Dev Cert.AdaModIdeal.nD → PrngReg)
    (m' : (ℓ : Loc Cert.AdaModRefIdeal.nD Cert.AdaModRefIdeal.τ Cert.AdaModRefIdeal.sig) → Buf (Elt Ideal) ℓ) (g' : Dev Cert.AdaModRefIdeal.nD → PrngReg), Pre_AdaModIdeal m →
    (∀ c : Dev Cert.AdaModIdeal.nD,
      m' ((c.tc : Thread Cert.AdaModRefIdeal.nD Cert.AdaModRefIdeal.τ).loc Cert.AdaModRefIdeal.main_arg0) = m ((c.tc : Thread Cert.AdaModIdeal.nD Cert.AdaModIdeal.τ).loc Cert.AdaModIdeal.main_arg0)
      ∧ m' ((c.tc : Thread Cert.AdaModRefIdeal.nD Cert.AdaModRefIdeal.τ).loc Cert.AdaModRefIdeal.main_arg1) = m ((c.tc : Thread Cert.AdaModIdeal.nD Cert.AdaModIdeal.τ).loc Cert.AdaModIdeal.main_arg1)
      ∧ m' ((c.tc : Thread Cert.AdaModRefIdeal.nD Cert.AdaModRefIdeal.τ).loc Cert.AdaModRefIdeal.main_arg2) = m ((c.tc : Thread Cert.AdaModIdeal.nD Cert.AdaModIdeal.τ).loc Cert.AdaModIdeal.main_arg2)
      ∧ m' ((c.tc : Thread Cert.AdaModRefIdeal.nD Cert.AdaModRefIdeal.τ).loc Cert.AdaModRefIdeal.main_arg3) = m ((c.tc : Thread Cert.AdaModIdeal.nD Cert.AdaModIdeal.τ).loc Cert.AdaModIdeal.main_arg3)) →
    ∃ (v0 : (c : Dev Cert.AdaModIdeal.nD) → Buf (Elt Ideal) ((c.tc : Thread Cert.AdaModIdeal.nD Cert.AdaModIdeal.τ).loc Cert.AdaModIdeal.main_v2)),
      θ_run (Cert.AdaModIdeal.defs (F := Ideal)) (onTc (τ := Cert.AdaModIdeal.τ) (Cert.AdaModIdeal.main (F := Ideal))) ⟨m, fun _ => 0, g⟩ (fun r => ∀ c : Dev Cert.AdaModIdeal.nD,
          r.2.mem ((c.tc : Thread Cert.AdaModIdeal.nD Cert.AdaModIdeal.τ).loc Cert.AdaModIdeal.main_v2) = v0 c
          ∧ r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
          ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
          ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2)
          ∧ r.2.mem ((c.tc : Thread Cert.AdaModIdeal.nD Cert.AdaModIdeal.τ).loc Cert.AdaModIdeal.main_arg3) = m ((c.tc : Thread Cert.AdaModIdeal.nD Cert.AdaModIdeal.τ).loc Cert.AdaModIdeal.main_arg3))
      ∧ θ_run (Cert.AdaModRefIdeal.defs (F := Ideal)) (onTc (τ := Cert.AdaModRefIdeal.τ) (Cert.AdaModRefIdeal.main (F := Ideal))) ⟨m', fun _ => 0, g'⟩ (fun r => ∀ c : Dev Cert.AdaModRefIdeal.nD,
          r.2.mem ((c.tc : Thread Cert.AdaModRefIdeal.nD Cert.AdaModRefIdeal.τ).loc Cert.AdaModRefIdeal.main_v21) = v0 c
          ∧ r.2.mem ((c.tc : Thread Cert.AdaModRefIdeal.nD Cert.AdaModRefIdeal.τ).loc Cert.AdaModRefIdeal.main_arg0) = m' ((c.tc : Thread Cert.AdaModRefIdeal.nD Cert.AdaModRefIdeal.τ).loc Cert.AdaModRefIdeal.main_arg0)
          ∧ r.2.mem ((c.tc : Thread Cert.AdaModRefIdeal.nD Cert.AdaModRefIdeal.τ).loc Cert.AdaModRefIdeal.main_arg1) = m' ((c.tc : Thread Cert.AdaModRefIdeal.nD Cert.AdaModRefIdeal.τ).loc Cert.AdaModRefIdeal.main_arg1)
          ∧ r.2.mem ((c.tc : Thread Cert.AdaModRefIdeal.nD Cert.AdaModRefIdeal.τ).loc Cert.AdaModRefIdeal.main_arg2) = m' ((c.tc : Thread Cert.AdaModRefIdeal.nD Cert.AdaModRefIdeal.τ).loc Cert.AdaModRefIdeal.main_arg2)
          ∧ r.2.mem ((c.tc : Thread Cert.AdaModRefIdeal.nD Cert.AdaModRefIdeal.τ).loc Cert.AdaModRefIdeal.main_arg3) = m' ((c.tc : Thread Cert.AdaModRefIdeal.nD Cert.AdaModRefIdeal.τ).loc Cert.AdaModRefIdeal.main_arg3))

def preserves_Post_PostIdeal : Prop :=
  True

def algebraic_PostIdeal_PostRefIdeal_pre_all_finite [hPostIdeal : Cert.PostIdeal.Facts] [hPostRefIdeal : Cert.PostRefIdeal.Facts] [hPre_all_finite : Cert.Pre_all_finite.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_all_finite m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)) →
    ∃ (v0 : (c : Dev Cert.PostIdeal.nD) → Buf (Elt Ideal) ((c.tc : Thread Cert.PostIdeal.nD Cert.PostIdeal.τ).loc Cert.PostIdeal.main_v1_0)) (v1 : (c : Dev Cert.PostIdeal.nD) → Buf (Elt Ideal) ((c.tc : Thread Cert.PostIdeal.nD Cert.PostIdeal.τ).loc Cert.PostIdeal.main_v1_1)) (v2 : (c : Dev Cert.PostIdeal.nD) → Buf (Elt Ideal) ((c.tc : Thread Cert.PostIdeal.nD Cert.PostIdeal.τ).loc Cert.PostIdeal.main_v1_2)) (v3 : (c : Dev Cert.PostIdeal.nD) → Buf (Elt Ideal) ((c.tc : Thread Cert.PostIdeal.nD Cert.PostIdeal.τ).loc Cert.PostIdeal.main_v1_3)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v1_0) = v0 c
          ∧ r.2.mem ((c.tc : Thread Cert.PostIdeal.nD Cert.PostIdeal.τ).loc Cert.PostIdeal.main_v1_1) = v1 c
          ∧ r.2.mem ((c.tc : Thread Cert.PostIdeal.nD Cert.PostIdeal.τ).loc Cert.PostIdeal.main_v1_2) = v2 c
          ∧ r.2.mem ((c.tc : Thread Cert.PostIdeal.nD Cert.PostIdeal.τ).loc Cert.PostIdeal.main_v1_3) = v3 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v33) = v0 c
          ∧ r.2.mem ((c.tc : Thread Cert.PostRefIdeal.nD Cert.PostRefIdeal.τ).loc Cert.PostRefIdeal.main_v29) = v1 c
          ∧ r.2.mem ((c.tc : Thread Cert.PostRefIdeal.nD Cert.PostRefIdeal.τ).loc Cert.PostRefIdeal.main_indices) = v2 c
          ∧ r.2.mem ((c.tc : Thread Cert.PostRefIdeal.nD Cert.PostRefIdeal.τ).loc Cert.PostRefIdeal.main_v44) = v3 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6))

def preserves_InProjSample_InProjSampleIdeal : Prop :=
  True

def algebraic_InProjSampleIdeal_InProjSampleRefIdeal [hInProjSampleIdeal : Cert.InProjSampleIdeal.Facts] [hInProjSampleRefIdeal : Cert.InProjSampleRefIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg)
    (m' : (ℓ : Loc Cert.InProjSampleRefIdeal.nD Cert.InProjSampleRefIdeal.τ Cert.InProjSampleRefIdeal.sig) → Buf (Elt Ideal) ℓ) (g' : Dev Cert.InProjSampleRefIdeal.nD → PrngReg), Pre_InProjSampleIdeal m →
    (∀ c : Dev Cert.InProjSampleIdeal.nD,
      m' ((c.tc : Thread Cert.InProjSampleRefIdeal.nD Cert.InProjSampleRefIdeal.τ).loc Cert.InProjSampleRefIdeal.main_arg0) = m ((c.tc : Thread Cert.InProjSampleIdeal.nD Cert.InProjSampleIdeal.τ).loc Cert.InProjSampleIdeal.main_arg0)
      ∧ m' ((c.tc : Thread Cert.InProjSampleRefIdeal.nD Cert.InProjSampleRefIdeal.τ).loc Cert.InProjSampleRefIdeal.main_arg1) = m ((c.tc : Thread Cert.InProjSampleIdeal.nD Cert.InProjSampleIdeal.τ).loc Cert.InProjSampleIdeal.main_arg1)
      ∧ m' ((c.tc : Thread Cert.InProjSampleRefIdeal.nD Cert.InProjSampleRefIdeal.τ).loc Cert.InProjSampleRefIdeal.main_arg2) = m ((c.tc : Thread Cert.InProjSampleIdeal.nD Cert.InProjSampleIdeal.τ).loc Cert.InProjSampleIdeal.main_arg2)
      ∧ m' ((c.tc : Thread Cert.InProjSampleRefIdeal.nD Cert.InProjSampleRefIdeal.τ).loc Cert.InProjSampleRefIdeal.main_arg3) = m ((c.tc : Thread Cert.InProjSampleIdeal.nD Cert.InProjSampleIdeal.τ).loc Cert.InProjSampleIdeal.main_arg3)
      ∧ m' ((c.tc : Thread Cert.InProjSampleRefIdeal.nD Cert.InProjSampleRefIdeal.τ).loc Cert.InProjSampleRefIdeal.main_arg4) = m ((c.tc : Thread Cert.InProjSampleIdeal.nD Cert.InProjSampleIdeal.τ).loc Cert.InProjSampleIdeal.main_arg4)
      ∧ m' ((c.tc : Thread Cert.InProjSampleRefIdeal.nD Cert.InProjSampleRefIdeal.τ).loc Cert.InProjSampleRefIdeal.main_arg5) = m ((c.tc : Thread Cert.InProjSampleIdeal.nD Cert.InProjSampleIdeal.τ).loc Cert.InProjSampleIdeal.main_arg5)) →
    ∃ (v0 : (c : Dev Cert.InProjSampleIdeal.nD) → Buf (Elt Ideal) ((c.tc : Thread Cert.InProjSampleIdeal.nD Cert.InProjSampleIdeal.τ).loc Cert.InProjSampleIdeal.main_v5_0)) (v1 : (c : Dev Cert.InProjSampleIdeal.nD) → Buf (Elt Ideal) ((c.tc : Thread Cert.InProjSampleIdeal.nD Cert.InProjSampleIdeal.τ).loc Cert.InProjSampleIdeal.main_v5_1)),
      θ_run (Cert.InProjSampleIdeal.defs (F := Ideal)) (onTc (τ := Cert.InProjSampleIdeal.τ) (Cert.InProjSampleIdeal.main (F := Ideal))) ⟨m, fun _ => 0, g⟩ (fun r => ∀ c : Dev Cert.InProjSampleIdeal.nD,
          r.2.mem ((c.tc : Thread Cert.InProjSampleIdeal.nD Cert.InProjSampleIdeal.τ).loc Cert.InProjSampleIdeal.main_v5_0) = v0 c
          ∧ r.2.mem ((c.tc : Thread Cert.InProjSampleIdeal.nD Cert.InProjSampleIdeal.τ).loc Cert.InProjSampleIdeal.main_v5_1) = v1 c
          ∧ r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
          ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
          ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2)
          ∧ r.2.mem ((c.tc : Thread Cert.InProjSampleIdeal.nD Cert.InProjSampleIdeal.τ).loc Cert.InProjSampleIdeal.main_arg3) = m ((c.tc : Thread Cert.InProjSampleIdeal.nD Cert.InProjSampleIdeal.τ).loc Cert.InProjSampleIdeal.main_arg3)
          ∧ r.2.mem ((c.tc : Thread Cert.InProjSampleIdeal.nD Cert.InProjSampleIdeal.τ).loc Cert.InProjSampleIdeal.main_arg4) = m ((c.tc : Thread Cert.InProjSampleIdeal.nD Cert.InProjSampleIdeal.τ).loc Cert.InProjSampleIdeal.main_arg4)
          ∧ r.2.mem ((c.tc : Thread Cert.InProjSampleIdeal.nD Cert.InProjSampleIdeal.τ).loc Cert.InProjSampleIdeal.main_arg5) = m ((c.tc : Thread Cert.InProjSampleIdeal.nD Cert.InProjSampleIdeal.τ).loc Cert.InProjSampleIdeal.main_arg5))
      ∧ θ_run (Cert.InProjSampleRefIdeal.defs (F := Ideal)) (onTc (τ := Cert.InProjSampleRefIdeal.τ) (Cert.InProjSampleRefIdeal.main (F := Ideal))) ⟨m', fun _ => 0, g'⟩ (fun r => ∀ c : Dev Cert.InProjSampleRefIdeal.nD,
          r.2.mem ((c.tc : Thread Cert.InProjSampleRefIdeal.nD Cert.InProjSampleRefIdeal.τ).loc Cert.InProjSampleRefIdeal.main_v28) = v0 c
          ∧ r.2.mem ((c.tc : Thread Cert.InProjSampleRefIdeal.nD Cert.InProjSampleRefIdeal.τ).loc Cert.InProjSampleRefIdeal.main_v29) = v1 c
          ∧ r.2.mem ((c.tc : Thread Cert.InProjSampleRefIdeal.nD Cert.InProjSampleRefIdeal.τ).loc Cert.InProjSampleRefIdeal.main_arg0) = m' ((c.tc : Thread Cert.InProjSampleRefIdeal.nD Cert.InProjSampleRefIdeal.τ).loc Cert.InProjSampleRefIdeal.main_arg0)
          ∧ r.2.mem ((c.tc : Thread Cert.InProjSampleRefIdeal.nD Cert.InProjSampleRefIdeal.τ).loc Cert.InProjSampleRefIdeal.main_arg1) = m' ((c.tc : Thread Cert.InProjSampleRefIdeal.nD Cert.InProjSampleRefIdeal.τ).loc Cert.InProjSampleRefIdeal.main_arg1)
          ∧ r.2.mem ((c.tc : Thread Cert.InProjSampleRefIdeal.nD Cert.InProjSampleRefIdeal.τ).loc Cert.InProjSampleRefIdeal.main_arg2) = m' ((c.tc : Thread Cert.InProjSampleRefIdeal.nD Cert.InProjSampleRefIdeal.τ).loc Cert.InProjSampleRefIdeal.main_arg2)
          ∧ r.2.mem ((c.tc : Thread Cert.InProjSampleRefIdeal.nD Cert.InProjSampleRefIdeal.τ).loc Cert.InProjSampleRefIdeal.main_arg3) = m' ((c.tc : Thread Cert.InProjSampleRefIdeal.nD Cert.InProjSampleRefIdeal.τ).loc Cert.InProjSampleRefIdeal.main_arg3)
          ∧ r.2.mem ((c.tc : Thread Cert.InProjSampleRefIdeal.nD Cert.InProjSampleRefIdeal.τ).loc Cert.InProjSampleRefIdeal.main_arg4) = m' ((c.tc : Thread Cert.InProjSampleRefIdeal.nD Cert.InProjSampleRefIdeal.τ).loc Cert.InProjSampleRefIdeal.main_arg4)
          ∧ r.2.mem ((c.tc : Thread Cert.InProjSampleRefIdeal.nD Cert.InProjSampleRefIdeal.τ).loc Cert.InProjSampleRefIdeal.main_arg5) = m' ((c.tc : Thread Cert.InProjSampleRefIdeal.nD Cert.InProjSampleRefIdeal.τ).loc Cert.InProjSampleRefIdeal.main_arg5))

def preserves_PostSample_PostSampleIdeal : Prop :=
  True

def algebraic_PostSampleIdeal_PostSampleRefIdeal_pre_all_finite_sample [hPostSampleIdeal : Cert.PostSampleIdeal.Facts] [hPostSampleRefIdeal : Cert.PostSampleRefIdeal.Facts] [hPre_all_finite_sample : Cert.Pre_all_finite_sample.Facts] : Prop :=
  ∀ (m : (ℓ : Loc Cert.PostSampleIdeal.nD Cert.PostSampleIdeal.τ Cert.PostSampleIdeal.sig) → Buf (Elt Ideal) ℓ) (g : Dev Cert.PostSampleIdeal.nD → PrngReg)
    (m' : (ℓ : Loc Cert.PostSampleRefIdeal.nD Cert.PostSampleRefIdeal.τ Cert.PostSampleRefIdeal.sig) → Buf (Elt Ideal) ℓ) (g' : Dev Cert.PostSampleRefIdeal.nD → PrngReg), Pre_PostSampleIdeal_all_finite_sample m →
    (∀ c : Dev Cert.PostSampleIdeal.nD,
      m' ((c.tc : Thread Cert.PostSampleRefIdeal.nD Cert.PostSampleRefIdeal.τ).loc Cert.PostSampleRefIdeal.main_arg0) = m ((c.tc : Thread Cert.PostSampleIdeal.nD Cert.PostSampleIdeal.τ).loc Cert.PostSampleIdeal.main_arg0)
      ∧ m' ((c.tc : Thread Cert.PostSampleRefIdeal.nD Cert.PostSampleRefIdeal.τ).loc Cert.PostSampleRefIdeal.main_arg1) = m ((c.tc : Thread Cert.PostSampleIdeal.nD Cert.PostSampleIdeal.τ).loc Cert.PostSampleIdeal.main_arg1)
      ∧ m' ((c.tc : Thread Cert.PostSampleRefIdeal.nD Cert.PostSampleRefIdeal.τ).loc Cert.PostSampleRefIdeal.main_arg2) = m ((c.tc : Thread Cert.PostSampleIdeal.nD Cert.PostSampleIdeal.τ).loc Cert.PostSampleIdeal.main_arg2)
      ∧ m' ((c.tc : Thread Cert.PostSampleRefIdeal.nD Cert.PostSampleRefIdeal.τ).loc Cert.PostSampleRefIdeal.main_arg3) = m ((c.tc : Thread Cert.PostSampleIdeal.nD Cert.PostSampleIdeal.τ).loc Cert.PostSampleIdeal.main_arg3)
      ∧ m' ((c.tc : Thread Cert.PostSampleRefIdeal.nD Cert.PostSampleRefIdeal.τ).loc Cert.PostSampleRefIdeal.main_arg4) = m ((c.tc : Thread Cert.PostSampleIdeal.nD Cert.PostSampleIdeal.τ).loc Cert.PostSampleIdeal.main_arg4)
      ∧ m' ((c.tc : Thread Cert.PostSampleRefIdeal.nD Cert.PostSampleRefIdeal.τ).loc Cert.PostSampleRefIdeal.main_arg5) = m ((c.tc : Thread Cert.PostSampleIdeal.nD Cert.PostSampleIdeal.τ).loc Cert.PostSampleIdeal.main_arg5)
      ∧ m' ((c.tc : Thread Cert.PostSampleRefIdeal.nD Cert.PostSampleRefIdeal.τ).loc Cert.PostSampleRefIdeal.main_arg6) = m ((c.tc : Thread Cert.PostSampleIdeal.nD Cert.PostSampleIdeal.τ).loc Cert.PostSampleIdeal.main_arg6)) →
    ∃ (v0 : (c : Dev Cert.PostSampleIdeal.nD) → Buf (Elt Ideal) ((c.tc : Thread Cert.PostSampleIdeal.nD Cert.PostSampleIdeal.τ).loc Cert.PostSampleIdeal.main_v1_0)) (v1 : (c : Dev Cert.PostSampleIdeal.nD) → Buf (Elt Ideal) ((c.tc : Thread Cert.PostSampleIdeal.nD Cert.PostSampleIdeal.τ).loc Cert.PostSampleIdeal.main_v1_1)) (v2 : (c : Dev Cert.PostSampleIdeal.nD) → Buf (Elt Ideal) ((c.tc : Thread Cert.PostSampleIdeal.nD Cert.PostSampleIdeal.τ).loc Cert.PostSampleIdeal.main_v1_2)) (v3 : (c : Dev Cert.PostSampleIdeal.nD) → Buf (Elt Ideal) ((c.tc : Thread Cert.PostSampleIdeal.nD Cert.PostSampleIdeal.τ).loc Cert.PostSampleIdeal.main_v1_3)),
      θ_run (Cert.PostSampleIdeal.defs (F := Ideal)) (onTc (τ := Cert.PostSampleIdeal.τ) (Cert.PostSampleIdeal.main (F := Ideal))) ⟨m, fun _ => 0, g⟩ (fun r => ∀ c : Dev Cert.PostSampleIdeal.nD,
          r.2.mem ((c.tc : Thread Cert.PostSampleIdeal.nD Cert.PostSampleIdeal.τ).loc Cert.PostSampleIdeal.main_v1_0) = v0 c
          ∧ r.2.mem ((c.tc : Thread Cert.PostSampleIdeal.nD Cert.PostSampleIdeal.τ).loc Cert.PostSampleIdeal.main_v1_1) = v1 c
          ∧ r.2.mem ((c.tc : Thread Cert.PostSampleIdeal.nD Cert.PostSampleIdeal.τ).loc Cert.PostSampleIdeal.main_v1_2) = v2 c
          ∧ r.2.mem ((c.tc : Thread Cert.PostSampleIdeal.nD Cert.PostSampleIdeal.τ).loc Cert.PostSampleIdeal.main_v1_3) = v3 c
          ∧ r.2.mem ((c.tc : Thread Cert.PostSampleIdeal.nD Cert.PostSampleIdeal.τ).loc Cert.PostSampleIdeal.main_arg0) = m ((c.tc : Thread Cert.PostSampleIdeal.nD Cert.PostSampleIdeal.τ).loc Cert.PostSampleIdeal.main_arg0)
          ∧ r.2.mem ((c.tc : Thread Cert.PostSampleIdeal.nD Cert.PostSampleIdeal.τ).loc Cert.PostSampleIdeal.main_arg1) = m ((c.tc : Thread Cert.PostSampleIdeal.nD Cert.PostSampleIdeal.τ).loc Cert.PostSampleIdeal.main_arg1)
          ∧ r.2.mem ((c.tc : Thread Cert.PostSampleIdeal.nD Cert.PostSampleIdeal.τ).loc Cert.PostSampleIdeal.main_arg2) = m ((c.tc : Thread Cert.PostSampleIdeal.nD Cert.PostSampleIdeal.τ).loc Cert.PostSampleIdeal.main_arg2)
          ∧ r.2.mem ((c.tc : Thread Cert.PostSampleIdeal.nD Cert.PostSampleIdeal.τ).loc Cert.PostSampleIdeal.main_arg3) = m ((c.tc : Thread Cert.PostSampleIdeal.nD Cert.PostSampleIdeal.τ).loc Cert.PostSampleIdeal.main_arg3)
          ∧ r.2.mem ((c.tc : Thread Cert.PostSampleIdeal.nD Cert.PostSampleIdeal.τ).loc Cert.PostSampleIdeal.main_arg4) = m ((c.tc : Thread Cert.PostSampleIdeal.nD Cert.PostSampleIdeal.τ).loc Cert.PostSampleIdeal.main_arg4)
          ∧ r.2.mem ((c.tc : Thread Cert.PostSampleIdeal.nD Cert.PostSampleIdeal.τ).loc Cert.PostSampleIdeal.main_arg5) = m ((c.tc : Thread Cert.PostSampleIdeal.nD Cert.PostSampleIdeal.τ).loc Cert.PostSampleIdeal.main_arg5)
          ∧ r.2.mem ((c.tc : Thread Cert.PostSampleIdeal.nD Cert.PostSampleIdeal.τ).loc Cert.PostSampleIdeal.main_arg6) = m ((c.tc : Thread Cert.PostSampleIdeal.nD Cert.PostSampleIdeal.τ).loc Cert.PostSampleIdeal.main_arg6))
      ∧ θ_run (Cert.PostSampleRefIdeal.defs (F := Ideal)) (onTc (τ := Cert.PostSampleRefIdeal.τ) (Cert.PostSampleRefIdeal.main (F := Ideal))) ⟨m', fun _ => 0, g'⟩ (fun r => ∀ c : Dev Cert.PostSampleRefIdeal.nD,
          r.2.mem ((c.tc : Thread Cert.PostSampleRefIdeal.nD Cert.PostSampleRefIdeal.τ).loc Cert.PostSampleRefIdeal.main_v31) = v0 c
          ∧ r.2.mem ((c.tc : Thread Cert.PostSampleRefIdeal.nD Cert.PostSampleRefIdeal.τ).loc Cert.PostSampleRefIdeal.main_v27) = v1 c
          ∧ r.2.mem ((c.tc : Thread Cert.PostSampleRefIdeal.nD Cert.PostSampleRefIdeal.τ).loc Cert.PostSampleRefIdeal.main_indices) = v2 c
          ∧ r.2.mem ((c.tc : Thread Cert.PostSampleRefIdeal.nD Cert.PostSampleRefIdeal.τ).loc Cert.PostSampleRefIdeal.main_v42) = v3 c
          ∧ r.2.mem ((c.tc : Thread Cert.PostSampleRefIdeal.nD Cert.PostSampleRefIdeal.τ).loc Cert.PostSampleRefIdeal.main_arg0) = m' ((c.tc : Thread Cert.PostSampleRefIdeal.nD Cert.PostSampleRefIdeal.τ).loc Cert.PostSampleRefIdeal.main_arg0)
          ∧ r.2.mem ((c.tc : Thread Cert.PostSampleRefIdeal.nD Cert.PostSampleRefIdeal.τ).loc Cert.PostSampleRefIdeal.main_arg1) = m' ((c.tc : Thread Cert.PostSampleRefIdeal.nD Cert.PostSampleRefIdeal.τ).loc Cert.PostSampleRefIdeal.main_arg1)
          ∧ r.2.mem ((c.tc : Thread Cert.PostSampleRefIdeal.nD Cert.PostSampleRefIdeal.τ).loc Cert.PostSampleRefIdeal.main_arg2) = m' ((c.tc : Thread Cert.PostSampleRefIdeal.nD Cert.PostSampleRefIdeal.τ).loc Cert.PostSampleRefIdeal.main_arg2)
          ∧ r.2.mem ((c.tc : Thread Cert.PostSampleRefIdeal.nD Cert.PostSampleRefIdeal.τ).loc Cert.PostSampleRefIdeal.main_arg3) = m' ((c.tc : Thread Cert.PostSampleRefIdeal.nD Cert.PostSampleRefIdeal.τ).loc Cert.PostSampleRefIdeal.main_arg3)
          ∧ r.2.mem ((c.tc : Thread Cert.PostSampleRefIdeal.nD Cert.PostSampleRefIdeal.τ).loc Cert.PostSampleRefIdeal.main_arg4) = m' ((c.tc : Thread Cert.PostSampleRefIdeal.nD Cert.PostSampleRefIdeal.τ).loc Cert.PostSampleRefIdeal.main_arg4)
          ∧ r.2.mem ((c.tc : Thread Cert.PostSampleRefIdeal.nD Cert.PostSampleRefIdeal.τ).loc Cert.PostSampleRefIdeal.main_arg5) = m' ((c.tc : Thread Cert.PostSampleRefIdeal.nD Cert.PostSampleRefIdeal.τ).loc Cert.PostSampleRefIdeal.main_arg5)
          ∧ r.2.mem ((c.tc : Thread Cert.PostSampleRefIdeal.nD Cert.PostSampleRefIdeal.τ).loc Cert.PostSampleRefIdeal.main_arg6) = m' ((c.tc : Thread Cert.PostSampleRefIdeal.nD Cert.PostSampleRefIdeal.τ).loc Cert.PostSampleRefIdeal.main_arg6))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsRefIdeal : Cert.ExpertsRefIdeal.Facts) (hInProj : Cert.InProj.Facts) (hInProjIdeal : Cert.InProjIdeal.Facts) (hInProjRefIdeal : Cert.InProjRefIdeal.Facts) (hAdaMod : Cert.AdaMod.Facts) (hAdaModIdeal : Cert.AdaModIdeal.Facts) (hAdaModRefIdeal : Cert.AdaModRefIdeal.Facts) (hPost : Cert.Post.Facts) (hPostIdeal : Cert.PostIdeal.Facts) (hPostRefIdeal : Cert.PostRefIdeal.Facts) (hInProjSample : Cert.InProjSample.Facts) (hInProjSampleIdeal : Cert.InProjSampleIdeal.Facts) (hInProjSampleRefIdeal : Cert.InProjSampleRefIdeal.Facts) (hPostSample : Cert.PostSample.Facts) (hPostSampleIdeal : Cert.PostSampleIdeal.Facts) (hPostSampleRefIdeal : Cert.PostSampleRefIdeal.Facts) (hPre_tame : Cert.Pre_tame.Facts) (hPre_experts_in_range : Cert.Pre_experts_in_range.Facts) (hPre_all_finite : Cert.Pre_all_finite.Facts) (hPre_all_finite_sample : Cert.Pre_all_finite_sample.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsRefIdeal (hExpertsRefIdeal := hExpertsRefIdeal) (hPre_experts_in_range := hPre_experts_in_range)
    ∧ quiescent_InProj (hInProj := hInProj)
    ∧ quiescent_InProjIdeal (hInProjIdeal := hInProjIdeal)
    ∧ quiescent_InProjRefIdeal (hInProjRefIdeal := hInProjRefIdeal)
    ∧ quiescent_AdaMod (hAdaMod := hAdaMod)
    ∧ quiescent_AdaModIdeal (hAdaModIdeal := hAdaModIdeal)
    ∧ quiescent_AdaModRefIdeal (hAdaModRefIdeal := hAdaModRefIdeal)
    ∧ quiescent_Post (hPost := hPost)
    ∧ quiescent_PostIdeal (hPostIdeal := hPostIdeal)
    ∧ quiescent_PostIdeal_pre_all_finite (hPostIdeal := hPostIdeal) (hPre_all_finite := hPre_all_finite)
    ∧ quiescent_PostRefIdeal (hPostRefIdeal := hPostRefIdeal)
    ∧ quiescent_PostRefIdeal_pre_all_finite (hPostRefIdeal := hPostRefIdeal) (hPre_all_finite := hPre_all_finite)
    ∧ quiescent_InProjSample (hInProjSample := hInProjSample)
    ∧ quiescent_InProjSampleIdeal (hInProjSampleIdeal := hInProjSampleIdeal)
    ∧ quiescent_InProjSampleRefIdeal (hInProjSampleRefIdeal := hInProjSampleRefIdeal)
    ∧ quiescent_PostSample (hPostSample := hPostSample)
    ∧ quiescent_PostSampleIdeal (hPostSampleIdeal := hPostSampleIdeal)
    ∧ quiescent_PostSampleIdeal_pre_all_finite_sample (hPostSampleIdeal := hPostSampleIdeal) (hPre_all_finite_sample := hPre_all_finite_sample)
    ∧ quiescent_PostSampleRefIdeal (hPostSampleRefIdeal := hPostSampleRefIdeal)
    ∧ quiescent_PostSampleRefIdeal_pre_all_finite_sample (hPostSampleRefIdeal := hPostSampleRefIdeal) (hPre_all_finite_sample := hPre_all_finite_sample)
    ∧ preserves_Kernel_KernelIdeal
    ∧ algebraic_KernelIdeal_ReferenceIdeal_pre_tame (hKernelIdeal := hKernelIdeal) (hReferenceIdeal := hReferenceIdeal) (hPre_tame := hPre_tame)
    ∧ preserves_Experts_ExpertsIdeal
    ∧ algebraic_ExpertsIdeal_ExpertsRefIdeal (hExpertsIdeal := hExpertsIdeal) (hExpertsRefIdeal := hExpertsRefIdeal) (hPre_experts_in_range := hPre_experts_in_range)
    ∧ preserves_InProj_InProjIdeal
    ∧ algebraic_InProjIdeal_InProjRefIdeal (hInProjIdeal := hInProjIdeal) (hInProjRefIdeal := hInProjRefIdeal)
    ∧ preserves_AdaMod_AdaModIdeal
    ∧ algebraic_AdaModIdeal_AdaModRefIdeal (hAdaModIdeal := hAdaModIdeal) (hAdaModRefIdeal := hAdaModRefIdeal)
    ∧ preserves_Post_PostIdeal
    ∧ algebraic_PostIdeal_PostRefIdeal_pre_all_finite (hPostIdeal := hPostIdeal) (hPostRefIdeal := hPostRefIdeal) (hPre_all_finite := hPre_all_finite)
    ∧ preserves_InProjSample_InProjSampleIdeal
    ∧ algebraic_InProjSampleIdeal_InProjSampleRefIdeal (hInProjSampleIdeal := hInProjSampleIdeal) (hInProjSampleRefIdeal := hInProjSampleRefIdeal)
    ∧ preserves_PostSample_PostSampleIdeal
    ∧ algebraic_PostSampleIdeal_PostSampleRefIdeal_pre_all_finite_sample (hPostSampleIdeal := hPostSampleIdeal) (hPostSampleRefIdeal := hPostSampleRefIdeal) (hPre_all_finite_sample := hPre_all_finite_sample)
-- ==== Pre_all_finite.lean ====
abbrev S16384x1024 : Shape := ⟨2, ![16384, 1024]⟩
abbrev S8x1x6144 : Shape := ⟨3, ![8, 1, 6144]⟩
abbrev S1x1024 : Shape := ⟨2, ![1, 1024]⟩
abbrev S1024x1024 : Shape := ⟨2, ![1024, 1024]⟩
abbrev S1024x32 : Shape := ⟨2, ![1024, 32]⟩
abbrev S1x32 : Shape := ⟨2, ![1, 32]⟩
abbrev S_ : Shape := ⟨0, ![]⟩
abbrev S8x1x3072 : Shape := ⟨3, ![8, 1, 3072]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bitsLt_bf16_f32 : FTy.bits .bf16 < FTy.bits .f32
  slices_S8x1x6144_S8x1x3072_0_0_2048 : S8x1x6144.Slices ![0, 0, 2048] S8x1x3072
  bcast_S_S8x1x3072 : S_.BroadcastsInDim S8x1x3072 (![] : Fin 0 → Fin S8x1x3072.rank)
  reducesTo_S8x1x3072_S_d0_1_2 : S8x1x3072.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x32 : S_.BroadcastsInDim S1024x32 (![] : Fin 0 → Fin S1024x32.rank)
  reducesTo_S1024x32_S_d0_1 : S1024x32.ReducesTo [0, 1] S_
  bcast_S_S1x32 : S_.BroadcastsInDim S1x32 (![] : Fin 0 → Fin S1x32.rank)
  reducesTo_S1x32_S_d0_1 : S1x32.ReducesTo [0, 1] S_

variable [Facts]

def fn_part2 {F : FTy → Type} [FloatOps F] (main_v30 : IVec S_ 1) (main_v33 : IVec S1x32 1) (main_c_11 : IVec S_ 1) : IVec S_ 1 :=
  let main_v34 : IVec S_ 1 := (fun x v => Host.reduce IntOp.andi x v reducesTo_S1x32_S_d0_1 h_S_) main_v33 main_c_11
  let main_v35 : IVec S_ 1 := andi main_v30 main_v34
  main_v35

def fn_part1 {F : FTy → Type} [FloatOps F] (main_arg4 : FVec F S1024x1024 .f32) (main_arg5 : FVec F S1024x32 .f32) (main_arg6 : FVec F S1x32 .f32) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S1024x1024 .f32 := Host.absf main_arg4
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  let main_c_7 : IVec S_ 1 := constantI S_ 1 1#1
  let main_v24 : IVec S_ 1 := (fun x v => Host.reduce IntOp.andi x v reducesTo_S1024x1024_S_d0_1 h_S_) main_v23 main_c_7
  let main_v25 : IVec S_ 1 := andi main_v20 main_v24
  let main_v26 : FVec F S1024x32 .f32 := Host.absf main_arg5
  let main_cst_8 : FVec F S_ .f32 := constant S_ .f32 0x7F800000#32
  let main_v27 : FVec F S1024x32 .f32 := broadcastInDim S1024x32 ![] bcast_S_S1024x32 main_cst_8
  let main_v28 : IVec S1024x32 1 := cmpf .olt main_v26 main_v27
  let main_c_9 : IVec S_ 1 := constantI S_ 1 1#1
  let main_v29 : IVec S_ 1 := (fun x v => Host.reduce IntOp.andi x v reducesTo_S1024x32_S_d0_1 h_S_) main_v28 main_c_9
  let main_v30 : IVec S_ 1 := andi main_v25 main_v29
  let main_v31 : FVec F S1x32 .f32 := Host.absf main_arg6
  let main_cst_10 : FVec F S_ .f32 := constant S_ .f32 0x7F800000#32
  let main_v32 : FVec F S1x32 .f32 := broadcastInDim S1x32 ![] bcast_S_S1x32 main_cst_10
  let main_v33 : IVec S1x32 1 := cmpf .olt main_v31 main_v32
  let main_c_11 : IVec S_ 1 := constantI S_ 1 1#1
  fn_part2 (F := F) main_v30 main_v33 main_c_11

def fn {F : FTy → Type} [FloatOps F] (main_arg0 : FVec F S16384x1024 .f32) (main_arg1 : FVec F S16384x1024 .bf16) (main_arg2 : FVec F S8x1x6144 .f32) (main_arg3 : FVec F S1x1024 .f32) (main_arg4 : FVec F S1024x1024 .f32) (main_arg5 : FVec F S1024x32 .f32) (main_arg6 : FVec F S1x32 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := (extf .f32 · bitsLt_bf16_f32) main_arg1
  let main_v5 : FVec F S16384x1024 .f32 := Host.absf main_v4
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_c_1 : IVec S_ 1 := constantI S_ 1 1#1
  let main_v8 : IVec S_ 1 := (fun x v => Host.reduce IntOp.andi x v reducesTo_S16384x1024_S_d0_1 h_S_) main_v7 main_c_1
  let main_v9 : IVec S_ 1 := andi main_v3 main_v8
  let main_v10 : FVec F S8x1x3072 .f32 := (extractStridedSlice S8x1x3072 ![0, 0, 2048] · slices_S8x1x6144_S8x1x3072_0_0_2048) main_arg2
  let main_v11 : FVec F S8x1x3072 .f32 := Host.absf main_v10
  let main_cst_2 : FVec F S_ .f32 := constant S_ .f32 0x7F800000#32
  let main_v12 : FVec F S8x1x3072 .f32 := broadcastInDim S8x1x3072 ![] bcast_S_S8x1x3072 main_cst_2
  let main_v13 : IVec S8x1x3072 1 := cmpf .olt main_v11 main_v12
  let main_c_3 : IVec S_ 1 := constantI S_ 1 1#1
  let main_v14 : IVec S_ 1 := (fun x v => Host.reduce IntOp.andi x v reducesTo_S8x1x3072_S_d0_1_2 h_S_) main_v13 main_c_3
  let main_v15 : IVec S_ 1 := andi main_v9 main_v14
  let main_v16 : FVec F S1x1024 .f32 := Host.absf main_arg3
  let main_cst_4 : FVec F S_ .f32 := constant S_ .f32 0x7F800000#32
  fn_part1 (F := F) main_arg4 main_arg5 main_arg6 main_v15 main_v16 main_cst_4
-- ==== Pre_all_finite_sample.lean ====
abbrev S128x1024 : Shape := ⟨2, ![128, 1024]⟩
abbrev S128x6144 : Shape := ⟨2, ![128, 6144]⟩
abbrev S1x1024 : Shape := ⟨2, ![1, 1024]⟩
abbrev S1024x1024 : Shape := ⟨2, ![1024, 1024]⟩
abbrev S1024x32 : Shape := ⟨2, ![1024, 32]⟩
abbrev S1x32 : Shape := ⟨2, ![1, 32]⟩
abbrev S_ : Shape := ⟨0, ![]⟩
abbrev S128x3072 : Shape := ⟨2, ![128, 3072]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bitsLt_bf16_f32 : FTy.bits .bf16 < FTy.bits .f32
  slices_S128x6144_S128x3072_0_2048 : S128x6144.Slices ![0, 2048] S128x3072
  bcast_S_S128x3072 : S_.BroadcastsInDim S128x3072 (![] : Fin 0 → Fin S128x3072.rank)
  reducesTo_S128x3072_S_d0_1 : S128x3072.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x32 : S_.BroadcastsInDim S1024x32 (![] : Fin 0 → Fin S1024x32.rank)
  reducesTo_S1024x32_S_d0_1 : S1024x32.ReducesTo [0, 1] S_
  bcast_S_S1x32 : S_.BroadcastsInDim S1x32 (![] : Fin 0 → Fin S1x32.rank)
  reducesTo_S1x32_S_d0_1 : S1x32.ReducesTo [0, 1] S_

variable [Facts]

def fn_part2 {F : FTy → Type} [FloatOps F] (main_v30 : IVec S_ 1) (main_v33 : IVec S1x32 1) (main_c_11 : IVec S_ 1) : IVec S_ 1 :=
  let main_v34 : IVec S_ 1 := (fun x v => Host.reduce IntOp.andi x v reducesTo_S1x32_S_d0_1 h_S_) main_v33 main_c_11
  let main_v35 : IVec S_ 1 := andi main_v30 main_v34
  main_v35

def fn_part1 {F : FTy → Type} [FloatOps F] (main_arg4 : FVec F S1024x1024 .f32) (main_arg5 : FVec F S1024x32 .f32) (main_arg6 : FVec F S1x32 .f32) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S1024x1024 .f32 := Host.absf main_arg4
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  let main_c_7 : IVec S_ 1 := constantI S_ 1 1#1
  let main_v24 : IVec S_ 1 := (fun x v => Host.reduce IntOp.andi x v reducesTo_S1024x1024_S_d0_1 h_S_) main_v23 main_c_7
  let main_v25 : IVec S_ 1 := andi main_v20 main_v24
  let main_v26 : FVec F S1024x32 .f32 := Host.absf main_arg5
  let main_cst_8 : FVec F S_ .f32 := constant S_ .f32 0x7F800000#32
  let main_v27 : FVec F S1024x32 .f32 := broadcastInDim S1024x32 ![] bcast_S_S1024x32 main_cst_8
  let main_v28 : IVec S1024x32 1 := cmpf .olt main_v26 main_v27
  let main_c_9 : IVec S_ 1 := constantI S_ 1 1#1
  let main_v29 : IVec S_ 1 := (fun x v => Host.reduce IntOp.andi x v reducesTo_S1024x32_S_d0_1 h_S_) main_v28 main_c_9
  let main_v30 : IVec S_ 1 := andi main_v25 main_v29
  let main_v31 : FVec F S1x32 .f32 := Host.absf main_arg6
  let main_cst_10 : FVec F S_ .f32 := constant S_ .f32 0x7F800000#32
  let main_v32 : FVec F S1x32 .f32 := broadcastInDim S1x32 ![] bcast_S_S1x32 main_cst_10
  let main_v33 : IVec S1x32 1 := cmpf .olt main_v31 main_v32
  let main_c_11 : IVec S_ 1 := constantI S_ 1 1#1
  fn_part2 (F := F) main_v30 main_v33 main_c_11

def fn {F : FTy → Type} [FloatOps F] (main_arg0 : FVec F S128x1024 .f32) (main_arg1 : FVec F S128x1024 .bf16) (main_arg2 : FVec F S128x6144 .f32) (main_arg3 : FVec F S1x1024 .f32) (main_arg4 : FVec F S1024x1024 .f32) (main_arg5 : FVec F S1024x32 .f32) (main_arg6 : FVec F S1x32 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S128x1024 .f32 := (extf .f32 · bitsLt_bf16_f32) main_arg1
  let main_v5 : FVec F S128x1024 .f32 := Host.absf main_v4
  let main_cst_0 : FVec F S_ .f32 := constant S_ .f32 0x7F800000#32
  let main_v6 : FVec F S128x1024 .f32 := broadcastInDim S128x1024 ![] bcast_S_S128x1024 main_cst_0
  let main_v7 : IVec S128x1024 1 := cmpf .olt main_v5 main_v6
  let main_c_1 : IVec S_ 1 := constantI S_ 1 1#1
  let main_v8 : IVec S_ 1 := (fun x v => Host.reduce IntOp.andi x v reducesTo_S128x1024_S_d0_1 h_S_) main_v7 main_c_1
  let main_v9 : IVec S_ 1 := andi main_v3 main_v8
  let main_v10 : FVec F S128x3072 .f32 := (extractStridedSlice S128x3072 ![0, 2048] · slices_S128x6144_S128x3072_0_2048) main_arg2
  let main_v11 : FVec F S128x3072 .f32 := Host.absf main_v10
  let main_cst_2 : FVec F S_ .f32 := constant S_ .f32 0x7F800000#32
  let main_v12 : FVec F S128x3072 .f32 := broadcastInDim S128x3072 ![] bcast_S_S128x3072 main_cst_2
  let main_v13 : IVec S128x3072 1 := cmpf .olt main_v11 main_v12
  let main_c_3 : IVec S_ 1 := constantI S_ 1 1#1
  let main_v14 : IVec S_ 1 := (fun x v => Host.reduce IntOp.andi x v reducesTo_S128x3072_S_d0_1 h_S_) main_v13 main_c_3
  let main_v15 : IVec S_ 1 := andi main_v9 main_v14
  let main_v16 : FVec F S1x1024 .f32 := Host.absf main_arg3
  let main_cst_4 : FVec F S_ .f32 := constant S_ .f32 0x7F800000#32
  fn_part1 (F := F) main_arg4 main_arg5 main_arg6 main_v15 main_v16 main_cst_4
-- ==== Pre_experts_in_range.lean ====
abbrev S290 : Shape := ⟨1, ![290]⟩
abbrev S1 : Shape := ⟨1, ![1]⟩
abbrev S74240x1024 : Shape := ⟨2, ![74240, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S290 : S_.BroadcastsInDim S290 (![] : Fin 0 → Fin S290.rank)
  reducesTo_S290_S_d0 : S290.ReducesTo [0] S_
  h_S_ : 0 < S_.numel

variable [Facts]

def fn {F : FTy → Type} [FloatOps F] (main_arg0 : IVec S290 32) (main_arg1 : IVec S1 32) (main_arg2 : FVec F S74240x1024 .f32) (main_arg3 : FVec F S32x1024x2048 .f32) (main_arg4 : FVec F S32x1x2048 .f32) (main_arg5 : FVec F S32x1024x1024 .f32) (main_arg6 : FVec F S32x1x1024 .f32) : IVec S_ 1 :=
  let main_c : IVec S_ 32 := constantI S_ 32 0#32
  let main_v0 : IVec S290 32 := broadcastInDim S290 ![] bcast_S_S290 main_c
  let main_v1 : IVec S290 1 := cmpi .sge main_arg0 main_v0
  let main_c_0 : IVec S_ 32 := constantI S_ 32 32#32
  let main_v2 : IVec S290 32 := broadcastInDim S290 ![] bcast_S_S290 main_c_0
  let main_v3 : IVec S290 1 := cmpi .slt main_arg0 main_v2
  let main_v4 : IVec S290 1 := andi main_v1 main_v3
  let main_c_1 : IVec S_ 1 := constantI S_ 1 1#1
  let main_v5 : IVec S_ 1 := (fun x v => Host.reduce IntOp.andi x v reducesTo_S290_S_d0 h_S_) main_v4 main_c_1
  main_v5
-- ==== Pre_tame.lean ====
abbrev S128x3584 : Shape := ⟨2, ![128, 3584]⟩
abbrev S128x256 : Shape := ⟨2, ![128, 256]⟩
abbrev S1x512 : Shape := ⟨2, ![1, 512]⟩
abbrev S1x128 : Shape := ⟨2, ![1, 128]⟩
abbrev S128x4x128x128 : Shape := ⟨4, ![128, 4, 128, 128]⟩
abbrev S128x4x64x128 : Shape := ⟨4, ![128, 4, 64, 128]⟩
abbrev S_ : Shape := ⟨0, ![]⟩

class Facts : Prop where
  bcast_S_S128x3584 : S_.BroadcastsInDim S128x3584 (![] : Fin 0 → Fin S128x3584.rank)
  reducesTo_S128x3584_S_d0_1 : S128x3584.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S1x512 : S_.BroadcastsInDim S1x512 (![] : Fin 0 → Fin S1x512.rank)
  reducesTo_S1x512_S_d0_1 : S1x512.ReducesTo [0, 1] S_
  bcast_S_S128x4x128x128 : S_.BroadcastsInDim S128x4x128x128 (![] : Fin 0 → Fin S128x4x128x128.rank)
  reducesTo_S128x4x128x128_S_d0_1_2_3 : S128x4x128x128.ReducesTo [0, 1, 2, 3] S_
  bcast_S_S128x4x64x128 : S_.BroadcastsInDim S128x4x64x128 (![] : Fin 0 → Fin S128x4x64x128.rank)
  reducesTo_S128x4x64x128_S_d0_1_2_3 : S128x4x64x128.ReducesTo [0, 1, 2, 3] S_

variable [Facts]

def fn_part1 {F : FTy → Type} [FloatOps F] (main_arg6 : FVec F S128x4x64x128 .f32) (main_v13 : IVec S_ 1) (main_v16 : IVec S128x4x128x128 1) : IVec S_ 1 :=
  let main_c_5 : IVec S_ 1 := constantI S_ 1 1#1
  let main_v17 : IVec S_ 1 := (fun x v => Host.reduce IntOp.andi x v reducesTo_S128x4x128x128_S_d0_1_2_3 h_S_) main_v16 main_c_5
  let main_v18 : IVec S_ 1 := andi main_v13 main_v17
  let main_v19 : FVec F S128x4x64x128 .f32 := Host.absf main_arg6
  let main_cst_6 : FVec F S_ .f32 := constant S_ .f32 0x7F800000#32
  let main_v20 : FVec F S128x4x64x128 .f32 := broadcastInDim S128x4x64x128 ![] bcast_S_S128x4x64x128 main_cst_6
  let main_v21 : IVec S128x4x64x128 1 := cmpf .olt main_v19 main_v20
  let main_c_7 : IVec S_ 1 := constantI S_ 1 1#1
  let main_v22 : IVec S_ 1 := (fun x v => Host.reduce IntOp.andi x v reducesTo_S128x4x64x128_S_d0_1_2_3 h_S_) main_v21 main_c_7
  let main_v23 : IVec S_ 1 := andi main_v18 main_v22
  main_v23

def fn {F : FTy → Type} [FloatOps F] (main_arg0 : FVec F S128x3584 .f32) (main_arg1 : FVec F S128x256 .f32) (main_arg2 : FVec F S1x512 .f32) (main_arg3 : FVec F S1x128 .f32) (main_arg4 : FVec F S1x128 .f32) (main_arg5 : FVec F S128x4x128x128 .f32) (main_arg6 : FVec F S128x4x64x128 .f32) : IVec S_ 1 :=
  let main_v0 : FVec F S128x3584 .f32 := Host.absf main_arg0
  let main_cst : FVec F S_ .f32 := constant S_ .f32 0x7F800000#32
  let main_v1 : FVec F S128x3584 .f32 := broadcastInDim S128x3584 ![] bcast_S_S128x3584 main_cst
  let main_v2 : IVec S128x3584 1 := cmpf .olt main_v0 main_v1
  let main_c : IVec S_ 1 := constantI S_ 1 1#1
  let main_v3 : IVec S_ 1 := (fun x v => Host.reduce IntOp.andi x v reducesTo_S128x3584_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S128x4x128x128 .f32 := Host.absf main_arg5
  let main_cst_4 : FVec F S_ .f32 := constant S_ .f32 0x7F800000#32
  let main_v15 : FVec F S128x4x128x128 .f32 := broadcastInDim S128x4x128x128 ![] bcast_S_S128x4x128x128 main_cst_4
  let main_v16 : IVec S128x4x128x128 1 := cmpf .olt main_v14 main_v15
  fn_part1 (F := F) main_arg6 main_v13 main_v16
-- ==== Kernel.lean ====
abbrev S128x3584 : Shape := ⟨2, ![128, 3584]⟩
abbrev S128x256 : Shape := ⟨2, ![128, 256]⟩
abbrev S1x512 : Shape := ⟨2, ![1, 512]⟩
abbrev S1x128 : Shape := ⟨2, ![1, 128]⟩
abbrev S128x4x128x128 : Shape := ⟨4, ![128, 4, 128, 128]⟩
abbrev S128x4x64x128 : Shape := ⟨4, ![128, 4, 64, 128]⟩
abbrev S128x1024 : Shape := ⟨2, ![128, 1024]⟩
abbrev S8x3584 : Shape := ⟨2, ![8, 3584]⟩
abbrev S8x256 : Shape := ⟨2, ![8, 256]⟩
abbrev S8x4x128x128 : Shape := ⟨4, ![8, 4, 128, 128]⟩
abbrev S8x4x64x128 : Shape := ⟨4, ![8, 4, 64, 128]⟩
abbrev S8x1024 : Shape := ⟨2, ![8, 1024]⟩
abbrev S8x512 : Shape := ⟨2, ![8, 512]⟩
abbrev S128x128 : Shape := ⟨2, ![128, 128]⟩
abbrev S64x64 : Shape := ⟨2, ![64, 64]⟩
abbrev S128 : Shape := ⟨1, ![128]⟩
abbrev S128x1 : Shape := ⟨2, ![128, 1]⟩
abbrev S1x1x128x128 : Shape := ⟨4, ![1, 1, 128, 128]⟩
abbrev S1x64 : Shape := ⟨2, ![1, 64]⟩
abbrev S64 : Shape := ⟨1, ![64]⟩
abbrev S64x1 : Shape := ⟨2, ![64, 1]⟩
abbrev S1x1x64x128 : Shape := ⟨4, ![1, 1, 64, 128]⟩
abbrev S64x128 : Shape := ⟨2, ![64, 128]⟩
abbrev S8x128 : Shape := ⟨2, ![8, 128]⟩
abbrev S8 : Shape := ⟨1, ![8]⟩
abbrev S8x1 : Shape := ⟨2, ![8, 1]⟩

abbrev nBuf : Space → Nat
  | .hbm => 10
  | .vmem => 18
  | .smem => 0
  | _ => 0

abbrev bufTy : (tb : Table) → Fin (tcTables nBuf tb) → BufTy
  | .hbm, ⟨0, _⟩ => ⟨S128x3584, .f32⟩
  | .hbm, ⟨1, _⟩ => ⟨S128x256, .f32⟩
  | .hbm, ⟨2, _⟩ => ⟨S1x512, .f32⟩
  | .hbm, ⟨3, _⟩ => ⟨S1x128, .f32⟩
  | .hbm, ⟨4, _⟩ => ⟨S1x128, .f32⟩
  | .hbm, ⟨5, _⟩ => ⟨S128x4x128x128, .f32⟩
  | .hbm, ⟨6, _⟩ => ⟨S128x4x64x128, .f32⟩
  | .hbm, ⟨7, _⟩ => ⟨S128x1024, .bf16⟩
  | .hbm, ⟨8, _⟩ => ⟨S128x4x128x128, .f32⟩
  | .hbm, ⟨9, _⟩ => ⟨S128x4x64x128, .f32⟩
  | .local _ .vmem, ⟨0, _⟩ => ⟨S8x3584, .f32⟩
  | .local _ .vmem, ⟨1, _⟩ => ⟨S8x3584, .f32⟩
  | .local _ .vmem, ⟨2, _⟩ => ⟨S8x256, .f32⟩
  | .local _ .vmem, ⟨3, _⟩ => ⟨S8x256, .f32⟩
  | .local _ .vmem, ⟨4, _⟩ => ⟨S1x512, .f32⟩
  | .local _ .vmem, ⟨5, _⟩ => ⟨S1x128, .f32⟩
  | .local _ .vmem, ⟨6, _⟩ => ⟨S1x128, .f32⟩
  | .local _ .vmem, ⟨7, _⟩ => ⟨S8x4x128x128, .f32⟩
  | .local _ .vmem, ⟨8, _⟩ => ⟨S8x4x128x128, .f32⟩
  | .local _ .vmem, ⟨9, _⟩ => ⟨S8x4x64x128, .f32⟩
  | .local _ .vmem, ⟨10, _⟩ => ⟨S8x4x64x128, .f32⟩
  | .local _ .vmem, ⟨11, _⟩ => ⟨S8x1024, .bf16⟩
  | .local _ .vmem, ⟨12, _⟩ => ⟨S8x1024, .bf16⟩
  | .local _ .vmem, ⟨13, _⟩ => ⟨S8x4x128x128, .f32⟩
  | .local _ .vmem, ⟨14, _⟩ => ⟨S8x4x128x128, .f32⟩
  | .local _ .vmem, ⟨15, _⟩ => ⟨S8x4x64x128, .f32⟩
  | .local _ .vmem, ⟨16, _⟩ => ⟨S8x4x64x128, .f32⟩
  | .local _ .vmem, ⟨17, _⟩ => ⟨S8x1024, .f32⟩
  | _, _ => ⟨S128x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x4x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x4x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S128x3584 : Shape := ⟨2, ![128, 3584]⟩
abbrev S128x256 : Shape := ⟨2, ![128, 256]⟩
abbrev S1x512 : Shape := ⟨2, ![1, 512]⟩
abbrev S1x128 : Shape := ⟨2, ![1, 128]⟩
abbrev S128x4x128x128 : Shape := ⟨4, ![128, 4, 128, 128]⟩
abbrev S128x4x64x128 : Shape := ⟨4, ![128, 4, 64, 128]⟩
abbrev S128x512 : Shape := ⟨2, ![128, 512]⟩
abbrev S128x4x128 : Shape := ⟨3, ![128, 4, 128]⟩
abbrev S4x128 : Shape := ⟨2, ![4, 128]⟩
abbrev S_ : Shape := ⟨0, ![]⟩
abbrev S1x4x128 : Shape := ⟨3, ![1, 4, 128]⟩
abbrev S128x4 : Shape := ⟨2, ![128, 4]⟩
abbrev S128x4x1 : Shape := ⟨3, ![128, 4, 1]⟩
abbrev S128x4x128x1 : Shape := ⟨4, ![128, 4, 128, 1]⟩
abbrev S128x4x1x128 : Shape := ⟨4, ![128, 4, 1, 128]⟩
abbrev S1x1x128 : Shape := ⟨3, ![1, 1, 128]⟩
abbrev S128x4x64 : Shape := ⟨3, ![128, 4, 64]⟩
abbrev S128x4x64x1 : Shape := ⟨4, ![128, 4, 64, 1]⟩
abbrev S128x1024 : Shape := ⟨2, ![128, 1024]⟩

abbrev nBuf : Space → Nat
  | .hbm => 215
  | .vmem => 0
  | .smem => 0
  | _ => 0

abbrev hbmTy0_0 (i : Nat) : BufTy := match i % 128 with
  | 0 => ⟨S128x3584, .f32⟩
  | 1 => ⟨S128x256, .f32⟩
  | 2 => ⟨S1x512, .f32⟩
  | 3 => ⟨S1x128, .f32⟩
  | 4 => ⟨S1x128, .f32⟩
  | 5 => ⟨S128x4x128x128, .f32⟩
  | 6 => ⟨S128x4x64x128, .f32⟩
  | 7 => ⟨S128x512, .f32⟩
  | 8 => ⟨S128x512, .f32⟩
  | 9 => ⟨S128x512, .f32⟩
  | 10 => ⟨S128x512, .f32⟩
  | 11 => ⟨S128x256, .f32⟩
  | 12 => ⟨S128x256, .f32⟩
  | 13 => ⟨S128x512, .f32⟩
  | 14 => ⟨S128x512, .f32⟩
  | 15 => ⟨S128x4x128, .f32⟩
  | 16 => ⟨S4x128, .f32⟩
  | 17 => ⟨S4x128, .f32⟩
  | 18 => ⟨S4x128, .f32⟩
  | 19 => ⟨S4x128, .f32⟩
  | 20 => ⟨S128x4x128, .f32⟩
  | 21 => ⟨S_, .f32⟩
  | 22 => ⟨S128x4x128, .f32⟩
  | 23 => ⟨S128x4x128, .f32⟩
  | 24 => ⟨S128x4x128, .f32⟩
  | 25 => ⟨S128x4x128, .f32⟩
  | 26 => ⟨S128x4x128, .i1⟩
  | 27 => ⟨S128x4x128, .f32⟩
  | 28 => ⟨S128x4x128, .f32⟩
  | 29 => ⟨S128x4x128, .f32⟩
  | 30 => ⟨S128x4x128, .f32⟩
  | 31 => ⟨S128x4x128, .f32⟩
  | 32 => ⟨S128x4x128, .f32⟩
  | 33 => ⟨S128x4x128, .f32⟩
  | 34 => ⟨S128x4x128, .f32⟩
  | 35 => ⟨S128x4x128, .f32⟩
  | 36 => ⟨S1x4x128, .f32⟩
  | 37 => ⟨S128x4x128, .f32⟩
  | 38 => ⟨S128x4x128, .f32⟩
  | 39 => ⟨S1x4x128, .f32⟩
  | 40 => ⟨S128x4x128, .f32⟩
  | 41 => ⟨S128x4x128, .f32⟩
  | 42 => ⟨S128x4x128, .f32⟩
  | 43 => ⟨S128x4x128, .f32⟩
  | 44 => ⟨S128x4x128, .i1⟩
  | 45 => ⟨S128x4x128, .f32⟩
  | 46 => ⟨S128x4x128, .f32⟩
  | 47 => ⟨S128x4x128, .f32⟩
  | 48 => ⟨S128x4x128, .f32⟩
  | 49 => ⟨S128x4x128, .f32⟩
  | 50 => ⟨S128x4x128, .f32⟩
  | 51 => ⟨S128x4x128, .f32⟩
  | 52 => ⟨S128x4x128, .f32⟩
  | 53 => ⟨S_, .f32⟩
  | 54 => ⟨S4x128, .f32⟩
  | 55 => ⟨S4x128, .f32⟩
  | 56 => ⟨S128x4x128, .f32⟩
  | 57 => ⟨S128x4x128, .f32⟩
  | 58 => ⟨S128x4x128, .f32⟩
  | 59 => ⟨S_, .f32⟩
  | 60 => ⟨S128x4x128, .f32⟩
  | 61 => ⟨S128x4x128, .f32⟩
  | 62 => ⟨S_, .f32⟩
  | 63 => ⟨S128x4x128, .f32⟩
  | 64 => ⟨S128x4x128, .f32⟩
  | 65 => ⟨S1x4x128, .f32⟩
  | 66 => ⟨S128x4x128, .f32⟩
  | 67 => ⟨S128x4x128, .f32⟩
  | 68 => ⟨S128x4x128, .f32⟩
  | 69 => ⟨S128x4x128, .f32⟩
  | 70 => ⟨S128x4x128, .f32⟩
  | 71 => ⟨S_, .f32⟩
  | 72 => ⟨S128x4x128, .f32⟩
  | 73 => ⟨S128x4x128, .f32⟩
  | 74 => ⟨S_, .f32⟩
  | 75 => ⟨S128x4x128, .f32⟩
  | 76 => ⟨S128x4x128, .f32⟩
  | 77 => ⟨S128x4x128, .f32⟩
  | 78 => ⟨S128x4x128, .f32⟩
  | 79 => ⟨S128x4x128, .f32⟩
  | 80 => ⟨S128x4x128, .f32⟩
  | 81 => ⟨S128x4x128, .f32⟩
  | 82 => ⟨S128x4x128, .f32⟩
  | 83 => ⟨S_, .f32⟩
  | 84 => ⟨S128x4, .f32⟩
  | 85 => ⟨S128x4x1, .f32⟩
  | 86 => ⟨S128x4x128, .f32⟩
  | 87 => ⟨S128x4x128, .f32⟩
  | 88 => ⟨S128x4x128, .f32⟩
  | 89 => ⟨S128x4x128, .f32⟩
  | 90 => ⟨S128x4x128, .f32⟩
  | 91 => ⟨S128x4x128, .f32⟩
  | 92 => ⟨S128x4x128, .f32⟩
  | 93 => ⟨S128x4x128x1, .f32⟩
  | 94 => ⟨S128x4x128x128, .f32⟩
  | 95 => ⟨S128x4x128x128, .f32⟩
  | 96 => ⟨S128x4x128, .f32⟩
  | 97 => ⟨S128x4x128, .f32⟩
  | 98 => ⟨S128x4x128, .f32⟩
  | 99 => ⟨S128x4x128x1, .f32⟩
  | 100 => ⟨S128x4x1x128, .f32⟩
  | 101 => ⟨S128x4x128x128, .f32⟩
  | 102 => ⟨S128x4x128x128, .f32⟩
  | 103 => ⟨S128x4x128x128, .f32⟩
  | 104 => ⟨S128x4x128x128, .f32⟩
  | 105 => ⟨S128x4x128, .f32⟩
  | 106 => ⟨S_, .f32⟩
  | 107 => ⟨S128x4, .f32⟩
  | 108 => ⟨S128x4x1, .f32⟩
  | 109 => ⟨S_, .f32⟩
  | 110 => ⟨S128x4x1, .f32⟩
  | 111 => ⟨S128x4x1, .f32⟩
  | 112 => ⟨S_, .f32⟩
  | 113 => ⟨S128x4x1, .f32⟩
  | 114 => ⟨S128x4x1, .f32⟩
  | 115 => ⟨S128x4x1, .f32⟩
  | 116 => ⟨S128x4x128, .f32⟩
  | 117 => ⟨S128x4x128, .f32⟩
  | 118 => ⟨S1x1x128, .f32⟩
  | 119 => ⟨S128x4x128, .f32⟩
  | 120 => ⟨S128x4x128, .f32⟩
  | 121 => ⟨S128x4x128, .f32⟩
  | 122 => ⟨S128x4x128, .f32⟩
  | 123 => ⟨S128x4x128, .f32⟩
  | 124 => ⟨S_, .f32⟩
  | 125 => ⟨S128x4x128, .f32⟩
  | 126 => ⟨S128x4x128, .f32⟩
  | 127 => ⟨S_, .f32⟩
  | _ => ⟨S128x3584, .f32⟩

abbrev hbmTy0_1 (i : Nat) : BufTy := match i % 128 with
  | 0 => ⟨S128x4x128, .f32⟩
  | 1 => ⟨S128x4x128, .f32⟩
  | 2 => ⟨S128x4x128, .f32⟩
  | 3 => ⟨S128x4x128, .f32⟩
  | 4 => ⟨S128x4x64, .f32⟩
  | 5 => ⟨S_, .f32⟩
  | 6 => ⟨S128x4x64, .f32⟩
  | 7 => ⟨S128x4x64, .f32⟩
  | 8 => ⟨S128x4x64, .f32⟩
  | 9 => ⟨S128x4x128, .f32⟩
  | 10 => ⟨S128x256, .f32⟩
  | 11 => ⟨S_, .f32⟩
  | 12 => ⟨S128x256, .f32⟩
  | 13 => ⟨S128x256, .f32⟩
  | 14 => ⟨S128x256, .f32⟩
  | 15 => ⟨S128x256, .f32⟩
  | 16 => ⟨S128x256, .i1⟩
  | 17 => ⟨S128x256, .f32⟩
  | 18 => ⟨S128x256, .f32⟩
  | 19 => ⟨S128x256, .f32⟩
  | 20 => ⟨S128x256, .f32⟩
  | 21 => ⟨S128x256, .f32⟩
  | 22 => ⟨S128x256, .f32⟩
  | 23 => ⟨S128x256, .f32⟩
  | 24 => ⟨S128x256, .f32⟩
  | 25 => ⟨S128x256, .f32⟩
  | 26 => ⟨S128x4x64, .f32⟩
  | 27 => ⟨S_, .f32⟩
  | 28 => ⟨S128x4x64, .f32⟩
  | 29 => ⟨S128x4x64, .f32⟩
  | 30 => ⟨S128x4x64, .f32⟩
  | 31 => ⟨S128x4x64, .f32⟩
  | 32 => ⟨S128x4x64, .f32⟩
  | 33 => ⟨S128x4x64, .f32⟩
  | 34 => ⟨S_, .f32⟩
  | 35 => ⟨S128x4, .f32⟩
  | 36 => ⟨S128x4x1, .f32⟩
  | 37 => ⟨S128x4x128, .f32⟩
  | 38 => ⟨S128x4x128, .f32⟩
  | 39 => ⟨S128x4x64, .f32⟩
  | 40 => ⟨S128x4x64, .f32⟩
  | 41 => ⟨S128x4x128, .f32⟩
  | 42 => ⟨S128x4x128, .f32⟩
  | 43 => ⟨S128x4x64, .f32⟩
  | 44 => ⟨S128x4x64x1, .f32⟩
  | 45 => ⟨S128x4x64x128, .f32⟩
  | 46 => ⟨S128x4x64x128, .f32⟩
  | 47 => ⟨S128x4x64, .f32⟩
  | 48 => ⟨S128x4x64, .f32⟩
  | 49 => ⟨S128x4x64, .f32⟩
  | 50 => ⟨S128x4x64x1, .f32⟩
  | 51 => ⟨S128x4x1x128, .f32⟩
  | 52 => ⟨S128x4x64x128, .f32⟩
  | 53 => ⟨S128x4x64x128, .f32⟩
  | 54 => ⟨S128x4x64x128, .f32⟩
  | 55 => ⟨S128x4x64x128, .f32⟩
  | 56 => ⟨S128x4x128, .f32⟩
  | 57 => ⟨S_, .f32⟩
  | 58 => ⟨S128x4, .f32⟩
  | 59 => ⟨S128x4x1, .f32⟩
  | 60 => ⟨S_, .f32⟩
  | 61 => ⟨S128x4x1, .f32⟩
  | 62 => ⟨S128x4x1, .f32⟩
  | 63 => ⟨S_, .f32⟩
  | 64 => ⟨S128x4x1, .f32⟩
  | 65 => ⟨S128x4x1, .f32⟩
  | 66 => ⟨S128x4x1, .f32⟩
  | 67 => ⟨S128x4x128, .f32⟩
  | 68 => ⟨S128x4x128, .f32⟩
  | 69 => ⟨S1x1x128, .f32⟩
  | 70 => ⟨S128x4x128, .f32⟩
  | 71 => ⟨S128x4x128, .f32⟩
  | 72 => ⟨S128x4x128, .f32⟩
  | 73 => ⟨S128x4x128, .f32⟩
  | 74 => ⟨S128x4x128, .f32⟩
  | 75 => ⟨S_, .f32⟩
  | 76 => ⟨S128x4x128, .f32⟩
  | 77 => ⟨S128x4x128, .f32⟩
  | 78 => ⟨S_, .f32⟩
  | 79 => ⟨S128x4x128, .f32⟩
  | 80 => ⟨S128x4x128, .f32⟩
  | 81 => ⟨S128x4x128, .f32⟩
  | 82 => ⟨S128x4x128, .f32⟩
  | 83 => ⟨S128x512, .f32⟩
  | 84 => ⟨S128x512, .f32⟩
  | 85 => ⟨S128x1024, .f32⟩
  | 86 => ⟨S128x1024, .bf16⟩
  | _ => ⟨S128x3584, .f32⟩

abbrev hbmTy (i : Nat) : BufTy := match i / 128 with
  | 0 => hbmTy0_0 i
  | 1 => hbmTy0_1 i
  | _ => ⟨S128x3584, .f32⟩

abbrev bufTy : (tb : Table) → Fin (tcTables nBuf tb) → BufTy
  | .hbm, ⟨i, _⟩ => hbmTy i
  | _, _ => ⟨S128x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_0 : Ref sig .tc := ⟨.hbm, 59, rfl⟩
abbrev main_v36 : Ref sig .tc := ⟨.hbm, 60, rfl⟩
abbrev main_v37 : Ref sig .tc := ⟨.hbm, 61, rfl⟩
abbrev main_cst_1 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_2 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_3 : Ref sig .tc := ⟨.hbm, 106, rfl⟩
abbrev main_v72 : Ref sig .tc := ⟨.hbm, 107, rfl⟩
abbrev main_v73 : Ref sig .tc := ⟨.hbm, 108, rfl⟩
abbrev main_cst_4 : Ref sig .tc := ⟨.hbm, 109, rfl⟩
abbrev main_v74 : Ref sig .tc := ⟨.hbm, 110, rfl⟩
abbrev main_v75 : Ref sig .tc := ⟨.hbm, 111, rfl⟩
abbrev main_cst_5 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_call2_v0 : Ref sig .tc := ⟨.hbm, 122, rfl⟩
abbrev main_call2_v1 : Ref sig .tc := ⟨.hbm, 123, rfl⟩
abbrev main_call2_cst : Ref sig .tc := ⟨.hbm, 124, rfl⟩
abbrev main_call2_v2 : Ref sig .tc := ⟨.hbm, 125, rfl⟩
abbrev main_call2_v3 : Ref sig .tc := ⟨.hbm, 126, rfl⟩
abbrev main_call2_cst_0 : Ref sig .tc := ⟨.hbm, 127, rfl⟩
abbrev main_call2_v4 : Ref sig .tc := ⟨.hbm, 128, rfl⟩
abbrev main_call2_v5 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_6 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_call3_v0 : Ref sig .tc := ⟨.hbm, 138, rfl⟩
abbrev main_call3_call0_cst : Ref sig .tc := ⟨.hbm, 139, rfl⟩
abbrev main_call3_call0_v0 : Ref sig .tc := ⟨.hbm, 140, rfl⟩
abbrev main_call3_call0_v1 : Ref sig .tc := ⟨.hbm, 141, rfl⟩
abbrev main_call3_call0_v2 : Ref sig .tc := ⟨.hbm, 142, rfl⟩
abbrev main_call3_call0_v3 : Ref sig .tc := ⟨.hbm, 143, rfl⟩
abbrev main_call3_call0_v4 : Ref sig .tc := ⟨.hbm, 144, rfl⟩
abbrev main_call3_call0_v5 : Ref sig .tc := ⟨.hbm, 145, rfl⟩
abbrev main_call3_call0_v6 : Ref sig .tc := ⟨.hbm, 146, rfl⟩
abbrev main_call3_call0_v7 : Ref sig .tc := ⟨.hbm, 147, rfl⟩
abbrev main_call3_call0_v8 : Ref sig .tc := ⟨.hbm, 148, rfl⟩
abbrev main_call3_call0_v9 : Ref sig .tc := ⟨.hbm, 149, rfl⟩
abbrev main_call3_call0_v10 : Ref sig .tc := ⟨.hbm, 150, rfl⟩
abbrev main_call3_call0_v11 : Ref sig .tc := ⟨.hbm, 151, rfl⟩
abbrev main_call3_v1 : Ref sig .tc := ⟨.hbm, 152, rfl⟩
abbrev main_v92 : Ref sig .tc := ⟨.hbm, 153, rfl⟩
abbrev main_v93 : Ref sig .tc := ⟨.hbm, 154, rfl⟩
abbrev main_cst_7 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_cst_8 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_cst_9 : Ref sig .tc := ⟨.hbm, 185, rfl⟩
abbrev main_v122 : Ref sig .tc := ⟨.hbm, 186, rfl⟩
abbrev main_v123 : Ref sig .tc := ⟨.hbm, 187, rfl⟩
abbrev main_cst_10 : Ref sig .tc := ⟨.hbm, 188, rfl⟩
abbrev main_v124 : Ref sig .tc := ⟨.hbm, 189, rfl⟩
abbrev main_v125 : Ref sig .tc := ⟨.hbm, 190, rfl⟩
abbrev main_cst_11 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_call4_v0 : Ref sig .tc := ⟨.hbm, 201, rfl⟩
abbrev main_call4_v1 : Ref sig .tc := ⟨.hbm, 202, rfl⟩
abbrev main_call4_cst : Ref sig .tc := ⟨.hbm, 203, rfl⟩
abbrev main_call4_v2 : Ref sig .tc := ⟨.hbm, 204, rfl⟩
abbrev main_call4_v3 : Ref sig .tc := ⟨.hbm, 205, rfl⟩
abbrev main_call4_cst_0 : Ref sig .tc := ⟨.hbm, 206, rfl⟩
abbrev main_call4_v4 : Ref sig .tc := ⟨.hbm, 207, rfl⟩
abbrev main_call4_v5 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩

abbrev nD : Nat := 1
abbrev τ : Topo := Topo.v7x

variable {F : FTy → Type} [FloatOps F]
-- ==== Experts.lean ====
abbrev S290 : Shape := ⟨1, ![290]⟩
abbrev S1 : Shape := ⟨1, ![1]⟩
abbrev S74240x1024 : Shape := ⟨2, ![74240, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S74240x1024, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S74240x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S290, .i32⟩
  | .local _ .smem, ⟨1, _⟩ => ⟨S1, .i32⟩
  | _, _ => ⟨S74240x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![290], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsRefIdeal.lean ====
abbrev S290 : Shape := ⟨1, ![290]⟩
abbrev S1 : Shape := ⟨1, ![1]⟩
abbrev S74240x1024 : Shape := ⟨2, ![74240, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S290x256x1024 : Shape := ⟨3, ![290, 256, 1024]⟩
abbrev S_ : Shape := ⟨0, ![]⟩
abbrev S290x1 : Shape := ⟨2, ![290, 1]⟩
abbrev S290x1024x2048 : Shape := ⟨3, ![290, 1024, 2048]⟩
abbrev S290x256x2048 : Shape := ⟨3, ![290, 256, 2048]⟩
abbrev S290x1x2048 : Shape := ⟨3, ![290, 1, 2048]⟩
abbrev S290x1024x1024 : Shape := ⟨3, ![290, 1024, 1024]⟩
abbrev S290x1x1024 : Shape := ⟨3, ![290, 1, 1024]⟩
abbrev S290x1x1 : Shape := ⟨3, ![290, 1, 1]⟩

abbrev nBuf : Space → Nat
  | .hbm => 90
  | .vmem => 0
  | .smem => 0
  | _ => 0

abbrev bufTy : (tb : Table) → Fin (tcTables nBuf tb) → BufTy
  | .hbm, ⟨0, _⟩ => ⟨S290, .i32⟩
  | .hbm, ⟨1, _⟩ => ⟨S1, .i32⟩
  | .hbm, ⟨2, _⟩ => ⟨S74240x1024, .f32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S290x256x1024, .f32⟩
  | .hbm, ⟨8, _⟩ => ⟨S_, .i32⟩
  | .hbm, ⟨9, _⟩ => ⟨S290, .i32⟩
  | .hbm, ⟨10, _⟩ => ⟨S290, .i1⟩
  | .hbm, ⟨11, _⟩ => ⟨S_, .i32⟩
  | .hbm, ⟨12, _⟩ => ⟨S290, .i32⟩
  | .hbm, ⟨13, _⟩ => ⟨S290, .i32⟩
  | .hbm, ⟨14, _⟩ => ⟨S290, .i32⟩
  | .hbm, ⟨15, _⟩ => ⟨S290x1, .i32⟩
  | .hbm, ⟨16, _⟩ => ⟨S290x1024x2048, .f32⟩
  | .hbm, ⟨17, _⟩ => ⟨S290x256x2048, .f32⟩
  | .hbm, ⟨18, _⟩ => ⟨S_, .i32⟩
  | .hbm, ⟨19, _⟩ => ⟨S290, .i32⟩
  | .hbm, ⟨20, _⟩ => ⟨S290, .i1⟩
  | .hbm, ⟨21, _⟩ => ⟨S_, .i32⟩
  | .hbm, ⟨22, _⟩ => ⟨S290, .i32⟩
  | .hbm, ⟨23, _⟩ => ⟨S290, .i32⟩
  | .hbm, ⟨24, _⟩ => ⟨S290, .i32⟩
  | .hbm, ⟨25, _⟩ => ⟨S290x1, .i32⟩
  | .hbm, ⟨26, _⟩ => ⟨S290x1x2048, .f32⟩
  | .hbm, ⟨27, _⟩ => ⟨S290x256x2048, .f32⟩
  | .hbm, ⟨28, _⟩ => ⟨S290x256x2048, .f32⟩
  | .hbm, ⟨29, _⟩ => ⟨S290x256x1024, .f32⟩
  | .hbm, ⟨30, _⟩ => ⟨S290x256x1024, .f32⟩
  | .hbm, ⟨31, _⟩ => ⟨S_, .f32⟩
  | .hbm, ⟨32, _⟩ => ⟨S290x256x1024, .f32⟩
  | .hbm, ⟨33, _⟩ => ⟨S290x256x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S290x256x1024, .f32⟩
  | .hbm, ⟨38, _⟩ => ⟨S290x256x1024, .f32⟩
  | .hbm, ⟨39, _⟩ => ⟨S_, .f32⟩
  | .hbm, ⟨40, _⟩ => ⟨S290x256x1024, .f32⟩
  | .hbm, ⟨41, _⟩ => ⟨S290x256x1024, .f32⟩
  | .hbm, ⟨42, _⟩ => ⟨S_, .f32⟩
  | .hbm, ⟨43, _⟩ => ⟨S290x256x1024, .f32⟩
  | .hbm, ⟨44, _⟩ => ⟨S290x256x1024, .f32⟩
  | .hbm, ⟨45, _⟩ => ⟨S290x256x1024, .f32⟩
  | .hbm, ⟨46, _⟩ => ⟨S290x256x1024, .f32⟩
  | .hbm, ⟨47, _⟩ => ⟨S_, .f32⟩
  | .hbm, ⟨48, _⟩ => ⟨S290x256x1024, .f32⟩
  | .hbm, ⟨49, _⟩ => ⟨S290x256x1024, .f32⟩
  | .hbm, ⟨50, _⟩ => ⟨S_, .f32⟩
  | .hbm, ⟨51, _⟩ => ⟨S290x256x1024, .f32⟩
  | .hbm, ⟨52, _⟩ => ⟨S290x256x1024, .f32⟩
  | .hbm, ⟨53, _⟩ => ⟨S290x256x1024, .f32⟩
  | .hbm, ⟨54, _⟩ => ⟨S_, .f32⟩
  | .hbm, ⟨55, _⟩ => ⟨S290x256x1024, .f32⟩
  | .hbm, ⟨56, _⟩ => ⟨S290x256x1024, .f32⟩
  | .hbm, ⟨57, _⟩ => ⟨S290x256x1024, .f32⟩
  | .hbm, ⟨58, _⟩ => ⟨S_, .i32⟩
  | .hbm, ⟨59, _⟩ => ⟨S290, .i32⟩
  | .hbm, ⟨60, _⟩ => ⟨S290, .i1⟩
  | .hbm, ⟨61, _⟩ => ⟨S_, .i32⟩
  | .hbm, ⟨62, _⟩ => ⟨S290, .i32⟩
  | .hbm, ⟨63, _⟩ => ⟨S290, .i32⟩
  | .hbm, ⟨64, _⟩ => ⟨S290, .i32⟩
  | .hbm, ⟨65, _⟩ => ⟨S290x1, .i32⟩
  | .hbm, ⟨66, _⟩ => ⟨S290x1024x1024, .f32⟩
  | .hbm, ⟨67, _⟩ => ⟨S290x256x1024, .f32⟩
  | .hbm, ⟨68, _⟩ => ⟨S_, .i32⟩
  | .hbm, ⟨69, _⟩ => ⟨S290, .i32⟩
  | .hbm, ⟨70, _⟩ => ⟨S290, .i1⟩
  | .hbm, ⟨71, _⟩ => ⟨S_, .i32⟩
  | .hbm, ⟨72, _⟩ => ⟨S290, .i32⟩
  | .hbm, ⟨73, _⟩ => ⟨S290, .i32⟩
  | .hbm, ⟨74, _⟩ => ⟨S290, .i32⟩
  | .hbm, ⟨75, _⟩ => ⟨S290x1, .i32⟩
  | .hbm, ⟨76, _⟩ => ⟨S290x1x1024, .f32⟩
  | .hbm, ⟨77, _⟩ => ⟨S290x256x1024, .f32⟩
  | .hbm, ⟨78, _⟩ => ⟨S290x256x1024, .f32⟩
  | .hbm, ⟨79, _⟩ => ⟨S290, .i32⟩
  | .hbm, ⟨80, _⟩ => ⟨S_, .i32⟩
  | .hbm, ⟨81, _⟩ => ⟨S290, .i32⟩
  | .hbm, ⟨82, _⟩ => ⟨S290, .i1⟩
  | .hbm, ⟨83, _⟩ => ⟨S290x1x1, .i1⟩
  | .hbm, ⟨84, _⟩ => ⟨S_, .f32⟩
  | .hbm, ⟨85, _⟩ => ⟨S_, .f32⟩
  | .hbm, ⟨86, _⟩ => ⟨S290x256x1024, .i1⟩
  | .hbm, ⟨87, _⟩ => ⟨S290x256x1024, .f32⟩
  | .hbm, ⟨88, _⟩ => ⟨S290x256x1024, .f32⟩
  | .hbm, ⟨89, _⟩ => ⟨S74240x1024, .f32⟩
  | _, _ => ⟨S290, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_c_10 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_c_12 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_13 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v57 : Ref sig .tc := ⟨.hbm, 88, rfl⟩
abbrev main_v58 : Ref sig .tc := ⟨.hbm, 89, rfl⟩

abbrev nD : Nat := 1
abbrev τ : Topo := Topo.v7x

variable {F : FTy → Type} [FloatOps F]
-- ==== InProj.lean ====
abbrev S16384x1024 : Shape := ⟨2, ![16384, 1024]⟩
abbrev S8x1x6144 : Shape := ⟨3, ![8, 1, 6144]⟩
abbrev S1x1024 : Shape := ⟨2, ![1, 1024]⟩
abbrev S1024x3600 : Shape := ⟨2, ![1024, 3600]⟩
abbrev S16x256 : Shape := ⟨2, ![16, 256]⟩
abbrev S1x256 : Shape := ⟨2, ![1, 256]⟩
abbrev S1024x3584 : Shape := ⟨2, ![1024, 3584]⟩
abbrev S1024x16 : Shape := ⟨2, ![1024, 16]⟩
abbrev S16384x3584 : Shape := ⟨2, ![16384, 3584]⟩
abbrev S16384x256 : Shape := ⟨2, ![16384, 256]⟩
abbrev S512x1024 : Shape := ⟨2, ![512, 1024]⟩
abbrev S1x1x1024 : Shape := ⟨3, ![1, 1, 1024]⟩
abbrev S512x3584 : Shape := ⟨2, ![512, 3584]⟩
abbrev S512x256 : Shape := ⟨2, ![512, 256]⟩
abbrev S512 : Shape := ⟨1, ![512]⟩
abbrev S512x1 : Shape := ⟨2, ![512, 1]⟩
abbrev S512x16 : Shape := ⟨2, ![512, 16]⟩

abbrev nBuf : Space → Nat
  | .hbm => 13
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S8x1x6144, .f32⟩
  | .hbm, ⟨2, _⟩ => ⟨S1x1024, .f32⟩
  | .hbm, ⟨3, _⟩ => ⟨S1024x3600, .f32⟩
  | .hbm, ⟨4, _⟩ => ⟨S16x256, .f32⟩
  | .hbm, ⟨5, _⟩ => ⟨S1x256, .f32⟩
  | .hbm, ⟨6, _⟩ => ⟨S1024x3584, .f32⟩
  | .hbm, ⟨7, _⟩ => ⟨S1024x3584, .bf16⟩
  | .hbm, ⟨8, _⟩ => ⟨S1024x16, .f32⟩
  | .hbm, ⟨9, _⟩ => ⟨S1024x16, .bf16⟩
  | .hbm, ⟨10, _⟩ => ⟨S16x256, .bf16⟩
  | .hbm, ⟨11, _⟩ => ⟨S16384x3584, .f32⟩
  | .hbm, ⟨12, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3584, .bf16⟩
  | .local _ .vmem, ⟨8, _⟩ => ⟨S1024x16, .bf16⟩
  | .local _ .vmem, ⟨9, _⟩ => ⟨S16x256, .bf16⟩
  | .local _ .vmem, ⟨10, _⟩ => ⟨S1x256, .f32⟩
  | .local _ .vmem, ⟨11, _⟩ => ⟨S512x3584, .f32⟩
  | .local _ .vmem, ⟨12, _⟩ => ⟨S512x3584, .f32⟩
  | .local _ .vmem, ⟨13, _⟩ => ⟨S512x256, .f32⟩
  | .local _ .vmem, ⟨14, _⟩ => ⟨S512x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x3584 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InProjRefIdeal.lean ====
abbrev S16384x1024 : Shape := ⟨2, ![16384, 1024]⟩
abbrev S8x1x6144 : Shape := ⟨3, ![8, 1, 6144]⟩
abbrev S1x1024 : Shape := ⟨2, ![1, 1024]⟩
abbrev S1024x3600 : Shape := ⟨2, ![1024, 3600]⟩
abbrev S16x256 : Shape := ⟨2, ![16, 256]⟩
abbrev S1x256 : Shape := ⟨2, ![1, 256]⟩
abbrev S8x2048x1024 : Shape := ⟨3, ![8, 2048, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3600 : Shape := ⟨3, ![8, 2048, 3600]⟩
abbrev S8x2048x16 : Shape := ⟨3, ![8, 2048, 16]⟩
abbrev S8x2048x256 : Shape := ⟨3, ![8, 2048, 256]⟩
abbrev S1x1x256 : Shape := ⟨3, ![1, 1, 256]⟩
abbrev S8x2048x3584 : Shape := ⟨3, ![8, 2048, 3584]⟩
abbrev S16384x3584 : Shape := ⟨2, ![16384, 3584]⟩
abbrev S16384x256 : Shape := ⟨2, ![16384, 256]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x1x6144, .f32⟩
  | .hbm, ⟨2, _⟩ => ⟨S1x1024, .f32⟩
  | .hbm, ⟨3, _⟩ => ⟨S1024x3600, .f32⟩
  | .hbm, ⟨4, _⟩ => ⟨S16x256, .f32⟩
  | .hbm, ⟨5, _⟩ => ⟨S1x256, .f32⟩
  | .hbm, ⟨6, _⟩ => ⟨S8x2048x1024, .f32⟩
  | .hbm, ⟨7, _⟩ => ⟨S8x1x1024, .f32⟩
  | .hbm, ⟨8, _⟩ => ⟨S8x1x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x3600, .f32⟩
  | .hbm, ⟨33, _⟩ => ⟨S8x2048x16, .f32⟩
  | .hbm, ⟨34, _⟩ => ⟨S8x2048x256, .f32⟩
  | .hbm, ⟨35, _⟩ => ⟨S1x1x256, .f32⟩
  | .hbm, ⟨36, _⟩ => ⟨S8x2048x256, .f32⟩
  | .hbm, ⟨37, _⟩ => ⟨S8x2048x256, .f32⟩
  | .hbm, ⟨38, _⟩ => ⟨S8x2048x3584, .f32⟩
  | .hbm, ⟨39, _⟩ => ⟨S16384x3584, .f32⟩
  | .hbm, ⟨40, _⟩ => ⟨S16384x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== AdaMod.lean ====
abbrev S8x1024 : Shape := ⟨2, ![8, 1024]⟩
abbrev S128x1024 : Shape := ⟨2, ![128, 1024]⟩
abbrev S2x1024x6144 : Shape := ⟨3, ![2, 1024, 6144]⟩
abbrev S2x6144 : Shape := ⟨2, ![2, 6144]⟩
abbrev S136x1024 : Shape := ⟨2, ![136, 1024]⟩
abbrev S2x1x6144 : Shape := ⟨3, ![2, 1, 6144]⟩
abbrev S2x136x6144 : Shape := ⟨3, ![2, 136, 6144]⟩
abbrev S1x1024x1536 : Shape := ⟨3, ![1, 1024, 1536]⟩
abbrev S1x1x1536 : Shape := ⟨3, ![1, 1, 1536]⟩
abbrev S1x136x1536 : Shape := ⟨3, ![1, 136, 1536]⟩
abbrev S1024x1536 : Shape := ⟨2, ![1024, 1536]⟩
abbrev S136x1536 : Shape := ⟨2, ![136, 1536]⟩
abbrev S1x1536 : Shape := ⟨2, ![1, 1536]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S2x1024x6144, .f32⟩
  | .hbm, ⟨3, _⟩ => ⟨S2x6144, .f32⟩
  | .hbm, ⟨4, _⟩ => ⟨S136x1024, .f32⟩
  | .hbm, ⟨5, _⟩ => ⟨S2x1x6144, .f32⟩
  | .hbm, ⟨6, _⟩ => ⟨S2x136x6144, .f32⟩
  | .local _ .vmem, ⟨0, _⟩ => ⟨S136x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x136x1536, .f32⟩
  | .local _ .vmem, ⟨6, _⟩ => ⟨S1x136x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x136x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaModRefIdeal.lean ====
abbrev S8x1024 : Shape := ⟨2, ![8, 1024]⟩
abbrev S128x1024 : Shape := ⟨2, ![128, 1024]⟩
abbrev S2x1024x6144 : Shape := ⟨3, ![2, 1024, 6144]⟩
abbrev S2x6144 : Shape := ⟨2, ![2, 6144]⟩
abbrev S136x1024 : Shape := ⟨2, ![136, 1024]⟩
abbrev S_ : Shape := ⟨0, ![]⟩
abbrev S1x1024x6144 : Shape := ⟨3, ![1, 1024, 6144]⟩
abbrev S1024x6144 : Shape := ⟨2, ![1024, 6144]⟩
abbrev S136x6144 : Shape := ⟨2, ![136, 6144]⟩
abbrev S1x6144 : Shape := ⟨2, ![1, 6144]⟩
abbrev S6144 : Shape := ⟨1, ![6144]⟩
abbrev S1x136x6144 : Shape := ⟨3, ![1, 136, 6144]⟩
abbrev S2x136x6144 : Shape := ⟨3, ![2, 136, 6144]⟩

abbrev nBuf : Space → Nat
  | .hbm => 42
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S2x1024x6144, .f32⟩
  | .hbm, ⟨3, _⟩ => ⟨S2x6144, .f32⟩
  | .hbm, ⟨4, _⟩ => ⟨S136x1024, .f32⟩
  | .hbm, ⟨5, _⟩ => ⟨S136x1024, .f32⟩
  | .hbm, ⟨6, _⟩ => ⟨S136x1024, .f32⟩
  | .hbm, ⟨7, _⟩ => ⟨S_, .f32⟩
  | .hbm, ⟨8, _⟩ => ⟨S136x1024, .f32⟩
  | .hbm, ⟨9, _⟩ => ⟨S136x1024, .f32⟩
  | .hbm, ⟨10, _⟩ => ⟨S_, .f32⟩
  | .hbm, ⟨11, _⟩ => ⟨S136x1024, .f32⟩
  | .hbm, ⟨12, _⟩ => ⟨S136x1024, .f32⟩
  | .hbm, ⟨13, _⟩ => ⟨S136x1024, .f32⟩
  | .hbm, ⟨14, _⟩ => ⟨S1x1024x6144, .f32⟩
  | .hbm, ⟨15, _⟩ => ⟨S1024x6144, .f32⟩
  | .hbm, ⟨16, _⟩ => ⟨S136x6144, .f32⟩
  | .hbm, ⟨17, _⟩ => ⟨S1x6144, .f32⟩
  | .hbm, ⟨18, _⟩ => ⟨S6144, .f32⟩
  | .hbm, ⟨19, _⟩ => ⟨S1x6144, .f32⟩
  | .hbm, ⟨20, _⟩ => ⟨S136x6144, .f32⟩
  | .hbm, ⟨21, _⟩ => ⟨S136x6144, .f32⟩
  | .hbm, ⟨22, _⟩ => ⟨S136x1024, .f32⟩
  | .hbm, ⟨23, _⟩ => ⟨S136x1024, .f32⟩
  | .hbm, ⟨24, _⟩ => ⟨S_, .f32⟩
  | .hbm, ⟨25, _⟩ => ⟨S136x1024, .f32⟩
  | .hbm, ⟨26, _⟩ => ⟨S136x1024, .f32⟩
  | .hbm, ⟨27, _⟩ => ⟨S_, .f32⟩
  | .hbm, ⟨28, _⟩ => ⟨S136x1024, .f32⟩
  | .hbm, ⟨29, _⟩ => ⟨S136x1024, .f32⟩
  | .hbm, ⟨30, _⟩ => ⟨S136x1024, .f32⟩
  | .hbm, ⟨31, _⟩ => ⟨S1x1024x6144, .f32⟩
  | .hbm, ⟨32, _⟩ => ⟨S1024x6144, .f32⟩
  | .hbm, ⟨33, _⟩ => ⟨S136x6144, .f32⟩
  | .hbm, ⟨34, _⟩ => ⟨S1x6144, .f32⟩
  | .hbm, ⟨35, _⟩ => ⟨S6144, .f32⟩
  | .hbm, ⟨36, _⟩ => ⟨S1x6144, .f32⟩
  | .hbm, ⟨37, _⟩ => ⟨S136x6144, .f32⟩
  | .hbm, ⟨38, _⟩ => ⟨S136x6144, .f32⟩
  | .hbm, ⟨39, _⟩ => ⟨S1x136x6144, .f32⟩
  | .hbm, ⟨40, _⟩ => ⟨S1x136x6144, .f32⟩
  | .hbm, ⟨41, _⟩ => ⟨S2x136x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]
-- ==== Post.lean ====
abbrev S16384x1024 : Shape := ⟨2, ![16384, 1024]⟩
abbrev S8x1x6144 : Shape := ⟨3, ![8, 1, 6144]⟩
abbrev S1x1024 : Shape := ⟨2, ![1, 1024]⟩
abbrev S1024x1024 : Shape := ⟨2, ![1024, 1024]⟩
abbrev S1024x32 : Shape := ⟨2, ![1024, 32]⟩
abbrev S1x32 : Shape := ⟨2, ![1, 32]⟩
abbrev S16384x4 : Shape := ⟨2, ![16384, 4]⟩
abbrev S512x1024 : Shape := ⟨2, ![512, 1024]⟩
abbrev S1x1x1024 : Shape := ⟨3, ![1, 1, 1024]⟩
abbrev S512x4 : Shape := ⟨2, ![512, 4]⟩
abbrev S512 : Shape := ⟨1, ![512]⟩
abbrev S512x1 : Shape := ⟨2, ![512, 1]⟩
abbrev S512x32 : Shape := ⟨2, ![512, 32]⟩

abbrev nBuf : Space → Nat
  | .hbm => 12
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S8x1x6144, .f32⟩
  | .hbm, ⟨3, _⟩ => ⟨S1x1024, .f32⟩
  | .hbm, ⟨4, _⟩ => ⟨S1024x1024, .f32⟩
  | .hbm, ⟨5, _⟩ => ⟨S1024x32, .f32⟩
  | .hbm, ⟨6, _⟩ => ⟨S1x32, .f32⟩
  | .hbm, ⟨7, _⟩ => ⟨S1024x1024, .bf16⟩
  | .hbm, ⟨8, _⟩ => ⟨S16384x1024, .f32⟩
  | .hbm, ⟨9, _⟩ => ⟨S16384x1024, .f32⟩
  | .hbm, ⟨10, _⟩ => ⟨S16384x4, .i32⟩
  | .hbm, ⟨11, _⟩ => ⟨S16384x4, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x1024, .bf16⟩
  | .local _ .vmem, ⟨12, _⟩ => ⟨S1024x32, .f32⟩
  | .local _ .vmem, ⟨13, _⟩ => ⟨S1x32, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x4, .i32⟩
  | .local _ .vmem, ⟨19, _⟩ => ⟨S512x4, .i32⟩
  | .local _ .vmem, ⟨20, _⟩ => ⟨S512x4, .f32⟩
  | .local _ .vmem, ⟨21, _⟩ => ⟨S512x4, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32_5 : BitVec 32 := 4#32
  let c0_i32_6 : BitVec 32 := 0#32
  ![v16.toNat, c0_i32_4.toNat, c4_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x4 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x4 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PostRefIdeal.lean ====
abbrev S16384x1024 : Shape := ⟨2, ![16384, 1024]⟩
abbrev S8x1x6144 : Shape := ⟨3, ![8, 1, 6144]⟩
abbrev S1x1024 : Shape := ⟨2, ![1, 1024]⟩
abbrev S1024x1024 : Shape := ⟨2, ![1024, 1024]⟩
abbrev S1024x32 : Shape := ⟨2, ![1024, 32]⟩
abbrev S1x32 : Shape := ⟨2, ![1, 32]⟩
abbrev S8x2048x1024 : Shape := ⟨3, ![8, 2048, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x32 : Shape := ⟨2, ![16384, 32]⟩
abbrev S16384x4 : Shape := ⟨2, ![16384, 4]⟩
abbrev S16384 : Shape := ⟨1, ![16384]⟩
abbrev S16384x1 : Shape := ⟨2, ![16384, 1]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S8x1x6144, .f32⟩
  | .hbm, ⟨3, _⟩ => ⟨S1x1024, .f32⟩
  | .hbm, ⟨4, _⟩ => ⟨S1024x1024, .f32⟩
  | .hbm, ⟨5, _⟩ => ⟨S1024x32, .f32⟩
  | .hbm, ⟨6, _⟩ => ⟨S1x32, .f32⟩
  | .hbm, ⟨7, _⟩ => ⟨S8x2048x1024, .f32⟩
  | .hbm, ⟨8, _⟩ => ⟨S8x2048x1024, .bf16⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S8x2048x1, .f32⟩
  | .hbm, ⟨28, _⟩ => ⟨S8x2048x1024, .f32⟩
  | .hbm, ⟨29, _⟩ => ⟨S8x2048x1024, .f32⟩
  | .hbm, ⟨30, _⟩ => ⟨S1x1x1024, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x1x1024, .f32⟩
  | .hbm, ⟨35, _⟩ => ⟨S8x1x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S16384x1024, .f32⟩
  | .hbm, ⟨41, _⟩ => ⟨S16384x32, .f32⟩
  | .hbm, ⟨42, _⟩ => ⟨S16384x32, .f32⟩
  | .hbm, ⟨43, _⟩ => ⟨S16384x32, .f32⟩
  | .hbm, ⟨44, _⟩ => ⟨S16384x4, .f32⟩
  | .hbm, ⟨45, _⟩ => ⟨S16384x4, .i32⟩
  | .hbm, ⟨46, _⟩ => ⟨S16384x1024, .f32⟩
  | .hbm, ⟨47, _⟩ => ⟨S_, .f32⟩
  | .hbm, ⟨48, _⟩ => ⟨S16384, .f32⟩
  | .hbm, ⟨49, _⟩ => ⟨S_, .f32⟩
  | .hbm, ⟨50, _⟩ => ⟨S16384, .f32⟩
  | .hbm, ⟨51, _⟩ => ⟨S16384, .f32⟩
  | .hbm, ⟨52, _⟩ => ⟨S16384x1, .f32⟩
  | .hbm, ⟨53, _⟩ => ⟨S16384x4, .f32⟩
  | .hbm, ⟨54, _⟩ => ⟨S16384x4, .f32⟩
  | .hbm, ⟨55, _⟩ => ⟨S16384x4, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S16384x4, .f32⟩
  | .hbm, ⟨60, _⟩ => ⟨S16384x4, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_values : Ref sig .tc := ⟨.hbm, 44, rfl⟩
abbrev main_indices : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== InProjSample.lean ====
abbrev S128x1024 : Shape := ⟨2, ![128, 1024]⟩
abbrev S128x6144 : Shape := ⟨2, ![128, 6144]⟩
abbrev S1x1024 : Shape := ⟨2, ![1, 1024]⟩
abbrev S1024x3600 : Shape := ⟨2, ![1024, 3600]⟩
abbrev S16x256 : Shape := ⟨2, ![16, 256]⟩
abbrev S1x256 : Shape := ⟨2, ![1, 256]⟩
abbrev S1024x3584 : Shape := ⟨2, ![1024, 3584]⟩
abbrev S1024x16 : Shape := ⟨2, ![1024, 16]⟩
abbrev S128x3584 : Shape := ⟨2, ![128, 3584]⟩
abbrev S128x256 : Shape := ⟨2, ![128, 256]⟩
abbrev S128 : Shape := ⟨1, ![128]⟩
abbrev S128x1 : Shape := ⟨2, ![128, 1]⟩
abbrev S128x16 : Shape := ⟨2, ![128, 16]⟩

abbrev nBuf : Space → Nat
  | .hbm => 13
  | .vmem => 10
  | .smem => 0
  | _ => 0

abbrev bufTy : (tb : Table) → Fin (tcTables nBuf tb) → BufTy
  | .hbm, ⟨0, _⟩ => ⟨S128x1024, .f32⟩
  | .hbm, ⟨1, _⟩ => ⟨S128x6144, .f32⟩
  | .hbm, ⟨2, _⟩ => ⟨S1x1024, .f32⟩
  | .hbm, ⟨3, _⟩ => ⟨S1024x3600, .f32⟩
  | .hbm, ⟨4, _⟩ => ⟨S16x256, .f32⟩
  | .hbm, ⟨5, _⟩ => ⟨S1x256, .f32⟩
  | .hbm, ⟨6, _⟩ => ⟨S1024x3584, .f32⟩
  | .hbm, ⟨7, _⟩ => ⟨S1024x3584, .bf16⟩
  | .hbm, ⟨8, _⟩ => ⟨S1024x16, .f32⟩
  | .hbm, ⟨9, _⟩ => ⟨S1024x16, .bf16⟩
  | .hbm, ⟨10, _⟩ => ⟨S16x256, .bf16⟩
  | .hbm, ⟨11, _⟩ => ⟨S128x3584, .f32⟩
  | .hbm, ⟨12, _⟩ => ⟨S128x256, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S1x1024, .f32⟩
  | .local _ .vmem, ⟨4, _⟩ => ⟨S1024x3584, .bf16⟩
  | .local _ .vmem, ⟨5, _⟩ => ⟨S1024x16, .bf16⟩
  | .local _ .vmem, ⟨6, _⟩ => ⟨S16x256, .bf16⟩
  | .local _ .vmem, ⟨7, _⟩ => ⟨S1x256, .f32⟩
  | .local _ .vmem, ⟨8, _⟩ => ⟨S128x3584, .f32⟩
  | .local _ .vmem, ⟨9, _⟩ => ⟨S128x256, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x3584 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== InProjSampleRefIdeal.lean ====
abbrev S128x1024 : Shape := ⟨2, ![128, 1024]⟩
abbrev S128x6144 : Shape := ⟨2, ![128, 6144]⟩
abbrev S1x1024 : Shape := ⟨2, ![1, 1024]⟩
abbrev S1024x3600 : Shape := ⟨2, ![1024, 3600]⟩
abbrev S16x256 : Shape := ⟨2, ![16, 256]⟩
abbrev S1x256 : Shape := ⟨2, ![1, 256]⟩
abbrev S128x1x1024 : Shape := ⟨3, ![128, 1, 1024]⟩
abbrev S128x1x6144 : Shape := ⟨3, ![128, 1, 6144]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x3600 : Shape := ⟨3, ![128, 1, 3600]⟩
abbrev S128x1x16 : Shape := ⟨3, ![128, 1, 16]⟩
abbrev S128x1x256 : Shape := ⟨3, ![128, 1, 256]⟩
abbrev S1x1x256 : Shape := ⟨3, ![1, 1, 256]⟩
abbrev S128x1x3584 : Shape := ⟨3, ![128, 1, 3584]⟩
abbrev S128x3584 : Shape := ⟨2, ![128, 3584]⟩
abbrev S128x256 : Shape := ⟨2, ![128, 256]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x6144, .f32⟩
  | .hbm, ⟨2, _⟩ => ⟨S1x1024, .f32⟩
  | .hbm, ⟨3, _⟩ => ⟨S1024x3600, .f32⟩
  | .hbm, ⟨4, _⟩ => ⟨S16x256, .f32⟩
  | .hbm, ⟨5, _⟩ => ⟨S1x256, .f32⟩
  | .hbm, ⟨6, _⟩ => ⟨S128x1x1024, .f32⟩
  | .hbm, ⟨7, _⟩ => ⟨S128x1x6144, .f32⟩
  | .hbm, ⟨8, _⟩ => ⟨S128x1x1024, .f32⟩
  | .hbm, ⟨9, _⟩ => ⟨S128x1x1024, .f32⟩
  | .hbm, ⟨10, _⟩ => ⟨S128x1x1024, .f32⟩
  | .hbm, ⟨11, _⟩ => ⟨S_, .f32⟩
  | .hbm, ⟨12, _⟩ => ⟨S128x1, .f32⟩
  | .hbm, ⟨13, _⟩ => ⟨S128x1x1, .f32⟩
  | .hbm, ⟨14, _⟩ => ⟨S_, .f32⟩
  | .hbm, ⟨15, _⟩ => ⟨S128x1x1, .f32⟩
  | .hbm, ⟨16, _⟩ => ⟨S128x1x1, .f32⟩
  | .hbm, ⟨17, _⟩ => ⟨S_, .f32⟩
  | .hbm, ⟨18, _⟩ => ⟨S128x1x1, .f32⟩
  | .hbm, ⟨19, _⟩ => ⟨S128x1x1, .f32⟩
  | .hbm, ⟨20, _⟩ => ⟨S128x1x1, .f32⟩
  | .hbm, ⟨21, _⟩ => ⟨S128x1x1024, .f32⟩
  | .hbm, ⟨22, _⟩ => ⟨S128x1x1024, .f32⟩
  | .hbm, ⟨23, _⟩ => ⟨S1x1x1024, .f32⟩
  | .hbm, ⟨24, _⟩ => ⟨S128x1x1024, .f32⟩
  | .hbm, ⟨25, _⟩ => ⟨S128x1x1024, .f32⟩
  | .hbm, ⟨26, _⟩ => ⟨S_, .f32⟩
  | .hbm, ⟨27, _⟩ => ⟨S128x1x1024, .f32⟩
  | .hbm, ⟨28, _⟩ => ⟨S128x1x1024, .f32⟩
  | .hbm, ⟨29, _⟩ => ⟨S128x1x1024, .f32⟩
  | .hbm, ⟨30, _⟩ => ⟨S128x1x1024, .f32⟩
  | .hbm, ⟨31, _⟩ => ⟨S128x1x3600, .f32⟩
  | .hbm, ⟨32, _⟩ => ⟨S128x1x16, .f32⟩
  | .hbm, ⟨33, _⟩ => ⟨S128x1x256, .f32⟩
  | .hbm, ⟨34, _⟩ => ⟨S1x1x256, .f32⟩
  | .hbm, ⟨35, _⟩ => ⟨S128x1x256, .f32⟩
  | .hbm, ⟨36, _⟩ => ⟨S128x1x256, .f32⟩
  | .hbm, ⟨37, _⟩ => ⟨S128x1x3584, .f32⟩
  | .hbm, ⟨38, _⟩ => ⟨S128x3584, .f32⟩
  | .hbm, ⟨39, _⟩ => ⟨S128x256, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== PostSample.lean ====
abbrev S128x1024 : Shape := ⟨2, ![128, 1024]⟩
abbrev S128x6144 : Shape := ⟨2, ![128, 6144]⟩
abbrev S1x1024 : Shape := ⟨2, ![1, 1024]⟩
abbrev S1024x1024 : Shape := ⟨2, ![1024, 1024]⟩
abbrev S1024x32 : Shape := ⟨2, ![1024, 32]⟩
abbrev S1x32 : Shape := ⟨2, ![1, 32]⟩
abbrev S128x4 : Shape := ⟨2, ![128, 4]⟩
abbrev S128 : Shape := ⟨1, ![128]⟩
abbrev S128x1 : Shape := ⟨2, ![128, 1]⟩
abbrev S128x32 : Shape := ⟨2, ![128, 32]⟩

abbrev nBuf : Space → Nat
  | .hbm => 12
  | .vmem => 13
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .hbm, ⟨2, _⟩ => ⟨S128x6144, .f32⟩
  | .hbm, ⟨3, _⟩ => ⟨S1x1024, .f32⟩
  | .hbm, ⟨4, _⟩ => ⟨S1024x1024, .f32⟩
  | .hbm, ⟨5, _⟩ => ⟨S1024x32, .f32⟩
  | .hbm, ⟨6, _⟩ => ⟨S1x32, .f32⟩
  | .hbm, ⟨7, _⟩ => ⟨S1024x1024, .bf16⟩
  | .hbm, ⟨8, _⟩ => ⟨S128x1024, .f32⟩
  | .hbm, ⟨9, _⟩ => ⟨S128x1024, .f32⟩
  | .hbm, ⟨10, _⟩ => ⟨S128x4, .i32⟩
  | .hbm, ⟨11, _⟩ => ⟨S128x4, .f32⟩
  | .local _ .vmem, ⟨0, _⟩ => ⟨S128x1024, .f32⟩
  | .local _ .vmem, ⟨1, _⟩ => ⟨S128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S1x1024, .f32⟩
  | .local _ .vmem, ⟨6, _⟩ => ⟨S1024x1024, .bf16⟩
  | .local _ .vmem, ⟨7, _⟩ => ⟨S1024x32, .f32⟩
  | .local _ .vmem, ⟨8, _⟩ => ⟨S1x32, .f32⟩
  | .local _ .vmem, ⟨9, _⟩ => ⟨S128x1024, .f32⟩
  | .local _ .vmem, ⟨10, _⟩ => ⟨S128x1024, .f32⟩
  | .local _ .vmem, ⟨11, _⟩ => ⟨S128x4, .i32⟩
  | .local _ .vmem, ⟨12, _⟩ => ⟨S128x4, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x4 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== PostSampleRefIdeal.lean ====
abbrev S128x1024 : Shape := ⟨2, ![128, 1024]⟩
abbrev S128x6144 : Shape := ⟨2, ![128, 6144]⟩
abbrev S1x1024 : Shape := ⟨2, ![1, 1024]⟩
abbrev S1024x1024 : Shape := ⟨2, ![1024, 1024]⟩
abbrev S1024x32 : Shape := ⟨2, ![1024, 32]⟩
abbrev S1x32 : Shape := ⟨2, ![1, 32]⟩
abbrev S128x1x1024 : Shape := ⟨3, ![128, 1, 1024]⟩
abbrev S128x1x6144 : Shape := ⟨3, ![128, 1, 6144]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x32 : Shape := ⟨2, ![128, 32]⟩
abbrev S128x4 : Shape := ⟨2, ![128, 4]⟩
abbrev S128 : Shape := ⟨1, ![128]⟩

abbrev nBuf : Space → Nat
  | .hbm => 59
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .hbm, ⟨2, _⟩ => ⟨S128x6144, .f32⟩
  | .hbm, ⟨3, _⟩ => ⟨S1x1024, .f32⟩
  | .hbm, ⟨4, _⟩ => ⟨S1024x1024, .f32⟩
  | .hbm, ⟨5, _⟩ => ⟨S1024x32, .f32⟩
  | .hbm, ⟨6, _⟩ => ⟨S1x32, .f32⟩
  | .hbm, ⟨7, _⟩ => ⟨S128x1x1024, .f32⟩
  | .hbm, ⟨8, _⟩ => ⟨S128x1x1024, .bf16⟩
  | .hbm, ⟨9, _⟩ => ⟨S128x1x6144, .f32⟩
  | .hbm, ⟨10, _⟩ => ⟨S128x1x1024, .f32⟩
  | .hbm, ⟨11, _⟩ => ⟨S128x1x1024, .f32⟩
  | .hbm, ⟨12, _⟩ => ⟨S128x1x1024, .f32⟩
  | .hbm, ⟨13, _⟩ => ⟨S128x1x1024, .f32⟩
  | .hbm, ⟨14, _⟩ => ⟨S128x1x1024, .f32⟩
  | .hbm, ⟨15, _⟩ => ⟨S128x1x1024, .f32⟩
  | .hbm, ⟨16, _⟩ => ⟨S128x1x1024, .f32⟩
  | .hbm, ⟨17, _⟩ => ⟨S128x1x1024, .f32⟩
  | .hbm, ⟨18, _⟩ => ⟨S_, .f32⟩
  | .hbm, ⟨19, _⟩ => ⟨S128x1, .f32⟩
  | .hbm, ⟨20, _⟩ => ⟨S128x1x1, .f32⟩
  | .hbm, ⟨21, _⟩ => ⟨S_, .f32⟩
  | .hbm, ⟨22, _⟩ => ⟨S128x1x1, .f32⟩
  | .hbm, ⟨23, _⟩ => ⟨S128x1x1, .f32⟩
  | .hbm, ⟨24, _⟩ => ⟨S_, .f32⟩
  | .hbm, ⟨25, _⟩ => ⟨S128x1x1, .f32⟩
  | .hbm, ⟨26, _⟩ => ⟨S128x1x1, .f32⟩
  | .hbm, ⟨27, _⟩ => ⟨S128x1x1, .f32⟩
  | .hbm, ⟨28, _⟩ => ⟨S128x1x1024, .f32⟩
  | .hbm, ⟨29, _⟩ => ⟨S128x1x1024, .f32⟩
  | .hbm, ⟨30, _⟩ => ⟨S1x1x1024, .f32⟩
  | .hbm, ⟨31, _⟩ => ⟨S128x1x1024, .f32⟩
  | .hbm, ⟨32, _⟩ => ⟨S128x1x1024, .f32⟩
  | .hbm, ⟨33, _⟩ => ⟨S_, .f32⟩
  | .hbm, ⟨34, _⟩ => ⟨S128x1x1024, .f32⟩
  | .hbm, ⟨35, _⟩ => ⟨S128x1x1024, .f32⟩
  | .hbm, ⟨36, _⟩ => ⟨S128x1x1024, .f32⟩
  | .hbm, ⟨37, _⟩ => ⟨S128x1x1024, .f32⟩
  | .hbm, ⟨38, _⟩ => ⟨S128x1024, .f32⟩
  | .hbm, ⟨39, _⟩ => ⟨S128x32, .f32⟩
  | .hbm, ⟨40, _⟩ => ⟨S128x32, .f32⟩
  | .hbm, ⟨41, _⟩ => ⟨S128x32, .f32⟩
  | .hbm, ⟨42, _⟩ => ⟨S128x4, .f32⟩
  | .hbm, ⟨43, _⟩ => ⟨S128x4, .i32⟩
  | .hbm, ⟨44, _⟩ => ⟨S128x1024, .f32⟩
  | .hbm, ⟨45, _⟩ => ⟨S_, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128x1, .f32⟩
  | .hbm, ⟨51, _⟩ => ⟨S128x4, .f32⟩
  | .hbm, ⟨52, _⟩ => ⟨S128x4, .f32⟩
  | .hbm, ⟨53, _⟩ => ⟨S128x4, .f32⟩
  | .hbm, ⟨54, _⟩ => ⟨S_, .f32⟩
  | .hbm, ⟨55, _⟩ => ⟨S128, .f32⟩
  | .hbm, ⟨56, _⟩ => ⟨S128x1, .f32⟩
  | .hbm, ⟨57, _⟩ => ⟨S128x4, .f32⟩
  | .hbm, ⟨58, _⟩ => ⟨S128x4, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_values : Ref sig .tc := ⟨.hbm, 42, rfl⟩
abbrev main_indices : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Proof.SampleBody.lean ====
/-
  The sample group's recurrence, one sequence at a time: what the kernel's body computes from one row of the
  projections and that row's two states, and the readings of the body's operations that show it.
-/
module

public import proofs.«01_k».proof.Proof.Gen.KernelIdeal.Value
public import Idealize.ShloMosaic.Lib.Pipeline.ValueKit
public import Idealize.ShloMosaic.Lib.Pointwise
public import Idealize.ShloMosaic.Lib.StableHlo.ReadAt
public import Idealize.ShloMosaic.Lib.WordCmp

@[expose] public section
noncomputable section

namespace Cert.Proof.SampleBody
open Idealize.ShloMosaic Idealize.ShloMosaic.TcCoe Idealize.SL.Sem
open Cert.KernelIdeal Cert.KernelIdeal.Gen

/-! ## One sequence's step, as mathematics -/

/-- The kernel's log of the sigmoid. -/
def logSig (z : EReal) : EReal := min z 0 - Ideal.log1p (Ideal.exp (0 - FloatOps.absf (F := Ideal) (φ := .f32) z))

/-- The sigmoid, as the kernel writes it. -/
def sig (z : EReal) : EReal := Ideal.div 1 (1 + Ideal.exp (0 - z))

/-- The first group's log decay from a gate logit and its lower bound. -/
def logF (z b : EReal) : EReal :=
  max (Ideal.log b) (Ideal.log1p (0 - b) + logSig z)
    + Ideal.log1p (Ideal.exp (min (Ideal.log b) (Ideal.log1p (0 - b) + logSig z)
        - max (Ideal.log b) (Ideal.log1p (0 - b) + logSig z)))

section Row
variable (p : Fin 3584 → EReal) (g : Fin 256 → EReal) (b : Fin 512 → EReal) (wh wg : Fin 128 → EReal)
  (s : Fin 4 → Fin 128 → Fin 128 → EReal) (u : Fin 4 → Fin 64 → Fin 128 → EReal)

/-- The first group's decay, key and query at key column `i` of all heads. -/
def decH (i : Fin 512) : EReal := Ideal.exp (logF (p ⟨512 + i, by omega⟩) (b i))
def keyH (i : Fin 512) : EReal := (1 - b i) * sig (0 - p ⟨512 + i, by omega⟩)
def qryH (i : Fin 512) : EReal := p ⟨i, by omega⟩ * sig (p ⟨i, by omega⟩)

/-- The second group's decay, key and query at key column `i` of all heads. -/
def decG (i : Fin 256) : EReal := Ideal.exp (Ideal.div (logSig (g i)) (Ideal.ofBits .f32 0x41800000#32))
def keyG (i : Fin 256) : EReal := p ⟨2304 + i, by omega⟩
def qryG (i : Fin 256) : EReal := p ⟨2048 + i, by omega⟩ * Ideal.ofBits .f32 0x3e000000#32

/-- Column `d` of head `h` among all heads' columns. -/
def at512 (h : Fin 4) (d : Fin 128) : Fin 512 := ⟨h * 128 + d, by omega⟩
def at256 (h : Fin 4) (d : Fin 64) : Fin 256 := ⟨h * 64 + d, by omega⟩

/-- The first group's new state. -/
def newH (h : Fin 4) (d e : Fin 128) : EReal :=
  decH p b (at512 h d) * s h d e + keyH p b (at512 h d) * p ⟨1024 + h * 128 + e, by omega⟩

/-- The second group's new state. -/
def newG (h : Fin 4) (d : Fin 64) (e : Fin 128) : EReal :=
  decG g (at256 h d) * u h d e + keyG p (at256 h d) * p ⟨2560 + h * 128 + e, by omega⟩

/-- The heads' outputs before their norms. -/
def outH (h : Fin 4) (e : Fin 128) : EReal := ∑ d : Fin 128, qryH p (at512 h d) * newH p b s h d e
def outG (h : Fin 4) (e : Fin 128) : EReal := ∑ d : Fin 64, qryG p (at256 h d) * newG p g u h d e

/-- The same, the eight heads side by side. -/
def heads (c : Fin 1024) : EReal :=
  if hc : c.val < 512 then outH p b s ⟨c / 128, by omega⟩ ⟨c % 128, Nat.mod_lt _ (by omega)⟩
  else outG p g u ⟨(c - 512) / 128, by omega⟩ ⟨c % 128, Nat.mod_lt _ (by omega)⟩

/-- The root-mean-square norm of one head's output `o`, read at one of its entries. -/
def rms (o : Fin 128 → EReal) (w : EReal) (e : Fin 128) : EReal :=
  o e * Ideal.rsqrt (Ideal.div (∑ k : Fin 128, o k * o k) (Ideal.ofBits .f32 0x43000000#32) + Ideal.ofBits .f32 0x358637bd#32) * w

/-- One entry of the result from the eight heads' outputs `o`: the head's norm, times silu of its gate. -/
def gated (o : Fin 1024 → EReal) (w : Fin 128 → EReal) (gate : EReal) (h : Fin 8) (e : Fin 128) : EReal :=
  rms (fun k => o ⟨h * 128 + k, by omega⟩) (w e) e * (gate * sig gate)

end Row

/-! ## The body's named pieces at coordinates -/

variable (v0 : Vec Ideal S1x512 .f32) (z : Vec Ideal S8x512 .f32) (y : Vec Ideal S8x256 .f32) (j : Fin 8)

theorem pay2_apply (i : Fin 512) : k0_pay2 v0 z (ix2 j i) = Ideal.exp (logF (z (ix2 j i)) (v0 (ix2 0 i))) := by
  pointwise [k0_pay2]
  rfl

theorem pay3_apply (i : Fin 512) : k0_pay3 v0 z (ix2 j i) = (1 - v0 (ix2 0 i)) * sig (0 - z (ix2 j i)) := by
  pointwise [k0_pay3]
  rfl

theorem pay6_apply (i : Fin 512) : k0_pay6 z (k0_pay4 z) k0_pay5 (ix2 j i) = z (ix2 j i) * sig (z (ix2 j i)) := by
  pointwise [k0_pay6, k0_pay4, k0_pay5]
  rfl

theorem pay7_apply (i : Fin 256) : k0_pay7 y (ix2 j i) = Ideal.exp (Ideal.div (logSig (y (ix2 j i))) (Ideal.ofBits .f32 0x41800000#32)) := by
  pointwise [k0_pay7]
  rfl

theorem pay8_apply (i : Fin 256) : k0_pay8 y (ix2 j i) = y (ix2 j i) * Ideal.ofBits .f32 0x3e000000#32 := by
  pointwise [k0_pay8]

/-- Where two lane numbers compare equal as words: a choice by the numbers themselves. -/
theorem pick_eq {n : ℕ} (hn : n ≤ 128) (i k : Fin n) (a : EReal) :
    Scalar.select (IntOp.cmpi .eq (BitVec.ofNat 32 i) (BitVec.ofNat 32 k)) a (0 : EReal) = if i = k then a else 0 := by
  have hi : i.val < 2 ^ 32 := by omega
  have hk : k.val < 2 ^ 32 := by omega
  by_cases h : i = k
  · subst h
    rw [if_pos rfl, IntOp.cmpi_eq.2 rfl]; rfl
  · rw [if_neg h, ValueIdx.eq_zero_of_ne_one fun e => h (Fin.ext ((WordCmp.ofNat_eq_ofNat_iff hi hk).1 (IntOp.cmpi_eq.1 e)))]; rfl

/-- A row stood up as a column through the unit matrix: the row's entries. -/
theorem column_h (r : FVec Ideal S1x128 .f32) (i : Fin 128) (l : Fin 1) :
    shapeCast S128x1 (multiReduction (F := Ideal) FKind.add [1] S128 (select k0_pay9 (broadcastTo S128x128 r broadcasts_S1x128_S128x128) (broadcast S128x128 (FloatOps.ofBits FTy.f32 0#32))) 0x00000000#32 reduces_S128x128_S128 (.inl rfl) rfl) shapeCasts_S128_S128x1 (ix2 i l) = r (ix2 0 i) := by
  pointwise [k0_pay9]
  simp only [pick_eq (le_refl 128)]
  rw [Finset.sum_ite_eq, if_pos (Finset.mem_univ _)]

theorem column_g (r : FVec Ideal S1x64 .f32) (i : Fin 64) (l : Fin 1) :
    shapeCast S64x1 (multiReduction (F := Ideal) FKind.add [1] S64 (select k0_pay10 (broadcastTo S64x64 r broadcasts_S1x64_S64x64) (broadcast S64x64 (FloatOps.ofBits FTy.f32 0#32))) 0x00000000#32 reduces_S64x64_S64 (.inl rfl) rfl) shapeCasts_S64_S64x1 (ix2 i l) = r (ix2 0 i) := by
  pointwise [k0_pay10]
  simp only [pick_eq (show 64 ≤ 128 by omega)]
  rw [Finset.sum_ite_eq, if_pos (Finset.mem_univ _)]

/-- Head columns of row `off 0` from lane `off 1` on, stood up as a column. -/
def colH (A : FVec Ideal S8x512 .f32) (off : Fin 2 → ℕ) (hs : S8x512.Slices off S1x128) : FVec Ideal S128x1 .f32 :=
  shapeCast S128x1 (multiReduction (F := Ideal) FKind.add [1] S128 (select k0_pay9 (broadcastTo S128x128
    (shapeCast S1x128 (extractStridedSlice S1x128 off A hs) shapeCasts_S1x128_S1x128) broadcasts_S1x128_S128x128)
    (broadcast S128x128 (FloatOps.ofBits FTy.f32 0#32))) 0x00000000#32 reduces_S128x128_S128 (.inl rfl) rfl) shapeCasts_S128_S128x1

def colG (A : FVec Ideal S8x256 .f32) (off : Fin 2 → ℕ) (hs : S8x256.Slices off S1x64) : FVec Ideal S64x1 .f32 :=
  shapeCast S64x1 (multiReduction (F := Ideal) FKind.add [1] S64 (select k0_pay10 (broadcastTo S64x64
    (shapeCast S1x64 (extractStridedSlice S1x64 off A hs) shapeCasts_S1x64_S1x64) broadcasts_S1x64_S64x64)
    (broadcast S64x64 (FloatOps.ofBits FTy.f32 0#32))) 0x00000000#32 reduces_S64x64_S64 (.inl rfl) rfl) shapeCasts_S64_S64x1

theorem colH_apply (A : FVec Ideal S8x512 .f32) (off : Fin 2 → ℕ) (hs : S8x512.Slices off S1x128)
    (h : Fin 4) (e0 : off 0 = j) (e1 : off 1 = h * 128) (d : Fin 128) (l : Fin 1) :
    colH A off hs (ix2 d l) = A (ix2 j (at512 h d)) := by
  obtain rfl : off = ![j.val, h.val * 128] := by
    funext a; fin_cases a
    · exact e0
    · exact e1
  refine (column_h _ d l).trans ?_
  pointwise []
  rfl

theorem colG_apply (A : FVec Ideal S8x256 .f32) (off : Fin 2 → ℕ) (hs : S8x256.Slices off S1x64)
    (h : Fin 4) (e0 : off 0 = j) (e1 : off 1 = h * 64) (d : Fin 64) (l : Fin 1) :
    colG A off hs (ix2 d l) = A (ix2 j (at256 h d)) := by
  obtain rfl : off = ![j.val, h.val * 64] := by
    funext a; fin_cases a
    · exact e0
    · exact e1
  refine (column_g _ d l).trans ?_
  pointwise []
  rfl

/-- One head's new state as the body writes it: decay times state plus key times value. -/
def stepH (A K : FVec Ideal S8x512 .f32) (v : FVec Ideal S1x128 .f32) (s : FVec Ideal S1x1x128x128 .f32)
    (off : Fin 2 → ℕ) (hs : S8x512.Slices off S1x128) : FVec Ideal S128x128 .f32 :=
  addf (mulf (broadcastTo S128x128 (colH A off hs) broadcasts_S128x1_S128x128) (shapeCast S128x128 s shapeCasts_S1x1x128x128_S128x128))
    (mulf (broadcastTo S128x128 (colH K off hs) broadcasts_S128x1_S128x128) (broadcastTo S128x128 v broadcasts_S1x128_S128x128))

def stepG (A K : FVec Ideal S8x256 .f32) (v : FVec Ideal S1x128 .f32) (s : FVec Ideal S1x1x64x128 .f32)
    (off : Fin 2 → ℕ) (hs : S8x256.Slices off S1x64) : FVec Ideal S64x128 .f32 :=
  addf (mulf (broadcastTo S64x128 (colG A off hs) broadcasts_S64x1_S64x128) (shapeCast S64x128 s shapeCasts_S1x1x64x128_S64x128))
    (mulf (broadcastTo S64x128 (colG K off hs) broadcasts_S64x1_S64x128) (broadcastTo S64x128 v broadcasts_S1x128_S64x128))

theorem stepH_apply (A K : FVec Ideal S8x512 .f32) (v : FVec Ideal S1x128 .f32) (s : FVec Ideal S1x1x128x128 .f32)
    (off : Fin 2 → ℕ) (hs : S8x512.Slices off S1x128) (h : Fin 4) (e0 : off 0 = j) (e1 : off 1 = h * 128) (d e : Fin 128) :
    stepH A K v s off hs (ix2 d e)
      = A (ix2 j (at512 h d)) * s (ix4 0 0 d e) + K (ix2 j (at512 h d)) * v (ix2 0 e) := by
  rw [← colH_apply j A off hs h e0 e1 d 0, ← colH_apply j K off hs h e0 e1 d 0]
  pointwise [stepH]

theorem stepG_apply (A K : FVec Ideal S8x256 .f32) (v : FVec Ideal S1x128 .f32) (s : FVec Ideal S1x1x64x128 .f32)
    (off : Fin 2 → ℕ) (hs : S8x256.Slices off S1x64) (h : Fin 4) (e0 : off 0 = j) (e1 : off 1 = h * 64) (d : Fin 64) (e : Fin 128) :
    stepG A K v s off hs (ix2 d e)
      = A (ix2 j (at256 h d)) * s (ix4 0 0 d e) + K (ix2 j (at256 h d)) * v (ix2 0 e) := by
  rw [← colG_apply j A off hs h e0 e1 d 0, ← colG_apply j K off hs h e0 e1 d 0]
  pointwise [stepG]

/-- One head's output as the body stores it: the query's column against the new state, summed. -/
def sumH (Q A K : FVec Ideal S8x512 .f32) (v : FVec Ideal S1x128 .f32) (s : FVec Ideal S1x1x128x128 .f32)
    (off : Fin 2 → ℕ) (hs : S8x512.Slices off S1x128) : FVec Ideal S1x128 .f32 :=
  shapeCast S1x128 (shapeCast S1x128 (multiReduction (F := Ideal) FKind.add [0] S128
    (mulf (broadcastTo S128x128 (colH Q off hs) broadcasts_S128x1_S128x128) (stepH A K v s off hs)) 0x00000000#32 reduces_S128x128_S128_2 (.inl rfl) rfl)
    shapeCasts_S128_S1x128) shapeCasts_S1x128_S1x128

def sumG (Q A K : FVec Ideal S8x256 .f32) (v : FVec Ideal S1x128 .f32) (s : FVec Ideal S1x1x64x128 .f32)
    (off : Fin 2 → ℕ) (hs : S8x256.Slices off S1x64) : FVec Ideal S1x128 .f32 :=
  shapeCast S1x128 (shapeCast S1x128 (multiReduction (F := Ideal) FKind.add [0] S128
    (mulf (broadcastTo S64x128 (colG Q off hs) broadcasts_S64x1_S64x128) (stepG A K v s off hs)) 0x00000000#32 reduces_S64x128_S128 (.inl rfl) rfl)
    shapeCasts_S128_S1x128) shapeCasts_S1x128_S1x128

theorem sumH_apply (Q A K : FVec Ideal S8x512 .f32) (v : FVec Ideal S1x128 .f32) (s : FVec Ideal S1x1x128x128 .f32)
    (off : Fin 2 → ℕ) (hs : S8x512.Slices off S1x128) (h : Fin 4) (e0 : off 0 = j) (e1 : off 1 = h * 128) (l : Fin 1) (e : Fin 128) :
    sumH Q A K v s off hs (ix2 l e)
      = ∑ d : Fin 128, Q (ix2 j (at512 h d)) * (A (ix2 j (at512 h d)) * s (ix4 0 0 d e) + K (ix2 j (at512 h d)) * v (ix2 0 e)) := by
  pointwise [sumH]
  refine Finset.sum_congr rfl fun d _ => ?_
  rw [colH_apply j Q off hs h e0 e1, stepH_apply j A K v s off hs h e0 e1]

theorem sumG_apply (Q A K : FVec Ideal S8x256 .f32) (v : FVec Ideal S1x128 .f32) (s : FVec Ideal S1x1x64x128 .f32)
    (off : Fin 2 → ℕ) (hs : S8x256.Slices off S1x64) (h : Fin 4) (e0 : off 0 = j) (e1 : off 1 = h * 64) (l : Fin 1) (e : Fin 128) :
    sumG Q A K v s off hs (ix2 l e)
      = ∑ d : Fin 64, Q (ix2 j (at256 h d)) * (A (ix2 j (at256 h d)) * s (ix4 0 0 d e) + K (ix2 j (at256 h d)) * v (ix2 0 e)) := by
  pointwise [sumG]
  refine Finset.sum_congr rfl fun d _ => ?_
  rw [colG_apply j Q off hs h e0 e1, stepG_apply j A K v s off hs h e0 e1]

/-- One head's norm and gate as the body stores them. -/
def gate (w : FVec Ideal S1x128 .f32) (a o : FVec Ideal S8x128 .f32) : FVec Ideal S8x128 .bf16 :=
  truncf .bf16 (mulf (mulf (mulf o (broadcastTo S8x128 (rsqrt (addf (divf (shapeCast S8x1 (multiReduction (F := Ideal) .add [1] S8 (mulf o o) 0x00000000#32
      reduces_S8x128_S8 (.inl rfl) rfl) shapeCasts_S8_S8x1) (broadcast S8x1 (Scalar.ofBits .f32 0x43000000#32))) (broadcast S8x1 (Scalar.ofBits .f32 0x358637BD#32))))
      broadcasts_S8x1_S8x128)) (broadcastTo S8x128 w broadcasts_S1x128_S8x128))
    (mulf a (divf (broadcast S8x128 (Scalar.ofBits .f32 0x3F800000#32)) (addf (broadcast S8x128 (Scalar.ofBits .f32 0x3F800000#32))
      (exp (subf (broadcast S8x128 (Scalar.ofBits .f32 0x00000000#32)) a)))))) bitsLt_bf16_f32

theorem gate_apply (w : FVec Ideal S1x128 .f32) (a o : FVec Ideal S8x128 .f32) (e : Fin 128) :
    gate w a o (ix2 j e) = rms (fun k => o (ix2 j k)) (w (ix2 0 e)) e * (a (ix2 j e) * sig (a (ix2 j e))) := by
  pointwise [gate]
  rfl

end Cert.Proof.SampleBody
end
-- ==== Proof.SampleBlock.lean ====
/-
  What one grid point of the sample group's recurrence leaves in its output blocks: eight sequences, each by the step of
  one sequence on its own rows of the input blocks.
-/
module

public import proofs.«01_k».proof.Proof.SampleBody
public import Idealize.ShloMosaic.Lib.Pipeline.ReadBack

@[expose] public section
noncomputable section

namespace Cert.Proof.SampleBlock
open Idealize.ShloMosaic Idealize.ShloMosaic.TcCoe Idealize.SL.Sem
open Idealize.ShloMosaic.Pipeline (Dat)
open Cert.KernelIdeal Cert.KernelIdeal.Gen Cert.Proof.SampleBody

variable (m : (ℓ : Loc nD τ sig) → Buf (Elt Ideal) ℓ) (c : Dev nD) (t : Fin cfg0.N)

/-- Row `j` of the point's blocks: the projections, the gate logits, the lower bounds, the norms' weights, the states. -/
def pR (j : Fin 8) (k : Fin 3584) : EReal := iblk m c 0 t (ix2 j k)
def gR (j : Fin 8) (k : Fin 256) : EReal := iblk m c 1 t (ix2 j k)
def bR (k : Fin 512) : EReal := iblk m c 2 t (ix2 0 k)
def whR (k : Fin 128) : EReal := iblk m c 3 t (ix2 0 k)
def wgR (k : Fin 128) : EReal := iblk m c 4 t (ix2 0 k)
def sR (j : Fin 8) (h : Fin 4) (d e : Fin 128) : EReal := iblk m c 5 t (ix4 j h d e)
def uR (j : Fin 8) (h : Fin 4) (d : Fin 64) (e : Fin 128) : EReal := iblk m c 6 t (ix4 j h d e)

variable (j : Fin 8)

/-- A load of some lanes of the projections, at an entry. -/
theorem ld_p (off size : Fin 2 → ℕ) (inb : ∀ a, off a + size a ≤ S8x3584.size a) (x : (Rect.unit (s := S8x3584) off size inb).shape.Idx) (i : Fin 3584)
    (h0 : j.val = off 0 + x 0) (h1 : i.val = off 1 + x 1) :
    View.ld (iblk m c 0 t) (Rect.unit off size inb) x = pR m c t j i :=
  View.ld_unit_apply_of _ _ _ _ x _ fun a => by
    match a with
    | 0 => exact h0
    | 1 => exact h1

/-- A load of one head's state of one sequence, at an entry. -/
theorem ld_s (off size : Fin 4 → ℕ) (inb : ∀ a, off a + size a ≤ S8x4x128x128.size a) (x : (Rect.unit (s := S8x4x128x128) off size inb).shape.Idx)
    (h : Fin 4) (d e : Fin 128) (h0 : j.val = off 0 + x 0) (h1 : h.val = off 1 + x 1) (h2 : d.val = off 2 + x 2) (h3 : e.val = off 3 + x 3) :
    View.ld (iblk m c 5 t) (Rect.unit off size inb) x = sR m c t j h d e :=
  View.ld_unit_apply_of _ _ _ _ x _ fun a => by
    match a with
    | 0 => exact h0
    | 1 => exact h1
    | 2 => exact h2
    | 3 => exact h3

theorem ld_u (off size : Fin 4 → ℕ) (inb : ∀ a, off a + size a ≤ S8x4x64x128.size a) (x : (Rect.unit (s := S8x4x64x128) off size inb).shape.Idx)
    (h : Fin 4) (d : Fin 64) (e : Fin 128) (h0 : j.val = off 0 + x 0) (h1 : h.val = off 1 + x 1) (h2 : d.val = off 2 + x 2) (h3 : e.val = off 3 + x 3) :
    View.ld (iblk m c 6 t) (Rect.unit off size inb) x = uR m c t j h d e :=
  View.ld_unit_apply_of _ _ _ _ x _ fun a => by
    match a with
    | 0 => exact h0
    | 1 => exact h1
    | 2 => exact h2
    | 3 => exact h3

/-- The lane of the projections where head `h`'s value `e` stands. -/
def vH (h : Fin 4) (e : Fin 128) : Fin 3584 := ⟨1024 + h * 128 + e, by omega⟩
def vG (h : Fin 4) (e : Fin 128) : Fin 3584 := ⟨2560 + h * 128 + e, by omega⟩

/-- One head's new state as a tile of the output block. -/
theorem stepH_tile (A K : FVec Ideal S8x512 .f32) (v : FVec Ideal S1x128 .f32) (s : FVec Ideal S1x1x128x128 .f32)
    (off : Fin 2 → ℕ) (hs : S8x512.Slices off S1x128) (h : Fin 4) (x : S1x1x128x128.Idx) (d e : Fin 128)
    (e0 : off 0 = j) (e1 : off 1 = h * 128) (hd : d.val = x 2) (he : e.val = x 3) :
    shapeCast S1x1x128x128 (stepH A K v s off hs) shapeCasts_S128x128_S1x1x128x128 x
      = A (ix2 j (at512 h d)) * s (ix4 0 0 d e) + K (ix2 j (at512 h d)) * v (ix2 0 e) := by
  obtain ⟨x0, x1, x2, x3, rfl⟩ : ∃ x0 x1 x2 x3, x = ix4 x0 x1 x2 x3 := ⟨_, _, _, _, eq_ix4 (n0 := 1) (n1 := 1) (n2 := 128) (n3 := 128) x⟩
  obtain rfl : d = x2 := Fin.ext hd
  obtain rfl : e = x3 := Fin.ext he
  rw [← stepH_apply j A K v s off hs h e0 e1]
  pointwise []

theorem stepG_tile (A K : FVec Ideal S8x256 .f32) (v : FVec Ideal S1x128 .f32) (s : FVec Ideal S1x1x64x128 .f32)
    (off : Fin 2 → ℕ) (hs : S8x256.Slices off S1x64) (h : Fin 4) (x : S1x1x64x128.Idx) (d : Fin 64) (e : Fin 128)
    (e0 : off 0 = j) (e1 : off 1 = h * 64) (hd : d.val = x 2) (he : e.val = x 3) :
    shapeCast S1x1x64x128 (stepG A K v s off hs) shapeCasts_S64x128_S1x1x64x128 x
      = A (ix2 j (at256 h d)) * s (ix4 0 0 d e) + K (ix2 j (at256 h d)) * v (ix2 0 e) := by
  obtain ⟨x0, x1, x2, x3, rfl⟩ : ∃ x0 x1 x2 x3, x = ix4 x0 x1 x2 x3 := ⟨_, _, _, _, eq_ix4 (n0 := 1) (n1 := 1) (n2 := 64) (n3 := 128) x⟩
  obtain rfl : d = x2 := Fin.ext hd
  obtain rfl : e = x3 := Fin.ext he
  rw [← stepG_apply j A K v s off hs h e0 e1]
  pointwise []

/-- The body's decays, keys and queries at row `j` of the block. -/
theorem decH_blk (i : Fin 512) :
    k0_pay2 (iblk m c 2 t) (View.ld (iblk m c 0 t) (Rect.unit ![0, 512] ![8, 512] inb_S8x3584_S8x512_0_512)) (ix2 j i)
      = decH (pR m c t j) (bR m c t) i := by
  have hz : ∀ z, z = pR m c t j ⟨512 + i, by omega⟩ → Ideal.exp (logF z (bR m c t i)) = decH (pR m c t j) (bR m c t) i := by rintro _ rfl; rfl
  refine (pay2_apply _ _ j i).trans (hz _ ?_)
  exact ld_p m c t j _ _ _ _ _ (by simp) (by simp)

theorem keyH_blk (i : Fin 512) :
    k0_pay3 (iblk m c 2 t) (View.ld (iblk m c 0 t) (Rect.unit ![0, 512] ![8, 512] inb_S8x3584_S8x512_0_512)) (ix2 j i)
      = keyH (pR m c t j) (bR m c t) i := by
  have hz : ∀ z, z = pR m c t j ⟨512 + i, by omega⟩ → (1 - bR m c t i) * SampleBody.sig (0 - z) = keyH (pR m c t j) (bR m c t) i := by rintro _ rfl; rfl
  refine (pay3_apply _ _ j i).trans (hz _ ?_)
  exact ld_p m c t j _ _ _ _ _ (by simp) (by simp)

theorem qryH_blk (i : Fin 512) :
    k0_pay6 (View.ld (iblk m c 0 t) (Rect.unit ![0, 0] ![8, 512] inb_S8x3584_S8x512_0_0))
        (k0_pay4 (View.ld (iblk m c 0 t) (Rect.unit ![0, 0] ![8, 512] inb_S8x3584_S8x512_0_0))) k0_pay5 (ix2 j i)
      = qryH (pR m c t j) i := by
  have hz : ∀ z, z = pR m c t j ⟨i, by omega⟩ → z * SampleBody.sig z = qryH (pR m c t j) i := by rintro _ rfl; rfl
  refine (pay6_apply _ j i).trans (hz _ ?_)
  exact ld_p m c t j _ _ _ _ _ (by simp) (by simp)

theorem decG_blk (i : Fin 256) : k0_pay7 (iblk m c 1 t) (ix2 j i) = decG (gR m c t j) i := pay7_apply _ j i

theorem keyG_blk (i : Fin 256) :
    View.ld (iblk m c 0 t) (Rect.unit ![0, 2304] ![8, 256] inb_S8x3584_S8x256_0_2304) (ix2 j i) = keyG (pR m c t j) i :=
  ld_p m c t j _ _ _ _ _ (by simp) (by simp)

theorem qryG_blk (i : Fin 256) :
    k0_pay8 (View.ld (iblk m c 0 t) (Rect.unit ![0, 2048] ![8, 256] inb_S8x3584_S8x256_0_2048)) (ix2 j i)
      = qryG (pR m c t j) i := by
  have hz : ∀ z, z = pR m c t j ⟨2048 + i, by omega⟩ → z * Ideal.ofBits .f32 0x3e000000#32 = qryG (pR m c t j) i := by rintro _ rfl; rfl
  refine (pay8_apply _ j i).trans (hz _ ?_)
  exact ld_p m c t j _ _ _ _ _ (by simp) (by simp)

/-! ## The new states' blocks -/

set_option maxHeartbeats 4000000 in
/-- The first group's new state: thirty-two tiles, one per sequence and head. -/
theorem after8_at (y : S8x4x128x128.Idx) (h : Fin 4) (d e : Fin 128)
    (y0 : j.val = y 0) (y1 : h.val = y 1) (y2 : d.val = y 2) (y3 : e.val = y 3) :
    (dats m 0 c).after 8 t y = newH (pR m c t j) (bR m c t) (sR m c t j) h d e := by
  refine Eq.trans (b := k0_pay2 (iblk m c 2 t) (View.ld (iblk m c 0 t) (Rect.unit ![0, 512] ![8, 512] inb_S8x3584_S8x512_0_512)) (ix2 j (at512 h d))
    * sR m c t j h d e
    + k0_pay3 (iblk m c 2 t) (View.ld (iblk m c 0 t) (Rect.unit ![0, 512] ![8, 512] inb_S8x3584_S8x512_0_512)) (ix2 j (at512 h d))
    * pR m c t j (vH h e)) ?_ ?_
  · rw [after0_8]
    unfold outsAt0
    frame_out
    canon_tiles x h
    all_goals open_payloads
    all_goals
      refine (stepH_tile j _ _ _ _ _ _ h x d e ?_ ?_ (y2.trans h2) (y3.trans h3)).trans
        (congrArg₂ (· + ·) (congrArg _ (ld_s m c t j _ _ _ _ h d e ?_ ?_ ?_ ?_)) (congrArg _ (ld_p m c t j _ _ _ _ _ ?_ ?_))) <;>
        simp [vH] <;> omega
  · rw [decH_blk, keyH_blk]; rfl

set_option maxHeartbeats 4000000 in
/-- The second group's new state, likewise. -/
theorem after9_at (y : S8x4x64x128.Idx) (h : Fin 4) (d : Fin 64) (e : Fin 128)
    (y0 : j.val = y 0) (y1 : h.val = y 1) (y2 : d.val = y 2) (y3 : e.val = y 3) :
    (dats m 0 c).after 9 t y = newG (pR m c t j) (gR m c t j) (uR m c t j) h d e := by
  refine Eq.trans (b := k0_pay7 (iblk m c 1 t) (ix2 j (at256 h d)) * uR m c t j h d e
    + keyG (pR m c t j) (at256 h d) * pR m c t j (vG h e)) ?_ ?_
  · rw [after0_9]
    unfold outsAt0
    frame_out
    canon_tiles x h
    all_goals open_payloads
    all_goals
      refine (stepG_tile j _ _ _ _ _ _ h x d e ?_ ?_ (y2.trans h2) (y3.trans h3)).trans
        (congrArg₂ (· + ·) (congrArg _ (ld_u m c t j _ _ _ _ h d e ?_ ?_ ?_ ?_))
          (congrArg₂ (· * ·) (keyG_blk m c t j _) (ld_p m c t j _ _ _ _ _ ?_ ?_))) <;>
        simp [vG] <;> omega
  · rw [decG_blk]; rfl

/-! ## The heads' outputs before their norms -/

/-- One head's output as a stored row, given that its operands read the head's query, decay, key, value and state. -/
theorem outH_tile (Q A K : FVec Ideal S8x512 .f32) (v : FVec Ideal S1x128 .f32) (s : FVec Ideal S1x1x128x128 .f32)
    (off : Fin 2 → ℕ) (hs : S8x512.Slices off S1x128) (x : S1x128.Idx) (h : Fin 4) (e : Fin 128) (e0 : off 0 = j) (e1 : off 1 = h * 128)
    (he : e.val = x 1) (hQ : ∀ i, Q (ix2 j i) = qryH (pR m c t j) i) (hA : ∀ i, A (ix2 j i) = decH (pR m c t j) (bR m c t) i)
    (hK : ∀ i, K (ix2 j i) = keyH (pR m c t j) (bR m c t) i) (hv : v (ix2 0 e) = pR m c t j (vH h e))
    (hS : ∀ d, s (ix4 0 0 d e) = sR m c t j h d e) :
    sumH Q A K v s off hs x = outH (pR m c t j) (bR m c t) (sR m c t j) h e := by
  obtain ⟨x0, x1, rfl⟩ : ∃ x0 x1, x = ix2 x0 x1 := ⟨_, _, eq_ix2 (n0 := 1) (n1 := 128) x⟩
  obtain rfl : e = x1 := Fin.ext he
  rw [sumH_apply j Q A K v s off hs h e0 e1]
  refine Finset.sum_congr rfl fun d _ => ?_
  rw [hQ, hA, hK, hv, hS]
  rfl

theorem outG_tile (Q A K : FVec Ideal S8x256 .f32) (v : FVec Ideal S1x128 .f32) (s : FVec Ideal S1x1x64x128 .f32)
    (off : Fin 2 → ℕ) (hs : S8x256.Slices off S1x64) (x : S1x128.Idx) (h : Fin 4) (e : Fin 128) (e0 : off 0 = j) (e1 : off 1 = h * 64)
    (he : e.val = x 1) (hQ : ∀ i, Q (ix2 j i) = qryG (pR m c t j) i) (hA : ∀ i, A (ix2 j i) = decG (gR m c t j) i)
    (hK : ∀ i, K (ix2 j i) = keyG (pR m c t j) i) (hv : v (ix2 0 e) = pR m c t j (vG h e))
    (hS : ∀ d, s (ix4 0 0 d e) = uR m c t j h d e) :
    sumG Q A K v s off hs x = outG (pR m c t j) (gR m c t j) (uR m c t j) h e := by
  obtain ⟨x0, x1, rfl⟩ : ∃ x0 x1, x = ix2 x0 x1 := ⟨_, _, eq_ix2 (n0 := 1) (n1 := 128) x⟩
  obtain rfl : e = x1 := Fin.ext he
  rw [sumG_apply j Q A K v s off hs h e0 e1]
  refine Finset.sum_congr rfl fun d _ => ?_
  rw [hQ, hA, hK, hv, hS]
  rfl

/-- The body's stores of the eight sequences' head outputs, one row of one head each. -/
def scrL := (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t)).2.2.2.1

set_option maxHeartbeats 8000000 in
/-- The first group's heads in the stored rows. -/
theorem scratchH (y : S8x1024.Idx) (h : Fin 4) (e : Fin 128) (y0 : j.val = y 0) (y1 : (y 1).val = h * 128 + e) :
    View.canon (scrL m c t) y = outH (pR m c t j) (bR m c t) (sR m c t j) h e := by
  unfold scrL
  dsimp only [kernelRun0_A]
  frame_out
  canon_tiles x q
  all_goals first
    | (exfalso; omega)
    | (open_payloads
       refine outH_tile m c t j _ _ _ _ _ _ _ x h e ?_ ?_ ?_ (qryH_blk m c t j) (decH_blk m c t j) (keyH_blk m c t j)
         (ld_p m c t j _ _ _ _ _ ?_ ?_) (fun d => ld_s m c t j _ _ _ _ h d e ?_ ?_ ?_ ?_) <;> simp [vH] <;> omega)

set_option maxHeartbeats 8000000 in
/-- The second group's heads. -/
theorem scratchG (y : S8x1024.Idx) (h : Fin 4) (e : Fin 128) (y0 : j.val = y 0) (y1 : (y 1).val = 512 + h * 128 + e) :
    View.canon (scrL m c t) y = outG (pR m c t j) (gR m c t j) (uR m c t j) h e := by
  unfold scrL
  dsimp only [kernelRun0_A]
  frame_out
  canon_tiles x q
  all_goals first
    | (exfalso; omega)
    | (open_payloads
       refine outG_tile m c t j _ _ _ _ _ _ _ x h e ?_ ?_ ?_ (qryG_blk m c t j) (decG_blk m c t j) (keyG_blk m c t j)
         (ld_p m c t j _ _ _ _ _ ?_ ?_) (fun d => ld_u m c t j _ _ _ _ h d e ?_ ?_ ?_ ?_) <;> simp [vG] <;> omega)

/-- The stored rows hold the heads' outputs side by side. -/
theorem scratch (l : Fin 1024) : View.canon (scrL m c t) (ix2 j l)
    = heads (pR m c t j) (gR m c t j) (bR m c t) (sR m c t j) (uR m c t j) l := by
  unfold heads
  split_ifs with hl
  · exact scratchH m c t j _ _ _ rfl (by show l.val = l.val / 128 * 128 + l.val % 128; omega)
  · exact scratchG m c t j _ _ _ rfl (by show l.val = 512 + (l.val - 512) / 128 * 128 + l.val % 128; omega)

/-! ## The result's block -/

/-- One head's norm and gate as a tile of the result's block, over stores holding the heads' outputs `o`. -/
theorem gate_tile (w : FVec Ideal S1x128 .f32) (a : FVec Ideal S8x128 .f32) (o : Fin 8 → Fin 1024 → EReal)
    (L : List (View.Piece (Elt Ideal) S8x1024 .f32)) (hL : ∀ j l, View.canon L (ix2 j l) = o j l) (off : Fin 2 → ℕ)
    (inb : ∀ a, off a + (![8, 128] : Fin 2 → ℕ) a ≤ S8x1024.size a) (x : S8x128.Idx) (h : Fin 8) (e : Fin 128)
    (o0 : off 0 = 0) (o1 : off 1 = h * 128) (hj : j.val = x 0) (he : e.val = x 1) :
    gate w a ((View.whole cc0_scratch0).readCov L (Rect.unit (s := S8x1024) off ![8, 128] inb).toLoadRect) x
      = gated (o j) (fun k => w (ix2 0 k)) (a (ix2 j e)) h e := by
  obtain ⟨x0, x1, rfl⟩ : ∃ x0 x1, x = ix2 x0 x1 := ⟨_, _, eq_ix2 (n0 := 8) (n1 := 128) x⟩
  obtain rfl : j = x0 := Fin.ext hj
  obtain rfl : e = x1 := Fin.ext he
  have hr : ∀ k : Fin 128, (View.whole cc0_scratch0).readCov L (Rect.unit (s := S8x1024) off ![8, 128] inb).toLoadRect (ix2 j k)
      = o j ⟨h * 128 + k, by omega⟩ := fun k => by
    rw [View.readCov_eq_canon', ← hL]
    refine congrArg (View.canon L) (funext fun a => Fin.ext ((Rect.idx_unit_val off _ inb _ a).trans ?_))
    match a with
    | 0 => exact (congrArg (· + j.val) o0).trans (Nat.zero_add _)
    | 1 => exact congrArg (· + k.val) o1
  refine (gate_apply j w a _ e).trans ?_
  unfold gated
  simp only [hr]

end Cert.Proof.SampleBlock
end
-- ==== Proof.SampleOut.lean ====
/-
  The result's block of one grid point: the heads' outputs, read back from the rows the body stored, under their norms
  and gates.
-/
module

public import proofs.«01_k».proof.Proof.SampleBlock

@[expose] public section
noncomputable section

namespace Cert.Proof.SampleOut
open Idealize.ShloMosaic Idealize.ShloMosaic.TcCoe Idealize.SL.Sem
open Idealize.ShloMosaic.Pipeline (Dat)
open Cert.KernelIdeal Cert.KernelIdeal.Gen Cert.Proof.SampleBody Cert.Proof.SampleBlock

variable (m : (ℓ : Loc nD τ sig) → Buf (Elt Ideal) ℓ) (c : Dev nD) (t : Fin cfg0.N) (j : Fin 8)

/-- The lane of the projections where head `h`'s output gate `e` stands, and the head's norm's weights. -/
def gateLane (h : Fin 8) (e : Fin 128) : Fin 3584 :=
  ⟨if h.val < 4 then 1536 + h * 128 + e else 2560 + h * 128 + e, by split_ifs <;> omega⟩
def wR (h : Fin 8) : Fin 128 → EReal := if h.val < 4 then whR m c t else wgR m c t

/-- The result's block is eight tiles, each a head's norm and gate over one list of stored rows, which holds the heads'
outputs. -/
theorem after7_at (y : S8x1024.Idx) (h : Fin 8) (e : Fin 128) (y0 : j.val = y 0) (y1 : (y 1).val = h * 128 + e) :
    (dats m 0 c).after 7 t y = gated (heads (pR m c t j) (gR m c t j) (bR m c t) (sR m c t j) (uR m c t j)) (wR m c t h)
      (pR m c t j (gateLane h e)) h e := by
  have hL := scratch m c t
  unfold scrL at hL
  dsimp only [kernelRun0_A] at hL
  rw [after0_7]
  unfold outsAt0
  dsimp only [out0_A_7, kernelRun0_A]
  simp only [kernelRun0_A.sl.r_134, kernelRun0_A.sl.r_133, kernelRun0_A.sl.r_143, kernelRun0_A.sl.r_141, kernelRun0_A.sl.r_137,
    kernelRun0_A.sl.r_136, kernelRun0_A.sl.v2631, kernelRun0_A.sl.v2657, kernelRun0_A.sl.v2683, kernelRun0_A.sl.v2709,
    kernelRun0_A.sl.v2735, kernelRun0_A.sl.v2761, kernelRun0_A.sl.v2787, kernelRun0_A.sl.v2813]
  generalize kernelRun0_A.sl.HS0_64 (F := Ideal) c _ _ _ _ _ _ _ _ _ _ _ _ _ _ _ = L at hL ⊢
  frame_out
  canon_tiles x q
  all_goals open_payloads
  all_goals
    refine (gate_tile j _ _ _ L hL _ _ x h e ?_ ?_ ?_ ?_).trans ?_
    · first | rfl | simp
    · simp; omega
    · exact y0.trans q0
    · omega
    · refine congrArg₂ (fun w g => gated _ w g h e) ?_ (ld_p m c t j _ _ _ _ _ ?_ ?_)
      · unfold wR
        first
          | rw [if_pos (show h.val < 4 by omega)]; rfl
          | rw [if_neg (show ¬ h.val < 4 by omega)]; rfl
      · simp
      · unfold gateLane
        first
          | (simp [if_pos (show h.val < 4 by omega)]; omega)
          | (simp [if_neg (show ¬ h.val < 4 by omega)]; omega)

end Cert.Proof.SampleOut
end
-- ==== Proof.SampleValue.lean ====
/-
  The value of the sample group's recurrence: after the run the result and the two new states are functions of the
  arguments, sequence by sequence.
-/
module

public import proofs.«01_k».proof.Proof.SampleOut

@[expose] public section
noncomputable section

namespace Cert.Proof.SampleValue
open Idealize.ShloMosaic Idealize.ShloMosaic.TcCoe Idealize.SL.Sem
open Idealize.ShloMosaic.Pipeline (Dat)
open Cert.KernelIdeal Cert.KernelIdeal.Gen Cert.Proof.SampleBody Cert.Proof.SampleBlock Cert.Proof.SampleOut

section Val
variable (pm : S128x3584.Idx → EReal) (gl : S128x256.Idx → EReal) (lb : S1x512.Idx → EReal) (gh gg : S1x128.Idx → EReal)
  (sh : S128x4x128x128.Idx → EReal) (sg : S128x4x64x128.Idx → EReal)

/-- Sequence `n`'s row of an argument. -/
def row {w : ℕ} (x : (⟨2, ![128, w]⟩ : Shape).Idx → EReal) (n : Fin 128) (k : Fin w) : EReal := x (ix2 n k)
def one {w : ℕ} (x : (⟨2, ![1, w]⟩ : Shape).Idx → EReal) (k : Fin w) : EReal := x (ix2 0 k)
def stH (n : Fin 128) (h : Fin 4) (d e : Fin 128) : EReal := sh (ix4 n h d e)
def stG (n : Fin 128) (h : Fin 4) (d : Fin 64) (e : Fin 128) : EReal := sg (ix4 n h d e)

/-- The new states. -/
def newHVal (i : S128x4x128x128.Idx) : EReal := newH (row pm (i 0)) (one lb) (stH sh (i 0)) (i 1) (i 2) (i 3)
def newGVal (i : S128x4x64x128.Idx) : EReal := newG (row pm (i 0)) (row gl (i 0)) (stG sg (i 0)) (i 1) (i 2) (i 3)

/-- Sequence `n`'s result at head `h`, entry `e`. -/
def outAt (n : Fin 128) (h : Fin 8) (e : Fin 128) : EReal :=
  gated (heads (row pm n) (row gl n) (one lb) (stH sh n) (stG sg n)) (one (if h.val < 4 then gh else gg))
    (row pm n (gateLane h e)) h e

/-- The whole result: the eight heads side by side. -/
def outVal (i : S128x1024.Idx) : EReal :=
  outAt pm gl lb gh gg sh sg (i 0) ⟨(i 1).val / 128, by have h : (i 1).val < 1024 := (i 1).isLt; omega⟩
    ⟨(i 1).val % 128, Nat.mod_lt _ (by omega)⟩

end Val

variable (m : (ℓ : Loc nD τ sig) → Buf (Elt Ideal) ℓ) (ρ : Dev nD → PrngReg) (c : Dev nD)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0, 0, 0] := (by decide +kernel : ∀ t : Fin grid0.N, _)
theorem idx6 : ∀ t : Fin cfg0.N, win0_6.index t = ![t.val, 0, 0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0, 0, 0] := (by decide +kernel : ∀ t : Fin grid0.N, _)
theorem idx9 : ∀ t : Fin cfg0.N, win0_9.index t = ![t.val, 0, 0, 0] := (by decide +kernel : ∀ t : Fin grid0.N, _)

theorem lt16 (t : Fin cfg0.N) : t.val < 16 := t.isLt

/-- Row `j` of grid point `t`: the sequence it is. -/
def seq (t : Fin cfg0.N) (j : Fin 8) : Fin 128 := ⟨t.val * 8 + j, by have := lt16 t; omega⟩

theorem pR_eq (t : Fin cfg0.N) (j : Fin 8) : pR m c t j = row (m ((c : Thread nD τ).loc main_arg0)) (seq t j) := by
  funext k
  unfold pR
  blk_simp [iblk]
  rw [V_main_arg0]
  unfold row
  congr 1
  blk_ext [idx0, seq]

theorem gR_eq (t : Fin cfg0.N) (j : Fin 8) : gR m c t j = row (m ((c : Thread nD τ).loc main_arg1)) (seq t j) := by
  funext k
  unfold gR
  blk_simp [iblk]
  rw [V_main_arg1]
  unfold row
  congr 1
  blk_ext [idx1, seq]

theorem bR_eq (t : Fin cfg0.N) : bR m c t = one (m ((c : Thread nD τ).loc main_arg2)) := by
  funext k
  unfold bR
  blk_simp [iblk]
  rw [V_main_arg2]
  unfold one
  congr 1
  blk_ext [idx2]

theorem wR_eq (t : Fin cfg0.N) (h : Fin 8) : wR m c t h
    = one (if h.val < 4 then m ((c : Thread nD τ).loc main_arg3) else m ((c : Thread nD τ).loc main_arg4)) := by
  unfold wR
  split_ifs
  · funext k
    unfold whR
    blk_simp [iblk]
    rw [V_main_arg3]
    unfold one
    congr 1
    blk_ext [idx3]
  · funext k
    unfold wgR
    blk_simp [iblk]
    rw [V_main_arg4]
    unfold one
    congr 1
    blk_ext [idx4]

theorem sR_eq (t : Fin cfg0.N) (j : Fin 8) : sR m c t j = stH (m ((c : Thread nD τ).loc main_arg5)) (seq t j) := by
  funext h d e
  unfold sR
  blk_simp [iblk]
  rw [V_main_arg5]
  unfold stH
  congr 1
  blk_ext [idx5, seq]

theorem uR_eq (t : Fin cfg0.N) (j : Fin 8) : uR m c t j = stG (m ((c : Thread nD τ).loc main_arg6)) (seq t j) := by
  funext h d e
  unfold uR
  blk_simp [iblk]
  rw [V_main_arg6]
  unfold stG
  congr 1
  blk_ext [idx6, seq]

/-- The output blocks of one grid point, as parts of the arrays. -/
theorem block8 (t : Fin cfg0.N) (j : Fin 8) (h : Fin 4) (d e : Fin 128) : (dats m 0 c).after 8 t (ix4 j h d e)
    = newHVal (m ((c : Thread nD τ).loc main_arg0)) (m ((c : Thread nD τ).loc main_arg2)) (m ((c : Thread nD τ).loc main_arg5)) (ix4 (seq t j) h d e) := by
  refine (after8_at m c t j (ix4 j h d e) h d e rfl rfl rfl rfl).trans ?_
  rw [pR_eq, bR_eq, sR_eq]
  rfl

theorem block9 (t : Fin cfg0.N) (j : Fin 8) (h : Fin 4) (d : Fin 64) (e : Fin 128) : (dats m 0 c).after 9 t (ix4 j h d e)
    = newGVal (m ((c : Thread nD τ).loc main_arg0)) (m ((c : Thread nD τ).loc main_arg1)) (m ((c : Thread nD τ).loc main_arg6)) (ix4 (seq t j) h d e) := by
  refine (after9_at m c t j (ix4 j h d e) h d e rfl rfl rfl rfl).trans ?_
  rw [pR_eq, gR_eq, uR_eq]
  rfl

theorem block7 (t : Fin cfg0.N) (j : Fin 8) (l : Fin 1024) : (dats m 0 c).after 7 t (ix2 j l)
    = outVal (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (ix2 (seq t j) l) := by
  refine (after7_at m c t j (ix2 j l) ⟨l.val / 128, by omega⟩ ⟨l.val % 128, Nat.mod_lt _ (by omega)⟩ rfl
    (by show l.val = l.val / 128 * 128 + l.val % 128; omega)).trans ?_
  rw [pR_eq, gR_eq, bR_eq, wR_eq, sR_eq, uR_eq]
  rfl

/-- The arrays after the run. -/
theorem final8 : (dats m 0 c).arrAt 8 cfg0.N = newHVal (m ((c : Thread nD τ).loc main_arg0)) (m ((c : Thread nD τ).loc main_arg2)) (m ((c : Thread nD τ).loc main_arg5)) := by
  refine (dats m 0 c).arrAt_eq_of_covers 8 _ (by decide +kernel) fun t hf y => ?_
  blk_simp
  refine (congrArg _ (eq_ix4 (n0 := 8) (n1 := 4) (n2 := 128) (n3 := 128) y)).trans
    ((block8 m c t (y 0) (y 1) (y 2) (y 3)).trans (congrArg (newHVal _ _ _) ?_))
  blk_ext [idx8, seq]

theorem final9 : (dats m 0 c).arrAt 9 cfg0.N = newGVal (m ((c : Thread nD τ).loc main_arg0)) (m ((c : Thread nD τ).loc main_arg1)) (m ((c : Thread nD τ).loc main_arg6)) := by
  refine (dats m 0 c).arrAt_eq_of_covers 9 _ (by decide +kernel) fun t hf y => ?_
  blk_simp
  refine (congrArg _ (eq_ix4 (n0 := 8) (n1 := 4) (n2 := 64) (n3 := 128) y)).trans
    ((block9 m c t (y 0) (y 1) (y 2) (y 3)).trans (congrArg (newGVal _ _ _) ?_))
  blk_ext [idx9, seq]

theorem final7 : (dats m 0 c).arrAt 7 cfg0.N = outVal (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  refine (congrArg _ (eq_ix2 (n0 := 8) (n1 := 1024) y)).trans
    ((block7 m c t (y 0) (y 1)).trans (congrArg (outVal _ _ _ _ _ _ _) ?_))
  blk_ext [idx7, seq]

/-- The kernel's run: the results at these functions of the arguments, the arguments unchanged. -/
theorem run : θ_run defs (onTc (τ := τ) (main (F := Ideal))) ⟨m, fun _ => 0, ρ⟩ fun r => ∀ c : Dev nD,
      r.2.mem ((c : Thread nD τ).loc main_v0_0)
        = outVal (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_v0_1)
        = newHVal (m ((c : Thread nD τ).loc main_arg0)) (m ((c : Thread nD τ).loc main_arg2)) (m ((c : Thread nD τ).loc main_arg5))
      ∧ r.2.mem ((c : Thread nD τ).loc main_v0_2)
        = newGVal (m ((c : Thread nD τ).loc main_arg0)) (m ((c : Thread nD τ).loc main_arg1)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final7 m c), (h c).2.1.trans (final8 m c), (h c).2.2.1.trans (final9 m c), (h c).2.2.2⟩)
    (Value.run_blocks m ρ)

end Cert.Proof.SampleValue
end
-- ==== Proof.SampleRef.lean ====
/-
  The reference of the sample group's recurrence, its operations read index by index.
-/
module

public import proofs.«01_k».proof.Proof.SampleValue
public import proofs.«01_k».proof.Proof.Gen.ReferenceIdeal.Run

@[expose] public section
noncomputable section

namespace Cert.Proof.SampleRef
open Idealize.ShloMosaic Idealize.ShloMosaic.TcCoe Idealize.SL.Sem
open Cert.ReferenceIdeal Cert.ReferenceIdeal.Gen Cert.Proof.SampleBody Cert.Proof.SampleValue

/-! ## Its operations, in pieces -/

/-- Some lanes of the projections as four heads. -/
def cutH (pm : FVec Ideal S128x3584 .f32) (o : ℕ) (hs : S128x3584.Slices ![0, o] S128x512) : FVec Ideal S128x4x128 .f32 :=
  shapeCast _ (extractStridedSlice (s := S128x3584) S128x512 ![0, o] pm hs) shapeCasts_S128x512_S128x4x128
def cutG (pm : FVec Ideal S128x3584 .f32) (o : ℕ) (hs : S128x3584.Slices ![0, o] S128x256) : FVec Ideal S128x4x64 .f32 :=
  shapeCast _ (extractStridedSlice (s := S128x3584) S128x256 ![0, o] pm hs) shapeCasts_S128x256_S128x4x64

/-- The log of a sum of two exponentials. -/
def lae (x y : FVec Ideal S128x4x128 .f32) : FVec Ideal S128x4x128 .f32 :=
  select (cmpf .une (subf x y) (subf x y)) (addf x y) (addf (maximumf x y) (Host.log1p (Host.exp (Host.negf (Host.absf (subf x y))))))
def laeG (x y : FVec Ideal S128x256 .f32) : FVec Ideal S128x256 .f32 :=
  select (cmpf .une (subf x y) (subf x y)) (addf x y) (addf (maximumf x y) (Host.log1p (Host.exp (Host.negf (Host.absf (subf x y))))))

/-- The sigmoid. -/
def sgm (x : FVec Ideal S128x4x128 .f32) : FVec Ideal S128x4x128 .f32 :=
  Host.divf (broadcastInDim S128x4x128 ![] bcast_S_S128x4x128 (constant S_ .f32 0x3F800000#32)) (addf (broadcastInDim S128x4x128 ![] bcast_S_S128x4x128 (constant S_ .f32 0x3F800000#32)) (Host.exp (Host.negf x)))

/-- The lower bounds' log and the log of what is left, over all sequences. -/
def logLo (lb : FVec Ideal S1x512 .f32) : FVec Ideal S128x4x128 .f32 :=
  broadcastInDim S128x4x128 ![0, 1, 2] bcast_S1x4x128_S128x4x128_0_1_2 (broadcastInDim S1x4x128 ![1, 2] bcast_S4x128_S1x4x128_1_2 (Host.log (shapeCast _ lb shapeCasts_S1x512_S4x128)))
def logUp (lb : FVec Ideal S1x512 .f32) : FVec Ideal S128x4x128 .f32 :=
  broadcastInDim S128x4x128 ![0, 1, 2] bcast_S1x4x128_S128x4x128_0_1_2 (broadcastInDim S1x4x128 ![1, 2] bcast_S4x128_S1x4x128_1_2 (Host.log1p (Host.negf (shapeCast _ lb shapeCasts_S1x512_S4x128))))

/-- The first group's log decays, keys and queries. -/
def bH (pm : FVec Ideal S128x3584 .f32) (lb : FVec Ideal S1x512 .f32) : FVec Ideal S128x4x128 .f32 :=
  lae (logLo lb) (addf (logUp lb) (Host.negf (lae (Host.negf (cutH pm 512 slices_S128x3584_S128x512_0_512)) (broadcastInDim S128x4x128 ![] bcast_S_S128x4x128 (constant S_ .f32 0x00000000#32)))))
def kH (pm : FVec Ideal S128x3584 .f32) (lb : FVec Ideal S1x512 .f32) : FVec Ideal S128x4x128 .f32 :=
  mulf (broadcastInDim S128x4x128 ![0, 1, 2] bcast_S1x4x128_S128x4x128_0_1_2 (broadcastInDim S1x4x128 ![1, 2] bcast_S4x128_S1x4x128_1_2 (subf (broadcastInDim S4x128 ![] bcast_S_S4x128 (constant S_ .f32 0x3F800000#32)) (shapeCast _ lb shapeCasts_S1x512_S4x128)))) (sgm (Host.negf (cutH pm 512 slices_S128x3584_S128x512_0_512)))
def silu (x : FVec Ideal S128x4x128 .f32) : FVec Ideal S128x4x128 .f32 := mulf x (sgm x)

/-- The second group's log decays and queries. -/
def bG (gl : FVec Ideal S128x256 .f32) : FVec Ideal S128x4x64 .f32 :=
  Host.divf (shapeCast _ (Host.negf (laeG (Host.negf gl) (broadcastInDim S128x256 ![] bcast_S_S128x256 (constant S_ .f32 0x00000000#32)))) shapeCasts_S128x256_S128x4x64) (broadcastInDim S128x4x64 ![] bcast_S_S128x4x64 (constant S_ .f32 0x41800000#32))
def qG (pm : FVec Ideal S128x3584 .f32) : FVec Ideal S128x4x64 .f32 :=
  mulf (cutG pm 2048 slices_S128x3584_S128x256_0_2048) (broadcastInDim S128x4x64 ![] bcast_S_S128x4x64 (constant S_ .f32 0x3E000000#32))

/-- One token's output and new state from its query, key, value, log decay and the state before it. -/
def stepOH (q k v b : FVec Ideal S128x4x128 .f32) (s : FVec Ideal S128x4x128x128 .f32) : FVec Ideal S128x4x128 .f32 :=
  addf (mulf (broadcastInDim S128x4x128 ![0, 1, 2] bcast_S128x4x1_S128x4x128_0_1_2 (broadcastInDim S128x4x1 ![0, 1] bcast_S128x4_S128x4x1_0_1 (Host.reduceAdd (mulf (mulf q k) (Host.exp (subf b b))) (constant S_ .f32 0x00000000#32) reducesTo_S128x4x128_S128x4_d2 h_S_))) v) (Host.dotGeneral dot_S128x4x128_S128x4x128x128_S128x4x128_2_2_n_3_01_01 none (mulf q (Host.exp b)) s)
def stepOG (q k : FVec Ideal S128x4x64 .f32) (v : FVec Ideal S128x4x128 .f32) (b : FVec Ideal S128x4x64 .f32) (s : FVec Ideal S128x4x64x128 .f32) : FVec Ideal S128x4x128 .f32 :=
  addf (mulf (broadcastInDim S128x4x128 ![0, 1, 2] bcast_S128x4x1_S128x4x128_0_1_2 (broadcastInDim S128x4x1 ![0, 1] bcast_S128x4_S128x4x1_0_1 (Host.reduceAdd (mulf (mulf q k) (Host.exp (subf b b))) (constant S_ .f32 0x00000000#32) reducesTo_S128x4x64_S128x4_d2 h_S_))) v) (Host.dotGeneral dot_S128x4x64_S128x4x64x128_S128x4x128_2_2_n_3_01_01 none (mulf q (Host.exp b)) s)
def stepSH (k v b : FVec Ideal S128x4x128 .f32) (s : FVec Ideal S128x4x128x128 .f32) : FVec Ideal S128x4x128x128 .f32 :=
  addf (mulf (broadcastInDim S128x4x128x128 ![0, 1, 2, 3] bcast_S128x4x128x1_S128x4x128x128_0_1_2_3 (broadcastInDim S128x4x128x1 ![0, 1, 2] bcast_S128x4x128_S128x4x128x1_0_1_2 (Host.exp b))) s) (mulf (broadcastInDim S128x4x128x128 ![0, 1, 2, 3] bcast_S128x4x128x1_S128x4x128x128_0_1_2_3 (broadcastInDim S128x4x128x1 ![0, 1, 2] bcast_S128x4x128_S128x4x128x1_0_1_2 (mulf k (Host.exp (subf b b))))) (broadcastInDim S128x4x128x128 ![0, 1, 2, 3] bcast_S128x4x1x128_S128x4x128x128_0_1_2_3 (broadcastInDim S128x4x1x128 ![0, 1, 3] bcast_S128x4x128_S128x4x1x128_0_1_3 v)))
def stepSG (k : FVec Ideal S128x4x64 .f32) (v : FVec Ideal S128x4x128 .f32) (b : FVec Ideal S128x4x64 .f32) (s : FVec Ideal S128x4x64x128 .f32) : FVec Ideal S128x4x64x128 .f32 :=
  addf (mulf (broadcastInDim S128x4x64x128 ![0, 1, 2, 3] bcast_S128x4x64x1_S128x4x64x128_0_1_2_3 (broadcastInDim S128x4x64x1 ![0, 1, 2] bcast_S128x4x64_S128x4x64x1_0_1_2 (Host.exp b))) s) (mulf (broadcastInDim S128x4x64x128 ![0, 1, 2, 3] bcast_S128x4x64x1_S128x4x64x128_0_1_2_3 (broadcastInDim S128x4x64x1 ![0, 1, 2] bcast_S128x4x64_S128x4x64x1_0_1_2 (mulf k (Host.exp (subf b b))))) (broadcastInDim S128x4x64x128 ![0, 1, 2, 3] bcast_S128x4x1x128_S128x4x64x128_0_1_2_3 (broadcastInDim S128x4x1x128 ![0, 1, 3] bcast_S128x4x128_S128x4x1x128_0_1_3 v)))

/-- The norm of the heads' outputs and their gate. -/
def norm (o : FVec Ideal S128x4x128 .f32) (w : FVec Ideal S1x128 .f32) (g : FVec Ideal S128x4x128 .f32) : FVec Ideal S128x4x128 .f32 :=
  mulf (mulf (mulf o (broadcastInDim S128x4x128 ![0, 1, 2] bcast_S128x4x1_S128x4x128_0_1_2 (Host.rsqrt (addf (Host.divf (broadcastInDim S128x4x1 ![0, 1] bcast_S128x4_S128x4x1_0_1 (Host.reduceAdd (mulf o o) (constant S_ .f32 0x00000000#32) reducesTo_S128x4x128_S128x4_d2 h_S_)) (broadcastInDim S128x4x1 ![] bcast_S_S128x4x1 (constant S_ .f32 0x43000000#32))) (broadcastInDim S128x4x1 ![] bcast_S_S128x4x1 (constant S_ .f32 0x358637BD#32)))))) (broadcastInDim S128x4x128 ![0, 1, 2] bcast_S1x1x128_S128x4x128_0_1_2 (broadcastInDim S1x1x128 ![1, 2] bcast_S1x128_S1x1x128_1_2 w))) (silu g)
def join (a b : FVec Ideal S128x4x128 .f32) : FVec Ideal S128x1024 .bf16 :=
  truncf .bf16 (concatenate S128x1024 1 [⟨S128x512, (shapeCast _ a shapeCasts_S128x4x128_S128x512)⟩, ⟨S128x512, (shapeCast _ b shapeCasts_S128x4x128_S128x512)⟩] concatenates_S128x512_S128x512_S128x1024_d1) bitsLt_bf16_f32

/-! ## The pieces at coordinates -/

section
variable (n : Fin 128) (h : Fin 4)

theorem cutH_apply (pm : FVec Ideal S128x3584 .f32) (o : ℕ) (hs) (ho : o ≤ 3072) (d : Fin 128) :
    cutH pm o hs (ix3 n h d) = pm (ix2 n ⟨o + (h * 128 + d), by omega⟩) := by
  pointwise [cutH]

theorem cutG_apply (pm : FVec Ideal S128x3584 .f32) (o : ℕ) (hs) (ho : o ≤ 3072) (d : Fin 64) :
    cutG pm o hs (ix3 n h d) = pm (ix2 n ⟨o + (h * 64 + d), by omega⟩) := by
  pointwise [cutG]

/-- The log of a sum of two exponentials, of two numbers. -/
def laeR (x y : EReal) : EReal := max x y + Ideal.log1p (Ideal.exp (-(FloatOps.absf (F := Ideal) (φ := .f32) (x - y))))

theorem lae_apply (x y : FVec Ideal S128x4x128 .f32) (d : Fin 128) : lae x y (ix3 n h d) = laeR (x (ix3 n h d)) (y (ix3 n h d)) := by
  pointwise [lae]
  simp
  rfl

theorem laeG_apply (x y : FVec Ideal S128x256 .f32) (i : Fin 256) : laeG x y (ix2 n i) = laeR (x (ix2 n i)) (y (ix2 n i)) := by
  pointwise [laeG]
  simp
  rfl

theorem sgm_apply (x : FVec Ideal S128x4x128 .f32) (d : Fin 128) :
    sgm x (ix3 n h d) = SampleBody.sig (x (ix3 n h d)) := by
  pointwise [sgm]
  unfold SampleBody.sig
  rw [zero_sub]

theorem logLo_apply (lb : FVec Ideal S1x512 .f32) (d : Fin 128) : logLo lb (ix3 n h d) = Ideal.log (lb (ix2 0 (at512 h d))) := by
  pointwise [logLo]
  rfl

theorem logUp_apply (lb : FVec Ideal S1x512 .f32) (d : Fin 128) : logUp lb (ix3 n h d) = Ideal.log1p (-(lb (ix2 0 (at512 h d)))) := by
  pointwise [logUp]
  rfl

theorem stepOH_apply (q k v b : FVec Ideal S128x4x128 .f32) (s : FVec Ideal S128x4x128x128 .f32) (e : Fin 128) :
    stepOH q k v b s (ix3 n h e) = (∑ d : Fin 128, q (ix3 n h d) * k (ix3 n h d) * Ideal.exp (b (ix3 n h d) - b (ix3 n h d))) * v (ix3 n h e)
      + ∑ d : Fin 128, q (ix3 n h d) * Ideal.exp (b (ix3 n h d)) * s (ix4 n h d e) := by
  pointwise [stepOH]

theorem stepOG_apply (q k : FVec Ideal S128x4x64 .f32) (v : FVec Ideal S128x4x128 .f32) (b : FVec Ideal S128x4x64 .f32) (s : FVec Ideal S128x4x64x128 .f32) (e : Fin 128) :
    stepOG q k v b s (ix3 n h e) = (∑ d : Fin 64, q (ix3 n h d) * k (ix3 n h d) * Ideal.exp (b (ix3 n h d) - b (ix3 n h d))) * v (ix3 n h e)
      + ∑ d : Fin 64, q (ix3 n h d) * Ideal.exp (b (ix3 n h d)) * s (ix4 n h d e) := by
  pointwise [stepOG]

theorem stepSH_apply (k v b : FVec Ideal S128x4x128 .f32) (s : FVec Ideal S128x4x128x128 .f32) (d e : Fin 128) :
    stepSH k v b s (ix4 n h d e) = Ideal.exp (b (ix3 n h d)) * s (ix4 n h d e) + k (ix3 n h d) * Ideal.exp (b (ix3 n h d) - b (ix3 n h d)) * v (ix3 n h e) := by
  pointwise [stepSH]

theorem stepSG_apply (k : FVec Ideal S128x4x64 .f32) (v : FVec Ideal S128x4x128 .f32) (b : FVec Ideal S128x4x64 .f32) (s : FVec Ideal S128x4x64x128 .f32) (d : Fin 64) (e : Fin 128) :
    stepSG k v b s (ix4 n h d e) = Ideal.exp (b (ix3 n h d)) * s (ix4 n h d e) + k (ix3 n h d) * Ideal.exp (b (ix3 n h d) - b (ix3 n h d)) * v (ix3 n h e) := by
  pointwise [stepSG]

theorem norm_apply (o : FVec Ideal S128x4x128 .f32) (w : FVec Ideal S1x128 .f32) (g : FVec Ideal S128x4x128 .f32) (e : Fin 128) :
    norm o w g (ix3 n h e) = rms (fun k => o (ix3 n h k)) (w (ix2 0 e)) e * (g (ix3 n h e) * SampleBody.sig (g (ix3 n h e))) := by
  rw [← sgm_apply n h g e]
  pointwise [norm, silu]
  rfl

theorem join_apply (a b : FVec Ideal S128x4x128 .f32) (l : Fin 1024) : join a b (ix2 n l)
    = if hl : l.val < 512 then a (ix3 n ⟨l / 128, by omega⟩ ⟨l % 128, Nat.mod_lt _ (by omega)⟩)
      else b (ix3 n ⟨(l - 512) / 128, by omega⟩ ⟨l % 128, Nat.mod_lt _ (by omega)⟩) := by
  pointwise [join]
  by_cases hl : l.val < 512
  · simp only [hl, dite_true]
  · simp only [hl, dite_false]
    exact congrArg b (congrArg (ix3 n _) (Fin.ext (show (l.val - 512) % 128 = l.val % 128 by omega)))

end

/-! ## Its results -/

/-- The first group's new state, the second group's, and the gated outputs. -/
def refH (pm : FVec Ideal S128x3584 .f32) (lb : FVec Ideal S1x512 .f32) (s : FVec Ideal S128x4x128x128 .f32) : FVec Ideal S128x4x128x128 .f32 :=
  stepSH (kH pm lb) (cutH pm 1024 slices_S128x3584_S128x512_0_1024) (bH pm lb) s
def refG (pm : FVec Ideal S128x3584 .f32) (gl : FVec Ideal S128x256 .f32) (u : FVec Ideal S128x4x64x128 .f32) : FVec Ideal S128x4x64x128 .f32 :=
  stepSG (cutG pm 2304 slices_S128x3584_S128x256_0_2304) (cutH pm 2560 slices_S128x3584_S128x512_0_2560) (bG gl) u
def refO (pm : FVec Ideal S128x3584 .f32) (gl : FVec Ideal S128x256 .f32) (lb : FVec Ideal S1x512 .f32) (gh gg : FVec Ideal S1x128 .f32)
    (s : FVec Ideal S128x4x128x128 .f32) (u : FVec Ideal S128x4x64x128 .f32) : FVec Ideal S128x1024 .bf16 :=
  join
    (norm (stepOH (silu (cutH pm 0 slices_S128x3584_S128x512_0_0)) (kH pm lb) (cutH pm 1024 slices_S128x3584_S128x512_0_1024) (bH pm lb) s)
      gh (cutH pm 1536 slices_S128x3584_S128x512_0_1536))
    (norm (stepOG (qG pm) (cutG pm 2304 slices_S128x3584_S128x256_0_2304) (cutH pm 2560 slices_S128x3584_S128x512_0_2560) (bG gl) u)
      gg (cutH pm 3072 slices_S128x3584_S128x512_0_3072))

variable (m : (ℓ : Loc nD τ sig) → Buf (Elt Ideal) ℓ) (ρ : Dev nD → PrngReg)

/-- The reference computes those three arrays of its arguments and leaves its arguments as they were. -/
theorem run : θ_run defs (onTc (τ := τ) (main (F := Ideal))) ⟨m, fun _ => 0, ρ⟩ fun r => ∀ c : Dev nD,
      r.2.mem ((c : Thread nD τ).loc main_v140)
        = refO (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5)) (m ((c : Thread nD τ).loc main_arg6))
      ∧ r.2.mem ((c : Thread nD τ).loc main_v70) = refH (m ((c : Thread nD τ).loc main_arg0)) (m ((c : Thread nD τ).loc main_arg2)) (m ((c : Thread nD τ).loc main_arg5))
      ∧ r.2.mem ((c : Thread nD τ).loc main_v120) = refG (m ((c : Thread nD τ).loc main_arg0)) (m ((c : Thread nD τ).loc main_arg1)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans rfl, (h c).2.1.trans rfl, (h c).2.2.1.trans rfl, (h c).2.2.2⟩) (Value.run m ρ)

end Cert.Proof.SampleRef
end
-- ==== Proof.SampleReal.lean ====
/-
  Numbers of the sample group's recurrence: which are real, and where the two ways of writing a log of a sum agree.
-/
module

public import proofs.«01_k».proof.Proof.SampleRef

@[expose] public section
noncomputable section

namespace Cert.Proof.SampleReal
open Idealize.ShloMosaic Cert.Proof.SampleBody Cert.Proof.SampleRef

/-- A number that is neither infinity. -/
def IsReal (x : EReal) : Prop := ∃ r : ℝ, x = (r : EReal)

theorem absf_eq (x : EReal) : FloatOps.absf (F := Ideal) (φ := .f32) x = max x (-x) := rfl

theorem isReal_mul {x y : EReal} (hx : IsReal x) (hy : IsReal y) : IsReal (x * y) := by
  obtain ⟨a, rfl⟩ := hx; obtain ⟨b, rfl⟩ := hy; exact ⟨a * b, (EReal.coe_mul a b).symm⟩
theorem isReal_add {x y : EReal} (hx : IsReal x) (hy : IsReal y) : IsReal (x + y) := by
  obtain ⟨a, rfl⟩ := hx; obtain ⟨b, rfl⟩ := hy; exact ⟨a + b, (EReal.coe_add a b).symm⟩
theorem isReal_sub {x y : EReal} (hx : IsReal x) (hy : IsReal y) : IsReal (x - y) := by
  obtain ⟨a, rfl⟩ := hx; obtain ⟨b, rfl⟩ := hy; exact ⟨a - b, (EReal.coe_sub a b).symm⟩
theorem isReal_neg {x : EReal} (hx : IsReal x) : IsReal (-x) := by
  obtain ⟨a, rfl⟩ := hx; exact ⟨-a, (EReal.coe_neg a).symm⟩
theorem isReal_exp {x : EReal} (hx : IsReal x) : IsReal (Ideal.exp x) := by
  obtain ⟨a, rfl⟩ := hx; exact ⟨Real.exp a, rfl⟩
theorem isReal_zero : IsReal 0 := ⟨0, rfl⟩
theorem isReal_one : IsReal 1 := ⟨1, rfl⟩
theorem isReal_max {x y : EReal} (hx : IsReal x) (hy : IsReal y) : IsReal (max x y) := by
  rcases max_choice x y with h | h <;> rw [h] <;> assumption
theorem isReal_min {x y : EReal} (hx : IsReal x) (hy : IsReal y) : IsReal (min x y) := by
  rcases min_choice x y with h | h <;> rw [h] <;> assumption

/-- The log of one and a non-negative real is real. -/
theorem isReal_log1p {r : ℝ} (h : 0 ≤ r) : IsReal (Ideal.log1p (r : EReal)) := by
  refine ⟨Real.log (1 + r), ?_⟩
  rw [Ideal.log1p, ← EReal.coe_one, ← EReal.coe_add, Ideal.log_coe, if_neg (by linarith)]

theorem isReal_log1p_exp {x : EReal} (hx : IsReal x ∨ x = ⊥) : IsReal (Ideal.log1p (Ideal.exp x)) := by
  rcases hx with ⟨a, rfl⟩ | rfl
  · exact isReal_log1p (Real.exp_pos a).le
  · exact isReal_log1p (r := 0) le_rfl

/-- A sigmoid of a real is real. -/
theorem isReal_sig {x : EReal} (hx : IsReal x) : IsReal (SampleBody.sig x) := by
  obtain ⟨a, rfl⟩ := hx
  refine ⟨1 * (1 / (1 + Real.exp (0 - a))), ?_⟩
  have e : (1 : EReal) + Ideal.exp (0 - (a : EReal)) = ((1 + Real.exp (0 - a) : ℝ) : EReal) := by
    rw [← EReal.coe_zero, ← EReal.coe_sub, Ideal.exp_coe, ← EReal.coe_one, ← EReal.coe_add]
  rw [SampleBody.sig, e, Ideal.div_coe (by positivity), EReal.coe_mul, EReal.coe_one]

/-- The difference of two numbers, not both infinite, either way round. -/
theorem min_sub_max {x y : EReal} (hx : IsReal x ∨ x = ⊥) (hy : IsReal y ∨ y = ⊥) (h : IsReal x ∨ IsReal y) :
    min x y - max x y = -max (x - y) (-(x - y)) := by
  rcases hx with ⟨a, rfl⟩ | rfl <;> rcases hy with ⟨b, rfl⟩ | rfl
  · rcases le_total a b with hab | hab
    · rw [min_eq_left (EReal.coe_le_coe_iff.2 hab), max_eq_right (EReal.coe_le_coe_iff.2 hab), ← EReal.coe_sub, ← EReal.coe_neg,
        max_eq_right (EReal.coe_le_coe_iff.2 (by linarith)), ← EReal.coe_neg, neg_neg]
    · rw [min_eq_right (EReal.coe_le_coe_iff.2 hab), max_eq_left (EReal.coe_le_coe_iff.2 hab), ← EReal.coe_sub, ← EReal.coe_sub, ← EReal.coe_neg,
        max_eq_left (EReal.coe_le_coe_iff.2 (by linarith)), ← EReal.coe_neg, neg_sub]
  · simp
  · simp
  · rcases h with ⟨a, e⟩ | ⟨a, e⟩ <;> exact absurd e.symm (EReal.coe_ne_bot a)

/-- So the two logs of a sum agree, and theirs is a real. -/
theorem laeR_eq {x y : EReal} (hx : IsReal x ∨ x = ⊥) (hy : IsReal y ∨ y = ⊥) (h : IsReal x ∨ IsReal y) :
    laeR x y = max x y + Ideal.log1p (Ideal.exp (min x y - max x y)) := by
  rw [laeR, absf_eq, min_sub_max hx hy h]

theorem isReal_lae {x y : EReal} (hx : IsReal x ∨ x = ⊥) (hy : IsReal y ∨ y = ⊥) (h : IsReal x ∨ IsReal y) :
    IsReal (max x y + Ideal.log1p (Ideal.exp (min x y - max x y))) := by
  rcases hx with hx | rfl <;> rcases hy with hy | rfl
  · exact isReal_add (isReal_max hx hy) (isReal_log1p_exp (.inl (isReal_sub (isReal_min hx hy) (isReal_max hx hy))))
  · rw [max_eq_left bot_le, min_eq_right bot_le]
    obtain ⟨a, rfl⟩ := hx
    exact isReal_add ⟨a, rfl⟩ (isReal_log1p_exp (.inr (EReal.bot_sub _)))
  · rw [max_eq_right bot_le, min_eq_left bot_le]
    obtain ⟨a, rfl⟩ := hy
    exact isReal_add ⟨a, rfl⟩ (isReal_log1p_exp (.inr (EReal.bot_sub _)))
  · rcases h with ⟨a, e⟩ | ⟨a, e⟩ <;> exact absurd e.symm (EReal.coe_ne_bot a)

/-- The log of a sigmoid is real, and is the negated log of a sum. -/
theorem logSig_real {z : EReal} (hz : IsReal z) : IsReal (logSig z) := by
  obtain ⟨a, rfl⟩ := hz
  refine isReal_sub (isReal_min ⟨a, rfl⟩ isReal_zero) (isReal_log1p_exp (.inl (isReal_sub isReal_zero ?_)))
  rw [absf_eq]
  exact isReal_max ⟨a, rfl⟩ (isReal_neg ⟨a, rfl⟩)

theorem logSig_eq {z : EReal} (hz : IsReal z) : -(laeR (-z) 0) = logSig z := by
  obtain ⟨a, rfl⟩ := hz
  have hE : IsReal (Ideal.log1p (Ideal.exp (0 - max (a : EReal) (-(a : EReal))))) :=
    isReal_log1p_exp (.inl (isReal_sub isReal_zero (isReal_max ⟨a, rfl⟩ (isReal_neg ⟨a, rfl⟩))))
  rw [laeR, logSig, absf_eq, absf_eq, sub_zero, neg_neg, max_comm (-(a : EReal)) (a : EReal), ← zero_sub (max _ _)]
  obtain ⟨b, hb⟩ := hE
  rw [hb]
  have hm : max (-(a : EReal)) 0 = ((max (-a) 0 : ℝ) : EReal) :=
    (EReal.coe_strictMono.monotone.map_max (a := -a) (b := 0)).symm
  have hn : min (a : EReal) 0 = ((min a 0 : ℝ) : EReal) :=
    (EReal.coe_strictMono.monotone.map_min (a := a) (b := 0)).symm
  rw [hm, hn, ← EReal.coe_add, ← EReal.coe_neg, ← EReal.coe_sub]
  congr 1
  rcases le_total a 0 with h | h
  · rw [max_eq_left (by linarith), min_eq_left h]; ring
  · rw [max_eq_right (by linarith), min_eq_right h]; ring

/-- The gate's log for a real lower bound: the two ways agree, and it is real. -/
theorem logF_both {z b : EReal} (hz : IsReal z) (hb : IsReal b) :
    laeR (Ideal.log b) (Ideal.log1p (-b) + -(laeR (-z) 0)) = logF z b ∧ IsReal (logF z b) := by
  rw [logSig_eq hz]
  obtain ⟨r, rfl⟩ := hb
  have hl := logSig_real hz
  have hx : IsReal (Ideal.log (r : EReal)) ∨ Ideal.log (r : EReal) = ⊥ := by
    rw [Ideal.log_coe]; split
    · exact .inr rfl
    · exact .inl ⟨_, rfl⟩
  have e1 : (1 : EReal) + -(r : EReal) = ((1 + -r : ℝ) : EReal) := by rw [← EReal.coe_neg, ← EReal.coe_one, ← EReal.coe_add]
  have hu : IsReal (Ideal.log1p (-(r : EReal))) ∨ Ideal.log1p (-(r : EReal)) = ⊥ := by
    rw [Ideal.log1p, e1, Ideal.log_coe]; split
    · exact .inr rfl
    · exact .inl ⟨_, rfl⟩
  have hy : IsReal (Ideal.log1p (-(r : EReal)) + logSig z) ∨ Ideal.log1p (-(r : EReal)) + logSig z = ⊥ := by
    rcases hu with hu | hu
    · exact .inl (isReal_add hu hl)
    · exact .inr (by rw [hu, EReal.bot_add])
  have hxy : IsReal (Ideal.log (r : EReal)) ∨ IsReal (Ideal.log1p (-(r : EReal)) + logSig z) := by
    by_cases hr : r ≤ 0
    · refine .inr (isReal_add ?_ hl)
      rw [Ideal.log1p, e1, Ideal.log_coe, if_neg (by linarith)]
      exact ⟨_, rfl⟩
    · refine .inl ?_
      rw [Ideal.log_coe, if_neg hr]
      exact ⟨_, rfl⟩
  unfold logF
  rw [zero_sub]
  exact ⟨laeR_eq hx hy hxy, isReal_lae hx hy hxy⟩

/-- The exponential of nothing is one. -/
theorem exp_sub_self {b : EReal} (hb : IsReal b) : Ideal.exp (b - b) = 1 := by
  obtain ⟨r, rfl⟩ := hb
  rw [← EReal.coe_sub, sub_self, Ideal.exp_coe, Real.exp_zero, EReal.coe_one]

/-- A token's output: what its own key and value add to it, and what it reads of the decayed state, are what it reads of the new state. -/
theorem step_eq {n : ℕ} (q k a s : Fin n → EReal) (v : EReal) (hq : ∀ d, IsReal (q d)) (hk : ∀ d, IsReal (k d))
    (ha : ∀ d, IsReal (a d)) (hs : ∀ d, IsReal (s d)) (hv : IsReal v) :
    (∑ d, q d * k d) * v + ∑ d, q d * a d * s d = ∑ d, q d * (a d * s d + k d * v) := by
  choose q' hq using hq
  choose k' hk using hk
  choose a' ha using ha
  choose s' hs using hs
  obtain ⟨v', rfl⟩ := hv
  simp only [hq, hk, ha, hs, ← EReal.coe_mul, ← EReal.coe_add]
  have hsum : ∀ f : Fin n → ℝ, (∑ d, ((f d : ℝ) : EReal)) = ((∑ d, f d : ℝ) : EReal) := fun f => by
    induction (Finset.univ : Finset (Fin n)) using Finset.induction_on with
    | empty => rfl
    | insert a t hat ih => rw [Finset.sum_insert hat, Finset.sum_insert hat, ih, EReal.coe_add]
  rw [hsum, hsum, hsum, ← EReal.coe_mul, ← EReal.coe_add, Finset.sum_mul, ← Finset.sum_add_distrib]
  congr 1
  exact Finset.sum_congr rfl fun d _ => by ring

theorem ofBits_sixteen : Ideal.ofBits .f32 0x41800000#32 = ((16 : ℝ) : EReal) := by
  simp [Ideal.ofBits, Ideal.ieee, -EReal.coe_mul]; norm_num
theorem ofBits_eighth : IsReal (Ideal.ofBits .f32 0x3e000000#32) := by
  refine ⟨1 / 8, ?_⟩
  simp [Ideal.ofBits, Ideal.ieee, -EReal.coe_mul]; norm_num

theorem isReal_div16 {x : EReal} (hx : IsReal x) : IsReal (Ideal.div x (Ideal.ofBits .f32 0x41800000#32)) := by
  rw [ofBits_sixteen, Ideal.div_coe (by norm_num)]
  exact isReal_mul hx ⟨_, rfl⟩

end Cert.Proof.SampleReal
end
-- ==== Proof.SampleEq.lean ====
/-
  The sample group's recurrence: the reference's results are the kernel's on tame arguments.
-/
module

public import proofs.«01_k».proof.Defs
public import proofs.«01_k».proof.Proof.SampleReal
public import proofs.«01_k».proof.Proof.Gen.Kernel
public import proofs.«01_k».proof.Proof.Gen.Kernel.Frame
public import proofs.«01_k».proof.Proof.Gen.ReferenceIdeal
public import proofs.«01_k».proof.Proof.Gen.Pre_tame
public import Idealize.ShloMosaic.Lib.ReduceAll

@[expose] public section
set_option maxRecDepth 16384
noncomputable section

namespace Cert.Proof.SampleEq
open Idealize.ShloMosaic Idealize.ShloMosaic.TcCoe Idealize.SL.Sem
open Cert.ReferenceIdeal Cert.ReferenceIdeal.Gen Cert.Proof.SampleBody Cert.Proof.SampleValue Cert.Proof.SampleRef Cert.Proof.SampleReal

/-! ## What the precondition says -/

theorem ofBits_top : Ideal.ofBits .f32 0x7F800000#32 = ⊤ := by simp [Ideal.ofBits, Ideal.ieee]

/-- A number whose absolute value is below infinity is real. -/
theorem isReal_of_abs {x : EReal} (h : FloatOps.cmpf (F := Ideal) (φ := .f32) .olt (FloatOps.absf (F := Ideal) (φ := .f32) x) (Ideal.ofBits .f32 0x7F800000#32) = 1) :
    IsReal x := by
  have h : max x (-x) < ⊤ := ofBits_top ▸ (Ideal.cmp_olt_eq_one _ _).1 h
  induction x with
  | bot => simp at h
  | top => simp at h
  | coe r => exact ⟨r, rfl⟩

theorem tame_of_pre (pm : FVec Ideal S128x3584 .f32) (gl : FVec Ideal S128x256 .f32) (lb : FVec Ideal S1x512 .f32) (gh gg : FVec Ideal S1x128 .f32)
    (sh : FVec Ideal S128x4x128x128 .f32) (sg : FVec Ideal S128x4x64x128 .f32)
    (h : Cert.Pre_tame.fn (F := Ideal) pm gl lb gh gg sh sg = fun _ => 1#1) :
    (∀ j, IsReal (pm j)) ∧ (∀ j, IsReal (gl j)) ∧ (∀ j, IsReal (lb j)) ∧ (∀ j, IsReal (sh j)) ∧ ∀ j, IsReal (sg j) := by
  have e := congrFun h (fun a => a.elim0)
  simp only [Cert.Pre_tame.fn, Cert.Pre_tame.fn_part1] at e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  refine ⟨fun j => isReal_of_abs (Host.reduce_andi_all _ _ _ _ _ e1 j), fun j => isReal_of_abs (Host.reduce_andi_all _ _ _ _ _ e2 j), fun j => isReal_of_abs (Host.reduce_andi_all _ _ _ _ _ e3 j),
    fun j => isReal_of_abs (Host.reduce_andi_all _ _ _ _ _ e4 j), fun j => isReal_of_abs (Host.reduce_andi_all _ _ _ _ _ e5 j)⟩

/-! ## The reference's pieces are the kernel's -/

section
variable (pm : FVec Ideal S128x3584 .f32) (gl : FVec Ideal S128x256 .f32) (lb : FVec Ideal S1x512 .f32)
  (sh : FVec Ideal S128x4x128x128 .f32) (sg : FVec Ideal S128x4x64x128 .f32)
  (hp : ∀ j, IsReal (pm j)) (hg : ∀ j, IsReal (gl j)) (hl : ∀ j, IsReal (lb j)) (hs : ∀ j, IsReal (sh j)) (hu : ∀ j, IsReal (sg j))
  (n : Fin 128) (h : Fin 4)

theorem bH_eq (d : Fin 128) : bH pm lb (ix3 n h d)
    = laeR (Ideal.log (lb (ix2 0 (at512 h d)))) (Ideal.log1p (-(lb (ix2 0 (at512 h d)))) + -(laeR (-(pm (ix2 n ⟨512 + (h * 128 + d), by omega⟩))) 0)) := by
  rw [← logLo_apply n h lb d, ← logUp_apply n h lb d, ← cutH_apply n h pm 512 slices_S128x3584_S128x512_0_512 (by omega) d]
  unfold bH
  rw [lae_apply]
  congr 2
  pointwise [lae_apply]

theorem kH_eq (d : Fin 128) : kH pm lb (ix3 n h d) = keyH (row pm n) (one lb) (at512 h d) := by
  unfold kH keyH
  pointwise [sgm_apply, cutH_apply]
  rw [zero_sub]
  rfl

theorem qH_eq (d : Fin 128) : silu (cutH pm 0 slices_S128x3584_S128x512_0_0) (ix3 n h d) = qryH (row pm n) (at512 h d) := by
  unfold silu qryH
  pointwise [sgm_apply, cutH_apply]
  rfl

theorem bG_eq (d : Fin 64) : bG gl (ix3 n h d)
    = Ideal.div (-(laeR (-(gl (ix2 n (at256 h d)))) 0)) (Ideal.ofBits .f32 0x41800000#32) := by
  pointwise [bG, laeG_apply]
  rfl

theorem qG_eq (d : Fin 64) : qG pm (ix3 n h d) = qryG (row pm n) (at256 h d) := by
  unfold qryG
  pointwise [qG, cutG_apply]
  rfl

theorem vH_eq (o : ℕ) (hs') (ho : o ≤ 3072) (e : Fin 128) :
    cutH pm o hs' (ix3 n h e) = row pm n ⟨o + h * 128 + e, by omega⟩ := by
  rw [cutH_apply _ _ _ _ _ ho]
  exact congrArg (row pm n) (Fin.ext (show o + (h.val * 128 + e.val) = o + h.val * 128 + e.val by omega))

include hp hl in
theorem bH_both (d : Fin 128) : IsReal (bH pm lb (ix3 n h d)) ∧ Ideal.exp (bH pm lb (ix3 n h d)) = decH (row pm n) (one lb) (at512 h d) := by
  obtain ⟨e, r⟩ := logF_both (hp (ix2 n ⟨512 + (h * 128 + d), by omega⟩)) (hl (ix2 0 (at512 h d)))
  rw [bH_eq, e]
  exact ⟨r, rfl⟩

include hg in
theorem bG_both (d : Fin 64) : IsReal (bG gl (ix3 n h d)) ∧ Ideal.exp (bG gl (ix3 n h d)) = decG (row gl n) (at256 h d) := by
  rw [bG_eq, logSig_eq (hg _)]
  exact ⟨isReal_div16 (logSig_real (hg _)), rfl⟩

include hp hl in
theorem keyH_real (d : Fin 128) : IsReal (keyH (row pm n) (one lb) (at512 h d)) := by
  exact isReal_mul (isReal_sub isReal_one (hl _)) (isReal_sig (isReal_sub isReal_zero (hp _)))

/-! ## The new states -/

include hp hl in
theorem stepSH_eq (d e : Fin 128) : refH pm lb sh (ix4 n h d e) = newHVal pm lb sh (ix4 n h d e) := by
  obtain ⟨r, x⟩ := bH_both pm lb hp hl n h d
  unfold refH
  rw [stepSH_apply, exp_sub_self r, mul_one, x, kH_eq, vH_eq pm n h 1024 _ (by omega)]
  rfl

include hg in
theorem stepSG_eq (d : Fin 64) (e : Fin 128) : refG pm gl sg (ix4 n h d e) = newGVal pm gl sg (ix4 n h d e) := by
  obtain ⟨r, x⟩ := bG_both gl hg n h d
  unfold refG
  rw [stepSG_apply, exp_sub_self r, mul_one, x, cutG_apply _ _ _ _ _ (by omega), vH_eq pm n h 2560 _ (by omega)]
  rfl

/-! ## The outputs -/

include hp hl hs in
theorem stepOH_eq (e : Fin 128) :
    stepOH (silu (cutH pm 0 slices_S128x3584_S128x512_0_0)) (kH pm lb) (cutH pm 1024 slices_S128x3584_S128x512_0_1024) (bH pm lb) sh (ix3 n h e)
      = outH (row pm n) (one lb) (stH sh n) h e := by
  rw [stepOH_apply]
  simp only [fun d => exp_sub_self (bH_both pm lb hp hl n h d).1, mul_one, fun d => (bH_both pm lb hp hl n h d).2, qH_eq, kH_eq]
  rw [vH_eq pm n h 1024 _ (by omega)]
  exact step_eq _ _ _ _ _ (fun d => isReal_mul (hp _) (isReal_sig (hp _))) (fun d => keyH_real pm lb hp hl n h d)
    (fun d => (bH_both pm lb hp hl n h d).2 ▸ isReal_exp (bH_both pm lb hp hl n h d).1) (fun d => hs _) (hp _)

include hp hg hu in
theorem stepOG_eq (e : Fin 128) :
    stepOG (qG pm) (cutG pm 2304 slices_S128x3584_S128x256_0_2304) (cutH pm 2560 slices_S128x3584_S128x512_0_2560) (bG gl) sg (ix3 n h e)
      = outG (row pm n) (row gl n) (stG sg n) h e := by
  rw [stepOG_apply]
  simp only [fun d => exp_sub_self (bG_both gl hg n h d).1, mul_one, fun d => (bG_both gl hg n h d).2, qG_eq,
    fun d => cutG_apply n h pm 2304 slices_S128x3584_S128x256_0_2304 (by omega) d]
  rw [vH_eq pm n h 2560 _ (by omega)]
  exact step_eq _ _ _ _ _ (fun d => isReal_mul (hp _) ofBits_eighth) (fun d => hp _)
    (fun d => (bG_both gl hg n h d).2 ▸ isReal_exp (bG_both gl hg n h d).1) (fun d => hu _) (hp _)

end

/-- The kernel's lanes are its heads' outputs: the first four heads are the first group's, the last four the second's. -/
theorem heads_lo (p : Fin 3584 → EReal) (g : Fin 256 → EReal) (b : Fin 512 → EReal) (s : Fin 4 → Fin 128 → Fin 128 → EReal)
    (u : Fin 4 → Fin 64 → Fin 128 → EReal) (h : Fin 4) (k : Fin 128) (c : Fin 1024) (hc : c.val = h.val * 128 + k.val) :
    heads p g b s u c = outH p b s h k := by
  unfold heads
  rw [dif_pos (by omega)]
  congr 1
  · exact Fin.ext (by show c.val / 128 = h.val; omega)
  · exact Fin.ext (by show c.val % 128 = k.val; omega)

theorem heads_hi (p : Fin 3584 → EReal) (g : Fin 256 → EReal) (b : Fin 512 → EReal) (s : Fin 4 → Fin 128 → Fin 128 → EReal)
    (u : Fin 4 → Fin 64 → Fin 128 → EReal) (h : Fin 4) (k : Fin 128) (c : Fin 1024) (hc : c.val = (4 + h.val) * 128 + k.val) :
    heads p g b s u c = outG p g u h k := by
  unfold heads
  rw [dif_neg (by omega)]
  congr 1
  · exact Fin.ext (by show (c.val - 512) / 128 = h.val; omega)
  · exact Fin.ext (by show c.val % 128 = k.val; omega)

section
variable (pm : FVec Ideal S128x3584 .f32) (gl : FVec Ideal S128x256 .f32) (lb : FVec Ideal S1x512 .f32) (gh gg : FVec Ideal S1x128 .f32)
  (sh : FVec Ideal S128x4x128x128 .f32) (sg : FVec Ideal S128x4x64x128 .f32)

theorem outAt_lo (n : Fin 128) (h : Fin 4) (h8 : Fin 8) (hh : h8.val = h.val) (e : Fin 128) : outAt pm gl lb gh gg sh sg n h8 e
    = rms (fun k => outH (row pm n) (one lb) (stH sh n) h k) (gh (ix2 0 e)) e
      * (row pm n ⟨1536 + h * 128 + e, by omega⟩ * SampleBody.sig (row pm n ⟨1536 + h * 128 + e, by omega⟩)) := by
  have hg : SampleOut.gateLane h8 e = ⟨1536 + h * 128 + e, by omega⟩ := Fin.ext (by unfold SampleOut.gateLane; simp only; split <;> omega)
  have hw : (if h8.val < 4 then gh else gg) = gh := if_pos (by omega)
  unfold outAt gated
  rw [hg, hw]
  refine congrArg (fun f => rms f _ e * _) (funext fun k => ?_)
  exact heads_lo _ _ _ _ _ h k _ (by show h8.val * 128 + k.val = _; omega)

theorem outAt_hi (n : Fin 128) (h : Fin 4) (h8 : Fin 8) (hh : h8.val = 4 + h.val) (e : Fin 128) : outAt pm gl lb gh gg sh sg n h8 e
    = rms (fun k => outG (row pm n) (row gl n) (stG sg n) h k) (gg (ix2 0 e)) e
      * (row pm n ⟨3072 + h * 128 + e, by omega⟩ * SampleBody.sig (row pm n ⟨3072 + h * 128 + e, by omega⟩)) := by
  have hg : SampleOut.gateLane h8 e = ⟨3072 + h * 128 + e, by omega⟩ := Fin.ext (by unfold SampleOut.gateLane; simp only; split <;> omega)
  have hw : (if h8.val < 4 then gh else gg) = gg := if_neg (by omega)
  unfold outAt gated
  rw [hg, hw]
  refine congrArg (fun f => rms f _ e * _) (funext fun k => ?_)
  exact heads_hi _ _ _ _ _ h k _ (by show h8.val * 128 + k.val = _; omega)

/-- On tame arguments the reference's three results are the kernel's. -/
theorem all_eq (ht : Cert.Pre_tame.fn (F := Ideal) pm gl lb gh gg sh sg = fun _ => 1#1) :
    refO pm gl lb gh gg sh sg = outVal pm gl lb gh gg sh sg ∧ refH pm lb sh = newHVal pm lb sh ∧ refG pm gl sg = newGVal pm gl sg := by
  obtain ⟨hp, hg, hl, hs, hu⟩ := tame_of_pre pm gl lb gh gg sh sg ht
  refine ⟨funext fun j => ?_, funext fun j => ?_, funext fun j => ?_⟩
  · obtain ⟨n, l, rfl⟩ : ∃ (n : Fin 128) (l : Fin 1024), j = ix2 n l := ⟨_, _, eq_ix2 (n0 := 128) (n1 := 1024) j⟩
    show refO pm gl lb gh gg sh sg (ix2 n l) = outAt pm gl lb gh gg sh sg n ⟨l.val / 128, by omega⟩ ⟨l.val % 128, by omega⟩
    unfold refO
    rw [join_apply]
    by_cases hc : l.val < 512
    · rw [dif_pos hc, norm_apply, vH_eq pm n _ 1536 _ (by omega),
        outAt_lo pm gl lb gh gg sh sg n ⟨l / 128, by omega⟩ _ rfl]
      simp only [stepOH_eq pm lb sh hp hl hs n]
    · rw [dif_neg hc, norm_apply, vH_eq pm n _ 3072 _ (by omega),
        outAt_hi pm gl lb gh gg sh sg n ⟨(l - 512) / 128, by omega⟩ _ (by show l.val / 128 = 4 + (l.val - 512) / 128; omega)]
      simp only [stepOG_eq pm gl sg hp hg hu n]
  · obtain ⟨n, h, d, e, rfl⟩ : ∃ (n : Fin 128) (h : Fin 4) (d : Fin 128) (e : Fin 128), j = ix4 n h d e :=
      ⟨_, _, _, _, eq_ix4 (n0 := 128) (n1 := 4) (n2 := 128) (n3 := 128) j⟩
    exact stepSH_eq pm lb sh hp hl n h d e
  · obtain ⟨n, h, d, e, rfl⟩ : ∃ (n : Fin 128) (h : Fin 4) (d : Fin 64) (e : Fin 128), j = ix4 n h d e :=
      ⟨_, _, _, _, eq_ix4 (n0 := 128) (n1 := 4) (n2 := 64) (n3 := 128) j⟩
    exact stepSG_eq pm gl sg hg n h d e

end

/-! ## The claims -/

/-- No operation of the kernel was rewritten. -/
theorem preserves : Cert.preserves_Kernel_KernelIdeal := trivial

/-- The kernel as printed runs to its end and leaves its arguments and counters as they were. -/
theorem frame : Cert.quiescent_Kernel := fun m ρ _ => Cert.Kernel.Gen.frame m ρ

/-- The kernel read in exact arithmetic likewise. -/
theorem frame_ideal : Cert.quiescent_KernelIdeal := fun m ρ _ => Cert.KernelIdeal.Gen.frame m ρ
theorem frame_ideal_tame : Cert.quiescent_KernelIdeal_pre_tame := fun m ρ _ => Cert.KernelIdeal.Gen.frame m ρ

/-- The reference likewise. -/
theorem frame_ref : Cert.quiescent_ReferenceIdeal := fun m ρ _ =>
  (θ_run Cert.ReferenceIdeal.defs _ _).mono (fun r h => ⟨fun c => (h c).2.2.2,
      Idealize.ShloMosaic.sem_eq_zero_of_no_sems (by decide) r.2⟩) (SampleRef.run m ρ)
theorem frame_ref_tame : Cert.quiescent_ReferenceIdeal_pre_tame := fun m ρ _ =>
  (θ_run Cert.ReferenceIdeal.defs _ _).mono (fun r h => ⟨fun c => (h c).2.2.2,
      Idealize.ShloMosaic.sem_eq_zero_of_no_sems (by decide) r.2⟩) (SampleRef.run m ρ)

/-- On tame arguments the kernel and the reference leave the same three arrays. -/
theorem algebraic : Cert.algebraic_KernelIdeal_ReferenceIdeal_pre_tame := by
  intro m ρ m' ρ' ht hag
  refine ⟨_, _, _, SampleValue.run m ρ, ?_⟩
  refine (θ_run Cert.ReferenceIdeal.defs _ _).mono (fun _ h c => ?_) (SampleRef.run m' ρ')
  obtain ⟨e0, e1, e2⟩ := all_eq _ _ _ _ _ _ _ (ht c)
  obtain ⟨h0, h1, h2, h3, h4, h5, h6⟩ := hag c
  refine ⟨(h c).1.trans ?_, (h c).2.1.trans ?_, (h c).2.2.1.trans ?_, (h c).2.2.2⟩
  · rw [h0, h1, h2, h3, h4, h5, h6]; exact e0
  · rw [h0, h2, h5]; exact e1
  · rw [h0, h1, h6]; exact e2

end Cert.Proof.SampleEq
end
-- ==== Proof.ExpertsBody.lean ====
/-
  The experts' body at one grid point: what it leaves in the output block and in the two scratches.
-/
module

public import proofs.«01_k».proof.Proof.Gen.ExpertsIdeal.Launch
public import proofs.«01_k».proof.Proof.Gen.ExpertsIdeal.Skeleton
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section
set_option maxRecDepth 16384
noncomputable section

namespace Cert.Proof.ExpertsBody
open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The tables and the scratches the kernel is handed. -/
abbrev tb0 : Memref sig .tc .smem S290 .i32 := Memref.whole main_arg0
abbrev tb1 : Memref sig .tc .smem S1 .i32 := Memref.whole main_arg1
abbrev sc0 : Memref sig .tc .vmem S1024x2048 .bf16 := Memref.whole cc0_scratch0
abbrev sc1 : Memref sig .tc .vmem S1024x1024 .bf16 := Memref.whole cc0_scratch1

/-- The expert of the point's block, as the body reads it; that of the block before it; the number of blocks in use. -/
abbrev wordE (T0 : S290.Idx → Elt F .i32) (i : grid0.Coords) : BitVec 32 :=
  View.readAt (Elt F) tb0.view (Rect.unit (s := S290) (k0_off1 i) S1.size (k0_off1_inb i)).toLoadRect T0 (Shape.Idx.first (numel1_S1.symm ▸ Nat.one_pos))
abbrev wordP (T0 : S290.Idx → Elt F .i32) (i : grid0.Coords) : BitVec 32 :=
  View.readAt (Elt F) tb0.view (Rect.unit (s := S290) (k0_off2 i) S1.size (k0_off2_inb i)).toLoadRect T0 (Shape.Idx.first (numel1_S1.symm ▸ Nat.one_pos))
abbrev wordN (T1 : S1.Idx → Elt F .i32) : BitVec 32 :=
  View.readAt (Elt F) tb1.view (Rect.unit (s := S1) ![0] S1.size inb_S1_S1_0).toLoadRect T1 (Shape.Idx.first (numel1_S1.symm ▸ Nat.one_pos))

/-- Whether the body takes the expert's matrices afresh at the point. -/
abbrev loads (T0 : S290.Idx → Elt F .i32) (i : grid0.Coords) : Prop :=
  Scalar.cmpi .ne (Scalar.extui (Scalar.ori (Scalar.cmpi .eq (BitVec.ofNat 32 (i 0).val) 0#32)
    (Scalar.cmpi .ne (wordE T0 i) (wordP T0 i)))) 0#32 = 1#1

/-- A bit widened to a word is not zero exactly when it is set. -/
theorem bit_ne_zero (b : BitVec 1) : Scalar.cmpi .ne (Scalar.extui b) 0#32 = 1#1 ↔ b = 1#1 := by
  revert b; decide

/-- The body computes where the point is below the number of blocks in use, -/
theorem cond2_iff (i : grid0.Coords) (v : BitVec 32) : k0_cond2 i v = 1#1 ↔ (BitVec.ofNat 32 (i 0).val).toInt < v.toInt := by
  unfold k0_cond2
  exact (bit_ne_zero _).trans IntOp.cmpi_slt

/-- and stores zeros at every other point. -/
theorem cond3_iff (i : grid0.Coords) (v : BitVec 32) : k0_cond3 i v = 1#1 ↔ ¬ k0_cond2 i v = 1#1 := by
  rw [cond2_iff, not_lt]
  unfold k0_cond3
  exact (bit_ne_zero _).trans IntOp.cmpi_sge

/-- Where the matrices are not taken afresh the point is not the first and its expert is that of the point before. -/
theorem of_not_loads {T0 : S290.Idx → Elt F .i32} {i : grid0.Coords} (h : ¬ loads T0 i) : (i 0).val ≠ 0 ∧ wordE T0 i = wordP T0 i := by
  have h' := mt (bit_ne_zero _).mpr h
  have key : ∀ a b : BitVec 1, ¬ Scalar.ori a b = 1#1 → ¬ a = 1#1 ∧ ¬ b = 1#1 := by decide
  obtain ⟨h1, h2⟩ := key _ _ h'
  refine ⟨fun h0 => h1 ?_, ?_⟩
  · rw [h0]; rfl
  · by_contra hne
    exact h2 (IntOp.cmpi_ne.mpr hne)

/-- A scratch's contents are what is read through its memref. -/
theorem read_sc0 (f : sc0.view.ty.Contents (Elt F)) : sc0.view.read (Elt F) f = f := rfl
theorem read_sc1 (f : sc1.view.ty.Contents (Elt F)) : sc1.view.read (Elt F) f = f := rfl

/-- What the body leaves in the scratch of the first layer's matrix, in that of the second's, and in its block. -/
def left0 (T0 : S290.Idx → Elt F .i32) (i : grid0.Coords) (x1 : S1x1024x2048.Idx → Elt F .f32) (xa0 : S1024x2048.Idx → Elt F .bf16) :
    S1024x2048.Idx → Elt F .bf16 :=
  if loads T0 i then k0_pay1 x1 else xa0
def left1 (T0 : S290.Idx → Elt F .i32) (i : grid0.Coords) (x3 : S1x1024x1024.Idx → Elt F .f32) (xa1 : S1024x1024.Idx → Elt F .bf16) :
    S1024x1024.Idx → Elt F .bf16 :=
  if loads T0 i then k0_pay2 x3 else xa1
def outv (T1 : S1.Idx → Elt F .i32) (i : grid0.Coords) (x0 : S256x1024.Idx → Elt F .f32) (w1 : S1024x2048.Idx → Elt F .bf16)
    (x2 : S1x1x2048.Idx → Elt F .f32) (w3 : S1024x1024.Idx → Elt F .bf16) (x4 : S1x1x1024.Idx → Elt F .f32) : S256x1024.Idx → Elt F .f32 :=
  if k0_cond2 i (wordN T1) = 1#1 then k0_pay4 x0 w1 x2 w3 x4 else k0_pay3

set_option maxHeartbeats 800000 in
/-- The body at a point: the blocks and the tables are left as they are, the scratches hold `left0` and `left1`, the
    output block `outv` of them. -/
theorem body (c : Dev nD) (i : grid0.Coords) (arg3 : Memref sig .tc .vmem S256x1024 .f32) (harg3 : arg3.IsWhole)
    (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole)
    (arg8 : Memref sig .tc .vmem S256x1024 .f32) (harg8 : arg8.IsWhole) (T0 : S290.Idx → Elt F .i32) (T1 : S1.Idx → Elt F .i32)
    (x0 : S256x1024.Idx → Elt F .f32) (x1 : S1x1024x2048.Idx → Elt F .f32) (x2 : S1x1x2048.Idx → Elt F .f32)
    (x3 : S1x1024x1024.Idx → Elt F .f32) (x4 : S1x1x1024.Idx → Elt F .f32)
    (hx : k0_cond3 i (wordN T1) = 1#1 ↔ ¬ k0_cond2 i (wordN T1) = 1#1)
    (xa0 : Buf (Elt F) ((c : Thread nD τ).loc cc0_scratch0)) (xa1 : Buf (Elt F) ((c : Thread nD τ).loc cc0_scratch1)) (K : PUnit → sProp 𝕄) :
    iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tb0.view.loc (c : Thread nD τ) ↦{fullShare.right} T0)
          ∗ (tb1.view.loc (c : Thread nD τ) ↦{fullShare.right} T1)
          ∗ (∃ d, owns (c : Thread nD τ) arg8 fullShare d)
          ∗ (sc0.view.loc (c : Thread nD τ) ↦{fullShare} xa0)
          ∗ (sc1.view.loc (c : Thread nD τ) ↦{fullShare} xa1)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tb0.view.loc (c : Thread nD τ) ↦{fullShare.right} T0)
          ∗ (tb1.view.loc (c : Thread nD τ) ↦{fullShare.right} T1)
          ∗ (∃ f, ⌜arg8.view.read (Elt F) f = outv T1 i x0 (left0 T0 i x1 xa0) x2 (left1 T0 i x3 xa1) x4⌝
              ∗ (arg8.view.loc (c : Thread nD τ) ↦[arg8.view.set]{fullShare} f))
          ∗ (∃ f, ⌜f = left0 T0 i x1 xa0⌝ ∗ (sc0.view.loc (c : Thread nD τ) ↦{fullShare} f))
          ∗ (∃ f, ⌜f = left1 T0 i x3 xa1⌝ ∗ (sc1.view.loc (c : Thread nD τ) ↦{fullShare} f))) -∗ K ⟨⟩))
          ⊢ wp frame (wpE (defs₀ (F := F)) Variants.none c none) Set.univ (cc0_experts i tb0 (Memref.isWhole_whole _) tb1 (Memref.isWhole_whole _) arg3 harg3 arg4 harg4 arg5 harg5 arg6 harg6 arg7 harg7 arg8 harg8 sc0 (Memref.isWhole_whole _) sc1 (Memref.isWhole_whole _)) K := by
  unfold owns
  rw [cc0_experts_eq_skeleton]; unfold cc0_experts_skel
  iintro ⟨H0, H1, H2, H3, H4, HT0, HT1, ⟨%d5, %f5, -, HO5⟩, HS0, HS1, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  by_cases hc0 : loads T0 i <;> by_cases k0_h2 : k0_cond2 i (wordN T1) = 1#1
  · have k0_h3 : ¬ k0_cond3 i (wordN T1) = 1#1 := fun h => hx.mp h k0_h2
    sl_exec! (disch := first | (guard_target = Scalar.cmpi = _; exact hc0) | (guard_target = ¬(k0_cond3 _ _ = _); exact k0_h3) | (guard_target = k0_cond2 _ _ = _; exact k0_h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; rotate_left; · iexact HO5
      ipureintro; frame_out; simp only [View.read_rep, outv, left0, left1, if_pos hc0, if_pos k0_h2]
    isplitl [HS0]
    · iexists _; isplitr; rotate_left; · iexact HS0
      ipureintro
      refine (read_sc0 _).symm.trans ?_
      frame_out; simp only [View.read_rep, left0, if_pos hc0]
    · iexists _; isplitr; rotate_left; · iexact HS1
      ipureintro
      refine (read_sc1 _).symm.trans ?_
      frame_out; simp only [View.read_rep, left1, if_pos hc0]
  · have k0_h3 : k0_cond3 i (wordN T1) = 1#1 := hx.mpr k0_h2
    sl_exec! (disch := first | (guard_target = Scalar.cmpi = _; exact hc0) | (guard_target = k0_cond3 _ _ = _; exact k0_h3) | (guard_target = ¬(k0_cond2 _ _ = _); exact k0_h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; rotate_left; · iexact HO5
      ipureintro; frame_out; simp only [outv, if_neg k0_h2]
    isplitl [HS0]
    · iexists _; isplitr; rotate_left; · iexact HS0
      ipureintro
      refine (read_sc0 _).symm.trans ?_
      frame_out; simp only [View.read_rep, left0, if_pos hc0]
    · iexists _; isplitr; rotate_left; · iexact HS1
      ipureintro
      refine (read_sc1 _).symm.trans ?_
      frame_out; simp only [View.read_rep, left1, if_pos hc0]
  · have k0_h3 : ¬ k0_cond3 i (wordN T1) = 1#1 := fun h => hx.mp h k0_h2
    sl_exec! (disch := first | (guard_target = ¬(Scalar.cmpi = _); exact hc0) | (guard_target = ¬(k0_cond3 _ _ = _); exact k0_h3) | (guard_target = k0_cond2 _ _ = _; exact k0_h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; rotate_left; · iexact HO5
      ipureintro; frame_out; simp only [View.read_rep, outv, left0, left1, if_neg hc0, if_pos k0_h2]; rfl
    isplitl [HS0]
    · iexists _; isplitr; rotate_left; · iexact HS0
      ipureintro; simp only [left0, if_neg hc0]
    · iexists _; isplitr; rotate_left; · iexact HS1
      ipureintro; simp only [left1, if_neg hc0]
  · have k0_h3 : k0_cond3 i (wordN T1) = 1#1 := hx.mpr k0_h2
    sl_exec! (disch := first | (guard_target = ¬(Scalar.cmpi = _); exact hc0) | (guard_target = k0_cond3 _ _ = _; exact k0_h3) | (guard_target = ¬(k0_cond2 _ _ = _); exact k0_h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; rotate_left; · iexact HO5
      ipureintro; frame_out; simp only [outv, if_neg k0_h2]
    isplitl [HS0]
    · iexists _; isplitr; rotate_left; · iexact HS0
      ipureintro; simp only [left0, if_neg hc0]
    · iexists _; isplitr; rotate_left; · iexact HS1
      ipureintro; simp only [left1, if_neg hc0]

end Cert.Proof.ExpertsBody
end
-- ==== Proof.ExpertsFrame.lean ====
/-
  The experts' call as a whole, at any admissible tables: the blocks it runs over, what each point leaves, and the run.
-/
module

public import proofs.«01_k».proof.Proof.ExpertsBody

@[expose] public section
set_option maxRecDepth 16384
noncomputable section

namespace Cert.Proof.ExpertsFrame
open Cert.ExpertsIdeal Cert.ExpertsIdeal.Gen Cert.Proof.ExpertsBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The rounds library's resources, for the staging cells. -/
abbrev EP : Emb (UR sig nD τ) 𝕄 := emb₁

variable (a : (pcfg0 (F := F)).Adm)
variable (m : (ℓ : Loc nD τ sig) → Buf (Elt F) ℓ) (ρ : Dev nD → PrngReg)

/-- The call at the tables `a`. -/
abbrev cfgA : Pipeline.Cfg sig Λ₀ := cfg0 (F := F) a
abbrev pcs : Fin 1 → Pipeline.Cfg sig Λ₀ := Pipeline.pin (pcfgs (F := F)) fun _ => a
abbrev T0 : S290.Idx → Elt F .i32 := a.1 0
abbrev T1 : S1.Idx → Elt F .i32 := a.1 1
abbrev crd (t : Fin (cfgA a).N) : grid0.Coords := (cfgA a).grid.coords t

/-- Each window's current staging buffer at a point. -/
abbrev ms0 (t : Fin (cfgA a).N) : Memref sig .tc .vmem S256x1024 .f32 := spec0_0.stage ((cfgA a).slots t (0 : Fin 6))
abbrev hs0 (t : Fin (cfgA a).N) : (ms0 a t).IsWhole := hstage0_0 (((cfgA a).slots t (0 : Fin 6)).cast nbuf0_0)
abbrev ms1 (t : Fin (cfgA a).N) : Memref sig .tc .vmem S1x1024x2048 .f32 := spec0_1.stage ((cfgA a).slots t (1 : Fin 6))
abbrev hs1 (t : Fin (cfgA a).N) : (ms1 a t).IsWhole := hstage0_1 (((cfgA a).slots t (1 : Fin 6)).cast nbuf0_1)
abbrev ms2 (t : Fin (cfgA a).N) : Memref sig .tc .vmem S1x1x2048 .f32 := spec0_2.stage ((cfgA a).slots t (2 : Fin 6))
abbrev hs2 (t : Fin (cfgA a).N) : (ms2 a t).IsWhole := hstage0_2 (((cfgA a).slots t (2 : Fin 6)).cast nbuf0_2)
abbrev ms3 (t : Fin (cfgA a).N) : Memref sig .tc .vmem S1x1024x1024 .f32 := spec0_3.stage ((cfgA a).slots t (3 : Fin 6))
abbrev hs3 (t : Fin (cfgA a).N) : (ms3 a t).IsWhole := hstage0_3 (((cfgA a).slots t (3 : Fin 6)).cast nbuf0_3)
abbrev ms4 (t : Fin (cfgA a).N) : Memref sig .tc .vmem S1x1x1024 .f32 := spec0_4.stage ((cfgA a).slots t (4 : Fin 6))
abbrev hs4 (t : Fin (cfgA a).N) : (ms4 a t).IsWhole := hstage0_4 (((cfgA a).slots t (4 : Fin 6)).cast nbuf0_4)
abbrev ms5 (t : Fin (cfgA a).N) : Memref sig .tc .vmem S256x1024 .f32 := spec0_5.stage ((cfgA a).slots t (5 : Fin 6))
abbrev hs5 (t : Fin (cfgA a).N) : (ms5 a t).IsWhole := hstage0_5 (((cfgA a).slots t (5 : Fin 6)).cast nbuf0_5)

/-- Window `w`'s block at a point, read off its array at the launch. -/
def iblk (c : Dev nD) (w : Fin (cfgA a).W) (t : Fin (cfgA a).N) : (((cfgA a).win w).xblock ((cfgA a).grid.coords t)).Idx → Elt F ((cfgA a).win w).elt :=
  (((cfgA a).win w).blk t).view.read (Elt F) ((s₀ m ρ).mem (((cfgA a).win w).arr.view.loc (c : Thread nD τ)))

/-- The first word of a point and the second of the point after it are the same place of the table. -/
theorem off_pred : ∀ t t' : Fin grid0.N, t.val = t'.val + 1 → k0_off2 (grid0.coords t) = k0_off1 (grid0.coords t') := by
  have h : ∀ t : Fin grid0.N, k0_off2 (grid0.coords t) = ![t.val - 1] ∧ k0_off1 (grid0.coords t) = ![t.val] := by decide +kernel
  intro t t' e
  rw [(h t).1, (h t').2, e, Nat.add_sub_cancel]

theorem crd_val : ∀ t : Fin grid0.N, (grid0.coords t 0).val = t.val := by decide +kernel

/-- The word of the point before, as the body reads it, is that point's own. -/
theorem wordP_eq (t t' : Fin grid0.N) (e : t.val = t'.val + 1) (T : S290.Idx → Elt F .i32) :
    wordP T (grid0.coords t) = wordE T (grid0.coords t') := by
  have h := off_pred t t' e
  have gen : ∀ (f g : Fin 1 → ℕ) (hf : ∀ b, f b + S1.size b ≤ S290.size b) (hg : ∀ b, g b + S1.size b ≤ S290.size b), f = g →
      View.readAt (Elt F) tb0.view (Rect.unit (s := S290) f S1.size hf).toLoadRect T (Shape.Idx.first (numel1_S1.symm ▸ Nat.one_pos))
        = View.readAt (Elt F) tb0.view (Rect.unit (s := S290) g S1.size hg).toLoadRect T (Shape.Idx.first (numel1_S1.symm ▸ Nat.one_pos)) := by
    intro f g hf hg e; subst e; rfl
  exact gen _ _ _ _ h

/-- The index maps of the four windows that follow the table, over the body's word. -/
theorem tr1 (i : grid0.Coords) : cc0_transform_1 k0_off1_inb numel1_S1 a.1 i = ![(wordE (T0 a) i).toNat, 0, 0] := rfl
theorem tr3 (i : grid0.Coords) : cc0_transform_3 k0_off1_inb numel1_S1 a.1 i = ![(wordE (T0 a) i).toNat, 0, 0] := rfl

/-- The first layer's block at a point, and the second's. -/
def up (c : Dev nD) (t : Fin (cfgA a).N) : S1x1024x2048.Idx → Elt F .f32 := iblk a m ρ c (1 : Fin 6) t
def down (c : Dev nD) (t : Fin (cfgA a).N) : S1x1024x1024.Idx → Elt F .f32 := iblk a m ρ c (3 : Fin 6) t

/-- Two points of one expert have the same matrices. -/
theorem up_congr (c : Dev nD) (t t' : Fin (cfgA a).N) (e : wordE (T0 a) (crd a t) = wordE (T0 a) (crd a t')) : up a m ρ c t = up a m ρ c t' := by
  have gen : ∀ (f g : Fin 3 → ℕ) (hf : ∀ b, (f b + 1) * S1x1024x2048.size b ≤ S32x1024x2048.size b) (hg : ∀ b, (g b + 1) * S1x1024x2048.size b ≤ S32x1024x2048.size b)
      (X : S32x1024x2048.Idx → Elt F .f32), f = g →
      ((View.whole main_arg3).slice (Rect.block (s := S32x1024x2048) S1x1024x2048.size f hf)).read (Elt F) X
        = ((View.whole main_arg3).slice (Rect.block (s := S32x1024x2048) S1x1024x2048.size g hg)).read (Elt F) X := by
    intro f g hf hg X e; subst e; rfl
  exact gen _ _ (hinb0 a.1 a.2 1 (crd a t)) (hinb0 a.1 a.2 1 (crd a t')) (m ((c : Thread nD τ).loc main_arg3))
    ((tr1 a _).trans ((congrArg (fun v : BitVec 32 => ![v.toNat, 0, 0]) e).trans (tr1 a _).symm))

theorem down_congr (c : Dev nD) (t t' : Fin (cfgA a).N) (e : wordE (T0 a) (crd a t) = wordE (T0 a) (crd a t')) : down a m ρ c t = down a m ρ c t' := by
  have gen : ∀ (f g : Fin 3 → ℕ) (hf : ∀ b, (f b + 1) * S1x1024x1024.size b ≤ S32x1024x1024.size b) (hg : ∀ b, (g b + 1) * S1x1024x1024.size b ≤ S32x1024x1024.size b)
      (X : S32x1024x1024.Idx → Elt F .f32), f = g →
      ((View.whole main_arg5).slice (Rect.block (s := S32x1024x1024) S1x1024x1024.size f hf)).read (Elt F) X
        = ((View.whole main_arg5).slice (Rect.block (s := S32x1024x1024) S1x1024x1024.size g hg)).read (Elt F) X := by
    intro f g hf hg X e; subst e; rfl
  exact gen _ _ (hinb0 a.1 a.2 3 (crd a t)) (hinb0 a.1 a.2 3 (crd a t')) (m ((c : Thread nD τ).loc main_arg5))
    ((tr3 a _).trans ((congrArg (fun v : BitVec 32 => ![v.toNat, 0, 0]) e).trans (tr3 a _).symm))

/-- The block a point leaves. -/
def outval (c : Dev nD) (t : Fin (cfgA a).N) : S256x1024.Idx → Elt F .f32 :=
  outv (T1 a) (crd a t) (iblk a m ρ c (0 : Fin 6) t) (k0_pay1 (up a m ρ c t)) (iblk a m ρ c (2 : Fin 6) t)
    (k0_pay2 (down a m ρ c t)) (iblk a m ρ c (4 : Fin 6) t)

/-- Between the points: the scratches hold the last point's matrices, the tables what they held. -/
def Phi (c : Dev nD) (t : Fin ((cfgA a).N + 1)) : sProp 𝕄 :=
  iprop((∃ x, ⌜∀ h : t.val ≠ 0, x = k0_pay1 (up a m ρ c ⟨t.val - 1, by omega⟩)⌝ ∗ (sc0.view.loc (c : Thread nD τ) ↦{fullShare} x))
    ∗ (∃ x, ⌜∀ h : t.val ≠ 0, x = k0_pay2 (down a m ρ c ⟨t.val - 1, by omega⟩)⌝ ∗ (sc1.view.loc (c : Thread nD τ) ↦{fullShare} x))
    ∗ (tb0.view.loc (c : Thread nD τ) ↦{fullShare.right} T0 a) ∗ (tb1.view.loc (c : Thread nD τ) ↦{fullShare.right} T1 a))

/-- What the call's proof is about: the arrays at the launch, what each point leaves in each staging buffer, and `Phi`. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 6) t
    | ⟨1, _⟩ => iblk a m ρ c (1 : Fin 6) t
    | ⟨2, _⟩ => iblk a m ρ c (2 : Fin 6) t
    | ⟨3, _⟩ => iblk a m ρ c (3 : Fin 6) t
    | ⟨4, _⟩ => iblk a m ρ c (4 : Fin 6) t
    | ⟨5, _⟩ => outval a m ρ c t
  Φ t := Phi a m ρ c t
  q _ := fullShare
  owed _ := 0

theorem after0_0 (c : Dev nD) (t : Fin (cfgA a).N) : (dats a m ρ 0 c).after (0 : Fin 6) t = iblk a m ρ c (0 : Fin 6) t := rfl
theorem after0_1 (c : Dev nD) (t : Fin (cfgA a).N) : (dats a m ρ 0 c).after (1 : Fin 6) t = iblk a m ρ c (1 : Fin 6) t := rfl
theorem after0_2 (c : Dev nD) (t : Fin (cfgA a).N) : (dats a m ρ 0 c).after (2 : Fin 6) t = iblk a m ρ c (2 : Fin 6) t := rfl
theorem after0_3 (c : Dev nD) (t : Fin (cfgA a).N) : (dats a m ρ 0 c).after (3 : Fin 6) t = iblk a m ρ c (3 : Fin 6) t := rfl
theorem after0_4 (c : Dev nD) (t : Fin (cfgA a).N) : (dats a m ρ 0 c).after (4 : Fin 6) t = iblk a m ρ c (4 : Fin 6) t := rfl
theorem after0_5 (c : Dev nD) (t : Fin (cfgA a).N) : (dats a m ρ 0 c).after (5 : Fin 6) t = outval a m ρ c t := rfl

/-- An input's staging buffer holds the point's block when the body runs, fetched there or before. -/
theorem before0_0 (c : Dev nD) (t : Fin (cfgA a).N) (d) : (dats a m ρ 0 c).before (0 : Fin 6) t d = iblk a m ρ c (0 : Fin 6) t :=
  ((dats a m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats a m ρ 0 c).before (1 : Fin 6) t d = iblk a m ρ c (1 : Fin 6) t :=
  ((dats a m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA a).N) (d) : (dats a m ρ 0 c).before (2 : Fin 6) t d = iblk a m ρ c (2 : Fin 6) t :=
  ((dats a m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA a).N) (d) : (dats a m ρ 0 c).before (3 : Fin 6) t d = iblk a m ρ c (3 : Fin 6) t :=
  ((dats a m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA a).N) (d) : (dats a m ρ 0 c).before (4 : Fin 6) t d = iblk a m ρ c (4 : Fin 6) t :=
  ((dats a m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

/-- Every point stores its output block. -/
theorem idle5 (i : grid0.Coords) : (cfgA a).idle (5 : Fin 6) i = false := by
  have h : ∀ v, (!(k0_cond2 i v == 1#1) && !(k0_cond3 i v == 1#1)) = false := by
    intro v
    by_cases h2 : k0_cond2 i v = 1#1
    · simp [h2]
    · simp [(cond3_iff i v).mpr h2]
  exact h _

/-- The scratches after a point hold its matrices, taken there or left by the point before. -/
theorem left0_eq (c : Dev nD) (t : Fin (cfgA a).N) (x : S1024x2048.Idx → Elt F .bf16)
    (hx : ∀ h : t.val ≠ 0, x = k0_pay1 (up a m ρ c ⟨t.val - 1, by omega⟩)) : left0 (T0 a) (crd a t) (up a m ρ c t) x = k0_pay1 (up a m ρ c t) := by
  unfold left0
  split
  · rfl
  · next h =>
    obtain ⟨h0, hw⟩ := of_not_loads h
    have h0' : t.val ≠ 0 := fun e => h0 ((crd_val t).trans e)
    rw [hx h0']
    exact congrArg _ (up_congr a m ρ c _ _ (hw.trans (wordP_eq t _ (by show t.val = t.val - 1 + 1; omega) _)).symm)
theorem left1_eq (c : Dev nD) (t : Fin (cfgA a).N) (x : S1024x1024.Idx → Elt F .bf16)
    (hx : ∀ h : t.val ≠ 0, x = k0_pay2 (down a m ρ c ⟨t.val - 1, by omega⟩)) : left1 (T0 a) (crd a t) (down a m ρ c t) x = k0_pay2 (down a m ρ c t) := by
  unfold left1
  split
  · rfl
  · next h =>
    obtain ⟨h0, hw⟩ := of_not_loads h
    have h0' : t.val ≠ 0 := fun e => h0 ((crd_val t).trans e)
    rw [hx h0']
    exact congrArg _ (down_congr a m ρ c _ _ (hw.trans (wordP_eq t _ (by show t.val = t.val - 1 + 1; omega) _)).symm)

/-- The body on the point's staging buffers. -/
abbrev bodyAt (t : Fin (cfgA a).N) : Prog (TpuEff nD τ sig (Elt F) Λ₀ .tc) PUnit :=
  cc0_experts (crd a t) (Memref.whole main_arg0) (Memref.isWhole_whole _) (Memref.whole main_arg1) (Memref.isWhole_whole _) (ms0 a t) (hs0 a t) (ms1 a t) (hs1 a t) (ms2 a t) (hs2 a t) (ms3 a t) (hs3 a t) (ms4 a t) (hs4 a t) (ms5 a t) (hs5 a t) (Memref.whole cc0_scratch0) (Memref.isWhole_whole _) (Memref.whole cc0_scratch1) (Memref.isWhole_whole _)

set_option maxHeartbeats 2000000 in
/-- At every point the body takes `Phi` and the blocks to `Phi` of the next and what the point leaves. -/
theorem sound_body (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 6) t d))
        ∗ (∃ d, owns (c : Thread nD τ) (ms1 a t) fullShare ((dats a m ρ 0 c).before (1 : Fin 6) t d))
        ∗ (∃ d, owns (c : Thread nD τ) (ms2 a t) fullShare ((dats a m ρ 0 c).before (2 : Fin 6) t d))
        ∗ (∃ d, owns (c : Thread nD τ) (ms3 a t) fullShare ((dats a m ρ 0 c).before (3 : Fin 6) t d))
        ∗ (∃ d, owns (c : Thread nD τ) (ms4 a t) fullShare ((dats a m ρ 0 c).before (4 : Fin 6) t d))
        ∗ (∃ d, owns (c : Thread nD τ) (ms5 a t) fullShare ((dats a m ρ 0 c).before (5 : Fin 6) t d)))
      ⊢ wp frame (wpE (defs₀ (F := F)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [idle5 a ((cfgA a).grid.coords t)]
  simp only [before0_0, before0_1, before0_2, before0_3, before0_4, after0_0, after0_1, after0_2, after0_3, after0_4, after0_5]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩⟩
  iapply (body c (crd a t) (ms0 a t) (hs0 a t) (ms1 a t) (hs1 a t) (ms2 a t) (hs2 a t) (ms3 a t) (hs3 a t) (ms4 a t) (hs4 a t) (ms5 a t) (hs5 a t)
    (T0 a) (T1 a) (iblk a m ρ c (0 : Fin 6) t) (iblk a m ρ c (1 : Fin 6) t) (iblk a m ρ c (2 : Fin 6) t) (iblk a m ρ c (3 : Fin 6) t) (iblk a m ρ c (4 : Fin 6) t)
    (cond3_iff _ _) a0 a1 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [H5]; · iexists _; iexact H5
  isplitl [HS0]; · iexact HS0
  isplitl [HS1]; · iexact HS1
  iintro ⟨H0, H1, H2, H3, H4, HT0, HT1, ⟨%e5, %he5, H5⟩, ⟨%e6, %he6, HS0⟩, ⟨%e7, %he7, HS1⟩⟩
  isplitl [HS0 HS1 HT0 HT1]
  · isplitl [HS0]
    · iexists _; isplitr; swap
      · iexact HS0
      · ipureintro; intro hn; exact he6.trans (left0_eq a m ρ c t a0 ha0)
    isplitl [HS1]
    · iexists _; isplitr; swap
      · iexact HS1
      · ipureintro; intro hn; exact he7.trans (left1_eq a m ρ c t a1 ha1)
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  unfold owns; iexists _; isplitr; swap
  · iexact H5
  · ipureintro
    refine he5.trans ?_
    exact congrArg₂ (fun p q => outv (T1 a) (crd a t) (iblk a m ρ c (0 : Fin 6) t) p (iblk a m ρ c (2 : Fin 6) t) q (iblk a m ρ c (4 : Fin 6) t))
      (left0_eq a m ρ c t a0 ha0) (left1_eq a m ρ c t a1 ha1)

theorem body_obligation (c : Dev nD) : BodyObligation (dats a m ρ 0 c) (defs₀ (F := F)) Variants.none () Set.univ := fun t => by
  rw [bigSep_W0]
  exact sound_body a m ρ c t

/-! ## The launch -/

/-- The staging cells and tokens the launch starts with. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

/-- The two tables as the call holds them. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- `Phi` holds at the start, -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HT0]
  · iexact HT0
  iexact HT1

/-- and gives the scratches back at the end. -/
theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- What the run leaves: every window's array at its computed contents, the tables as they were. -/
def QC : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
/-- From any memory whose tables are `a`'s, with zero counters, every fair execution ends in `QC` with zero counters. -/
theorem run_quiescent (hp : ∀ (c : Dev nD) (j : Fin 2), m ((c : Thread nD τ).loc (pre0.ref j)) = a.1 j) :
    θ_run (defs (F := F)) (onTc (τ := τ) (main (F := F))) (s₀ m ρ) (fun r => QC a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The frame: the arguments and the counters are left as they were. -/
theorem frame (hp : ∀ (c : Dev nD) (j : Fin 2), m ((c : Thread nD τ).loc (pre0.ref j)) = a.1 j) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 0).trans (hp c 0).symm, ((h.1 c).2 1).trans (hp c 1).symm,
    ((h.1 c).1 (0 : Fin 6)).trans ((dats a m ρ 0 c).arrAt_in (0 : Fin 6) rfl _), ((h.1 c).1 (1 : Fin 6)).trans ((dats a m ρ 0 c).arrAt_in (1 : Fin 6) rfl _),
    ((h.1 c).1 (2 : Fin 6)).trans ((dats a m ρ 0 c).arrAt_in (2 : Fin 6) rfl _), ((h.1 c).1 (3 : Fin 6)).trans ((dats a m ρ 0 c).arrAt_in (3 : Fin 6) rfl _),
    ((h.1 c).1 (4 : Fin 6)).trans ((dats a m ρ 0 c).arrAt_in (4 : Fin 6) rfl _)⟩, h.2⟩) (run_quiescent a m ρ hp)

end Cert.Proof.ExpertsFrame
end
-- ==== Proof.ExpertsTables.lean ====
/-
  The experts' call under the range of its table: the tables are admissible, so both instances run and leave their arguments.
-/
module

public import proofs.«01_k».proof.Defs
public import proofs.«01_k».proof.Proof.Gen.Experts
public import proofs.«01_k».proof.Proof.Gen.ExpertsRefIdeal
public import proofs.«01_k».proof.Proof.Gen.Pre_experts_in_range
public import proofs.«01_k».proof.Proof.ExpertsFrame
public import Idealize.ShloMosaic.Lib.ReduceAll

@[expose] public section
set_option maxRecDepth 16384
noncomputable section

namespace Cert.Proof.ExpertsTables
open Cert.ExpertsIdeal Cert.ExpertsIdeal.Gen Cert.Proof.ExpertsBody Cert.Proof.ExpertsFrame
open Idealize.ShloMosaic Idealize.ShloMosaic.TcCoe Idealize.ShloMosaic.Tactic
open Idealize.SL Idealize.SL.RA Idealize.SL.BI

variable {F : FTy → Type} [FloatOps F]

/-- Every word of the table names one of the thirty-two experts. -/
def InRange (T : IVec S290 32) : Prop := ∀ j, 0 ≤ (T j).toInt ∧ (T j).toInt < 32

/-- The precondition says so. -/
theorem inRange_of_pre (T : IVec S290 32) (x1 : IVec S1 32) (x2 : FVec F S74240x1024 .f32) (x3 : FVec F S32x1024x2048 .f32)
    (x4 : FVec F S32x1x2048 .f32) (x5 : FVec F S32x1024x1024 .f32) (x6 : FVec F S32x1x1024 .f32)
    (h : Cert.Pre_experts_in_range.fn (F := F) T x1 x2 x3 x4 x5 x6 = fun _ => 1#1) : InRange T := by
  intro j
  have e := congrFun h (fun a => a.elim0)
  simp only [Cert.Pre_experts_in_range.fn] at e
  have e' := Idealize.ShloMosaic.Host.reduce_andi_all _ _ _ _ _ e j
  obtain ⟨h1, h2⟩ := IntOp.andi_eq_one.1 e'
  exact ⟨IntOp.cmpi_sge.1 h1, IntOp.cmpi_slt.1 h2⟩

theorem toNat_lt {T : IVec S290 32} (h : InRange T) (j : S290.Idx) : (T j).toNat < 32 := by
  obtain ⟨h0, h1⟩ := h j
  have := BitVec.toInt_eq_toNat_cond (T j)
  omega

/-- A memory's tables. -/
def pf (m : (ℓ : Loc nD τ sig) → Buf (Elt F) ℓ) : pre0.Contents (Elt F) := fun j => m (((0 : Dev nD).tc : Thread nD τ).loc (pre0.ref j))

theorem ok_of_inRange (v : pre0.Contents (Elt F)) (h : InRange (v 0)) : ok0 v := by
  have hw : ∀ i : grid0.Coords, (wordE (F := F) (v 0) i).toNat < 32 := fun i => toNat_lt h _
  refine ⟨fun i => ⟨fun b => ?_, .inl rfl⟩, fun i => ⟨fun b => ?_, .inl rfl⟩, fun i => ⟨fun b => ?_, .inl rfl⟩, fun i => ⟨fun b => ?_, .inl rfl⟩⟩
  · show (![(wordE (F := F) (v 0) i).toNat, 0, 0] b + 1) * ![1, 1024, 2048] b ≤ ![32, 1024, 2048] b
    have := hw i
    fin_cases b <;> simp <;> omega
  · show (![(wordE (F := F) (v 0) i).toNat, 0, 0] b + 1) * ![1, 1, 2048] b ≤ ![32, 1, 2048] b
    have := hw i
    fin_cases b <;> simp <;> omega
  · show (![(wordE (F := F) (v 0) i).toNat, 0, 0] b + 1) * ![1, 1024, 1024] b ≤ ![32, 1024, 1024] b
    have := hw i
    fin_cases b <;> simp <;> omega
  · show (![(wordE (F := F) (v 0) i).toNat, 0, 0] b + 1) * ![1, 1, 1024] b ≤ ![32, 1, 1024] b
    have := hw i
    fin_cases b <;> simp <;> omega

/-- A memory's tables as the call takes them. -/
def adm (m : (ℓ : Loc nD τ sig) → Buf (Elt F) ℓ) (h : InRange (pf m 0)) : (pcfg0 (F := F)).Adm := ⟨pf m, ok_of_inRange _ h⟩

theorem held (m : (ℓ : Loc nD τ sig) → Buf (Elt F) ℓ) (h : InRange (pf m 0)) (c : Dev nD) (j : Fin 2) :
    m ((c : Thread nD τ).loc (pre0.ref j)) = (adm m h).1 j := by
  obtain rfl : c = 0 := Subsingleton.elim _ _
  rfl

/-- The frame of the ideal program, and of the program as compiled. -/
theorem frame_ideal : Cert.quiescent_ExpertsIdeal := fun m g h =>
  have hr : InRange (pf m 0) := inRange_of_pre _ _ _ _ _ _ _ (h 0)
  ExpertsFrame.frame (adm m hr) m g (held m hr)

/-- The bit-level program is the ideal one's text: the bodies at its labels are the same, -/
theorem defs₀_eq : @Cert.Experts.defs₀ F _ _ = @Cert.ExpertsIdeal.defs₀ F _ _ := by
  unfold Cert.Experts.defs₀ Cert.ExpertsIdeal.defs₀
  refine congrArg Defs.onTc ?_
  funext l p
  obtain ⟨l, hl⟩ := l
  obtain rfl : l = 0 := by omega
  rfl

/-- and so is the table of its calls. -/
theorem defs_eq : @Cert.Experts.defs F _ _ = @Cert.ExpertsIdeal.defs F _ _ := congrArg (Pipeline.defs _) defs₀_eq

/-- The frame at any name of the calls' table. -/
theorem frame_at (D : Defs nD τ sig (Elt F) (Pipeline.Sig Λ₀ (Fin 1) fun p => (pcfgs (F := F) p).Adm)) (hD : D = defs)
    (m : (ℓ : Loc nD τ sig) → Buf (Elt F) ℓ) (g : Dev nD → PrngReg) (hr : InRange (pf m 0)) :
    θ_run D (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  subst hD
  exact ExpertsFrame.frame (adm m hr) m g (held m hr)

theorem frame_bits : Cert.quiescent_Experts := fun m g h =>
  frame_at (F := Bits) (Cert.Experts.defs (F := Bits)) defs_eq m g (inRange_of_pre _ _ _ _ _ _ _ (h 0))

end Cert.Proof.ExpertsTables
end
-- ==== Proof.ExpertsValue.lean ====
/-
  The value of the experts' kernel: after the run the result array is one function of the arguments, given index by
  index. Each of the 290 blocks of 256 rows reads its own expert's two matrices; the blocks cover the array.
-/
module

public import proofs.«01_k».proof.Proof.ExpertsTables
public import Idealize.ShloMosaic.Lib.Pipeline.ValueKit
public import Idealize.ShloMosaic.Lib.Pointwise
public import Idealize.ShloMosaic.Lib.Pipeline.Covers

@[expose] public section
noncomputable section

namespace Cert.Proof.ExpertsValue
open Idealize.ShloMosaic Idealize.ShloMosaic.TcCoe Idealize.SL.Sem
open Idealize.ShloMosaic.Pipeline (Dat)
open Cert.ExpertsIdeal Cert.ExpertsIdeal.Gen Cert.Proof.ExpertsBody Cert.Proof.ExpertsFrame Cert.Proof.ExpertsTables

/-- The expert that block `n` of rows goes to. -/
def expert (T : IVec S290 32) (n : Fin 290) : Fin 32 := ⟨min (T (ix1 n)).toInt.toNat 31, by omega⟩

/-- The gated unit of one row: of its 2048 first-layer values the first half, clamped above, times its logistic at
    1.702, times one plus the second half clamped on both sides. -/
def act (u : Fin 2048 → EReal) (f : Fin 1024) : EReal :=
  min (u ⟨f.val, by omega⟩) (Ideal.ofBits FTy.f32 1088421888#32)
    * Ideal.div 1 (1 + Ideal.exp (-(Ideal.ofBits FTy.f32 1071242019#32 * min (u ⟨f.val, by omega⟩) (Ideal.ofBits FTy.f32 1088421888#32))))
    * (min (Ideal.ofBits FTy.f32 1088421888#32) (max (Ideal.ofBits FTy.f32 3235905536#32) (u ⟨1024 + f.val, by omega⟩)) + 1)

/-- One block's payload, of any block of rows and any expert's matrices. -/
theorem pay (x : Vec Ideal S256x1024 .f32) (wu : Vec Ideal S1x1024x2048 .f32) (bu : Vec Ideal S1x1x2048 .f32)
    (wd : Vec Ideal S1x1024x1024 .f32) (bd : Vec Ideal S1x1x1024 .f32) (r : Fin 256) (d : Fin 1024) :
    k0_pay4 x (k0_pay1 wu) bu (k0_pay2 wd) bd (ix2 r d)
      = ∑ f : Fin 1024, act (fun l => ∑ k : Fin 1024, x (ix2 r k) * wu (ix3 0 k l) + bu (ix3 0 0 l)) f * wd (ix3 0 f d) + bd (ix3 0 0 d) := by
  pointwise [k0_pay4, k0_pay1, k0_pay2]
  simp only [zero_sub]
  unfold act
  rfl

/-- The body's two words are entries of the tables. -/
theorem off1_val : ∀ t : Fin grid0.N, k0_off1 (grid0.coords t) = ![t.val] := by decide +kernel

theorem lt290 (t : Fin grid0.N) : t.val < 290 := t.isLt

theorem wordE_val (T : IVec S290 32) (t : Fin grid0.N) : wordE (F := Ideal) T (grid0.coords t) = T (ix1 (⟨t.val, lt290 t⟩ : Fin 290)) := by
  refine congrArg T (funext fun b => Fin.ext ?_)
  have hb : b = (0 : Fin 1) := Fin.ext (Nat.lt_one_iff.mp b.isLt)
  subst hb
  exact (congrArg (· + 0) (congrFun (off1_val t) 0))

theorem wordN_val (T : IVec S1 32) : wordN (F := Ideal) T = T (ix1 (0 : Fin 1)) := by
  refine congrArg T (funext fun b => Fin.ext ?_)
  have hb : b = (0 : Fin 1) := Fin.ext (Nat.lt_one_iff.mp b.isLt)
  subst hb
  rfl

variable (m : (ℓ : Loc nD τ sig) → Buf (Elt Ideal) ℓ) (ρ : Dev nD → PrngReg) (h : InRange (pf (F := Ideal) m 0))

theorem tr0 : ∀ t : Fin grid0.N, cc0_transform_0 (grid0.coords t) = ![t.val, 0] := by decide +kernel
theorem tr5 : ∀ t : Fin grid0.N, cc0_transform_5 (grid0.coords t) = ![t.val, 0] := by decide +kernel

/-- The word of a block's expert is that expert's number. -/
theorem word_eq (t : Fin grid0.N) :
    (wordE (F := Ideal) (T0 (adm m h)) (grid0.coords t)).toNat = (expert (pf (F := Ideal) m 0) ⟨t.val, lt290 t⟩).val := by
  rw [wordE_val]
  have hl := toNat_lt h (ix1 (⟨t.val, lt290 t⟩ : Fin 290))
  have hi := BitVec.toInt_eq_toNat_cond (pf (F := Ideal) m 0 (ix1 (⟨t.val, lt290 t⟩ : Fin 290)))
  show (pf (F := Ideal) m 0 (ix1 (⟨t.val, lt290 t⟩ : Fin 290))).toNat = min (pf (F := Ideal) m 0 (ix1 (⟨t.val, lt290 t⟩ : Fin 290))).toInt.toNat 31
  omega

/-- Block `t` of the rows. -/
theorem blk_x (c : Dev nD) (t : Fin grid0.N) (r : Fin 256) (k : Fin 1024) :
    iblk (adm m h) m ρ c (0 : Fin 6) t (ix2 r k)
      = m ((c : Thread nD τ).loc main_arg2) (ix2 (⟨t.val * 256 + r.val, by have := lt290 t; omega⟩ : Fin 74240) k) := by
  refine congrArg (m ((c : Thread nD τ).loc main_arg2)) (funext fun b => Fin.ext ?_)
  have e := congrFun (tr0 t) b
  show cc0_transform_0 (grid0.coords t) b * S256x1024.size b + 1 * (ix2 r k b).val = _
  rw [e]
  fin_cases b <;> simp [ix2]

/-- The expert's two matrices and two biases, as block `t` finds them. -/
theorem blk_up (c : Dev nD) (t : Fin grid0.N) (k : Fin 1024) (l : Fin 2048) :
    up (adm m h) m ρ c t (ix3 0 k l)
      = m ((c : Thread nD τ).loc main_arg3) (ix3 (expert (pf (F := Ideal) m 0) ⟨t.val, lt290 t⟩) k l) := by
  refine congrArg (m ((c : Thread nD τ).loc main_arg3)) (funext fun b => Fin.ext ?_)
  have e := congrFun (tr1 (adm m h) (grid0.coords t)) b
  rw [word_eq m h t] at e
  show cc0_transform_1 k0_off1_inb numel1_S1 (adm m h).1 (grid0.coords t) b * S1x1024x2048.size b + 1 * (ix3 (0 : Fin 1) k l b).val = _
  rw [e]
  fin_cases b <;> simp [ix3]

theorem blk_bup (c : Dev nD) (t : Fin grid0.N) (l : Fin 2048) :
    iblk (adm m h) m ρ c (2 : Fin 6) t (ix3 0 0 l)
      = m ((c : Thread nD τ).loc main_arg4) (ix3 (expert (pf (F := Ideal) m 0) ⟨t.val, lt290 t⟩) 0 l) := by
  refine congrArg (m ((c : Thread nD τ).loc main_arg4)) (funext fun b => Fin.ext ?_)
  have e : cc0_transform_2 k0_off1_inb numel1_S1 (adm m h).1 (grid0.coords t) b = _ := congrFun (tr1 (adm m h) (grid0.coords t)) b
  rw [word_eq m h t] at e
  show cc0_transform_2 k0_off1_inb numel1_S1 (adm m h).1 (grid0.coords t) b * S1x1x2048.size b + 1 * (ix3 (0 : Fin 1) (0 : Fin 1) l b).val = _
  rw [e]
  fin_cases b <;> simp [ix3]

theorem blk_down (c : Dev nD) (t : Fin grid0.N) (k : Fin 1024) (l : Fin 1024) :
    down (adm m h) m ρ c t (ix3 0 k l)
      = m ((c : Thread nD τ).loc main_arg5) (ix3 (expert (pf (F := Ideal) m 0) ⟨t.val, lt290 t⟩) k l) := by
  refine congrArg (m ((c : Thread nD τ).loc main_arg5)) (funext fun b => Fin.ext ?_)
  have e := congrFun (tr3 (adm m h) (grid0.coords t)) b
  rw [word_eq m h t] at e
  show cc0_transform_3 k0_off1_inb numel1_S1 (adm m h).1 (grid0.coords t) b * S1x1024x1024.size b + 1 * (ix3 (0 : Fin 1) k l b).val = _
  rw [e]
  fin_cases b <;> simp [ix3]

theorem blk_bdown (c : Dev nD) (t : Fin grid0.N) (l : Fin 1024) :
    iblk (adm m h) m ρ c (4 : Fin 6) t (ix3 0 0 l)
      = m ((c : Thread nD τ).loc main_arg6) (ix3 (expert (pf (F := Ideal) m 0) ⟨t.val, lt290 t⟩) 0 l) := by
  refine congrArg (m ((c : Thread nD τ).loc main_arg6)) (funext fun b => Fin.ext ?_)
  have e : cc0_transform_4 k0_off1_inb numel1_S1 (adm m h).1 (grid0.coords t) b = _ := congrFun (tr3 (adm m h) (grid0.coords t)) b
  rw [word_eq m h t] at e
  show cc0_transform_4 k0_off1_inb numel1_S1 (adm m h).1 (grid0.coords t) b * S1x1x1024.size b + 1 * (ix3 (0 : Fin 1) (0 : Fin 1) l b).val = _
  rw [e]
  fin_cases b <;> simp [ix3]

/-- Row `r`, feature `d` of the experts' result, row `r` in block `n`: the expert's network of the row while the block
    is one of those in use, zero after. -/
def rowVal (T : IVec S290 32) (N : IVec S1 32) (x : S74240x1024.Idx → EReal) (wu : S32x1024x2048.Idx → EReal)
    (bu : S32x1x2048.Idx → EReal) (wd : S32x1024x1024.Idx → EReal) (bd : S32x1x1024.Idx → EReal)
    (n : Fin 290) (r : Fin 74240) (d : Fin 1024) : EReal :=
  if (BitVec.ofNat 32 n.val).toInt < (N (ix1 (0 : Fin 1))).toInt then
    ∑ f : Fin 1024, act (fun l => ∑ k : Fin 1024, x (ix2 r k) * wu (ix3 (expert T n) k l) + bu (ix3 (expert T n) 0 l)) f
        * wd (ix3 (expert T n) f d) + bd (ix3 (expert T n) 0 d)
  else 0

/-- The experts' result: each block of 256 rows by its own expert. -/
def moeVal (T : IVec S290 32) (N : IVec S1 32) (x : S74240x1024.Idx → EReal) (wu : S32x1024x2048.Idx → EReal)
    (bu : S32x1x2048.Idx → EReal) (wd : S32x1024x1024.Idx → EReal) (bd : S32x1x1024.Idx → EReal) (j : S74240x1024.Idx) : EReal :=
  rowVal T N x wu bu wd bd (⟨(j 0).val / 256, by have : (j 0).val < 74240 := (j 0).isLt; omega⟩ : Fin 290) (j 0) (j 1)

/-- What block `t` leaves, at coordinates. -/
theorem pay_block (c : Dev nD) (t : Fin grid0.N) (r : Fin 256) (d : Fin 1024) :
    outval (adm m h) m ρ c t (ix2 r d)
      = moeVal (pf (F := Ideal) m 0) (pf (F := Ideal) m 1) (m ((c : Thread nD τ).loc main_arg2)) (m ((c : Thread nD τ).loc main_arg3))
          (m ((c : Thread nD τ).loc main_arg4)) (m ((c : Thread nD τ).loc main_arg5)) (m ((c : Thread nD τ).loc main_arg6))
          (ix2 (⟨t.val * 256 + r.val, by have := lt290 t; omega⟩ : Fin 74240) d) := by
  have hn : (⟨(t.val * 256 + r.val) / 256, by have := lt290 t; omega⟩ : Fin 290) = ⟨t.val, lt290 t⟩ :=
    Fin.ext (by show (t.val * 256 + r.val) / 256 = t.val; omega)
  have hc : k0_cond2 (grid0.coords t) (wordN (F := Ideal) (T1 (adm m h))) = 1#1
      ↔ (BitVec.ofNat 32 t.val).toInt < (pf (F := Ideal) m 1 (ix1 (0 : Fin 1))).toInt := by
    rw [cond2_iff, crd_val, wordN_val]
    rfl
  show outv (F := Ideal) _ (grid0.coords t) _ _ _ _ _ _ = rowVal _ _ _ _ _ _ _ (⟨(t.val * 256 + r.val) / 256, _⟩ : Fin 290) _ d
  rw [hn]
  unfold outv rowVal
  by_cases hu : (BitVec.ofNat 32 t.val).toInt < (pf (F := Ideal) m 1 (ix1 (0 : Fin 1))).toInt
  · rw [if_pos (hc.2 hu), if_pos hu]
    refine (pay _ _ _ _ _ r d).trans ?_
    refine congrArg₂ (· + ·) (Finset.sum_congr rfl fun f _ => congrArg₂ (· * ·) (congrArg (act · f) (funext fun l => ?_)) ?_) ?_
    · exact congrArg₂ (· + ·) (Finset.sum_congr rfl fun k _ => congrArg₂ (· * ·) (blk_x m ρ h c t r k) (blk_up m ρ h c t k l)) (blk_bup m ρ h c t l)
    · exact blk_down m ρ h c t f d
    · exact blk_bdown m ρ h c t d
  · rw [if_neg (fun k => hu (hc.1 k)), if_neg hu]
    pointwise [k0_pay3]

/-- The blocks of the result cover it. -/
theorem covers5 (a : (pcfg0 (F := Ideal)).Adm) : ((cfgA a).win (5 : Fin 6)).Covers := by
  refine Pipeline.Window.covers_of_index_surj _ rfl (fun b => ?_) fun β => ?_
  · exact (by decide : ∀ b : Fin 2, 0 < S256x1024.size b) b
  · have e0 : ((cfgA a).win (5 : Fin 6)).nblk (0 : Fin 2) = (74240 + 256 - 1) / 256 := rfl
    have e1 : ((cfgA a).win (5 : Fin 6)).nblk (1 : Fin 2) = (1024 + 1024 - 1) / 1024 := rfl
    have h0 : (β (0 : Fin 2)).val < 290 := lt_of_lt_of_le (β (0 : Fin 2)).isLt (e0.le.trans (by decide))
    have h1 : (β (1 : Fin 2)).val < 1 := lt_of_lt_of_le (β (1 : Fin 2)).isLt (e1.le.trans (by decide))
    refine ⟨⟨(β (0 : Fin 2)).val, h0⟩, fun b => ?_⟩
    have e := congrFun (tr5 ⟨(β (0 : Fin 2)).val, h0⟩) b
    refine Eq.trans e ?_
    match b with
    | ⟨0, _⟩ => rfl
    | ⟨1, _⟩ => exact (Nat.lt_one_iff.mp h1).symm

/-- The result array after the run. -/
theorem final (c : Dev nD) : (dats (adm m h) m ρ 0 c).arrAt (5 : Fin 6) (cfgA (adm m h)).N
    = moeVal (pf (F := Ideal) m 0) (pf (F := Ideal) m 1) (m ((c : Thread nD τ).loc main_arg2)) (m ((c : Thread nD τ).loc main_arg3))
          (m ((c : Thread nD τ).loc main_arg4)) (m ((c : Thread nD τ).loc main_arg5)) (m ((c : Thread nD τ).loc main_arg6)) := by
  refine (dats (adm m h) m ρ 0 c).arrAt_eq_of_covers (5 : Fin 6) _ (covers5 _) (fun t _ y => ?_) (Memref.isWhole_whole _)
  refine Eq.trans (b := outval (adm m h) m ρ c t y) rfl ?_
  refine (congrArg _ (eq_ix2 (n0 := 256) (n1 := 1024) y)).trans ((pay_block m ρ h c t (y 0) (y 1)).trans (congrArg _ (funext fun b => Fin.ext ?_)))
  have e := congrFun (tr5 t) b
  show _ = cc0_transform_5 (grid0.coords t) b * S256x1024.size b + 1 * (y b).val
  rw [e]
  fin_cases b <;> simp [ix2]

end Cert.Proof.ExpertsValue
end
-- ==== Proof.ExpertsRef.lean ====
/-
  The reference of the experts reads, index by index, as the same function of the arguments, and the claim.
-/
module

public import proofs.«01_k».proof.Proof.ExpertsValue
public import proofs.«01_k».proof.Proof.Gen.ExpertsRefIdeal.Run
public import Idealize.ShloMosaic.Lib.StableHlo.ReadAt
public import Idealize.ShloMosaic.Lib.Quiescent

@[expose] public section
noncomputable section

namespace Cert.Proof.ExpertsRef
open Idealize.ShloMosaic Idealize.ShloMosaic.TcCoe Idealize.SL.Sem
open Cert.ExpertsRefIdeal Cert.ExpertsRefIdeal.Gen Cert.Proof.ExpertsValue
open Cert.Proof.ExpertsTables (InRange pf)

section Gather
variable {α : Type} {A B : ℕ} (wf : GatherDims.WF ⟨3, ![32, A, B]⟩ S290x1 ⟨3, ![290, A, B]⟩ [1, 2] [0] [] [0] [] 1 ![1, A, B])

/-- The dimension numbers of picking one whole matrix of thirty-two per start index. -/
abbrev pickDims : GatherDims ⟨3, ![32, A, B]⟩ S290x1 ⟨3, ![290, A, B]⟩ where
  offsetDims := [1, 2]
  collapsedSliceDims := [0]
  operandBatchingDims := []
  startIndicesBatchingDims := []
  startIndexMap := [0]
  indexVectorDim := 1
  sliceSizes := ![1, A, B]
  wf := wf

/-- Such a gather read at coordinates: the matrix that the start index names, read signed and clamped. -/
theorem pick_apply (x : (⟨3, ![32, A, B]⟩ : Shape).Idx → α) (idx : IVec S290x1 32) (n : Fin 290) (k : Fin A) (l : Fin B) :
    Host.gather (pickDims wf) x idx (ix3 n k l) = x (ix3 (⟨min (idx (ix2 n 0)).toInt.toNat 31, by omega⟩ : Fin 32) k l) := by
  refine congrArg x (funext fun a => Fin.ext ?_)
  show (pickDims wf).start (ix3 n k l) idx a + (pickDims wf).batchCoord (ix3 n k l) a + (pickDims wf).offCoord (ix3 n k l) a = _
  rw [GatherDims.batchCoord_eq_zero _ _ _ List.not_mem_nil, Nat.add_zero]
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (pickDims wf).startIndexMap from List.mem_singleton.mpr rfl)]
    have hsi : (pickDims wf).siIdx (ix3 n k l) ⟨List.idxOf (0 : Fin 3) (pickDims wf).startIndexMap,
        List.idxOf_lt_length_iff.2 (List.mem_singleton.mpr rfl)⟩ = ix2 n 0 := by
      funext b
      match b with
      | ⟨0, _⟩ => rfl
      | ⟨1, _⟩ => rfl
    exact congrArg (fun i : S290x1.Idx => min (idx i).toInt.toNat 31) hsi
  · unfold GatherDims.start
    rw [dif_neg (show (1 : Fin 3) ∉ (pickDims wf).startIndexMap from (by decide : (1 : Fin 3) ∉ [(0 : Fin 3)])), Nat.zero_add]
    unfold GatherDims.offCoord
    rw [dif_pos (show (1 : Fin 3) ∈ (pickDims wf).sKept from (GatherDims.mem_sKept _ _).mpr ⟨show (1 : Fin 3) ∉ [(0 : Fin 3)] by decide, List.not_mem_nil⟩)]
    rfl
  · unfold GatherDims.start
    rw [dif_neg (show (2 : Fin 3) ∉ (pickDims wf).startIndexMap from (by decide : (2 : Fin 3) ∉ [(0 : Fin 3)])), Nat.zero_add]
    unfold GatherDims.offCoord
    rw [dif_pos (show (2 : Fin 3) ∈ (pickDims wf).sKept from (GatherDims.mem_sKept _ _).mpr ⟨show (2 : Fin 3) ∉ [(0 : Fin 3)] by decide, List.not_mem_nil⟩)]
    rfl
end Gather

/-- The reference's start indices: a negative word is counted from the end of the thirty-two. -/
def refIdx (T : IVec S290 32) : IVec S290x1 32 :=
  broadcastInDim S290x1 ![0] bcast_S290_S290x1_0 (select (cmpi .slt T (broadcastInDim S290 ![] bcast_S_S290 (constantI S_ 32 0#32))) (addi T (broadcastInDim S290 ![] bcast_S_S290 (constantI S_ 32 32#32))) T)

/-- Of a table in range the start index is its own word. -/
theorem refIdx_apply (T : IVec S290 32) (hT : InRange T) (n : Fin 290) : refIdx T (ix2 n 0) = T (ix1 n) := by
  have hb : broadcastInDim S290x1 ![0] bcast_S290_S290x1_0 (select (cmpi .slt T (broadcastInDim S290 ![] bcast_S_S290 (constantI S_ 32 0#32))) (addi T (broadcastInDim S290 ![] bcast_S_S290 (constantI S_ 32 32#32))) T) (ix2 n 0)
      = Scalar.select (IntOp.cmpi .slt (T (ix1 n)) 0#32) (IntOp.addi (T (ix1 n)) 32#32) (T (ix1 n)) := by
    pointwise []
  refine hb.trans ?_
  have h0 : ¬ IntOp.cmpi .slt (T (ix1 n)) 0#32 = 1#1 := fun e => by
    have := IntOp.cmpi_slt.1 e
    have := (hT (ix1 n)).1
    simp at *
    omega
  rw [ValueIdx.eq_zero_of_ne_one h0]
  rfl

/-- The reference's first layer before its nonlinearity. -/
def refU (T : IVec S290 32) (x : FVec Ideal S74240x1024 .f32) (wu : FVec Ideal S32x1024x2048 .f32) (bu : FVec Ideal S32x1x2048 .f32) : FVec Ideal S290x256x2048 .f32 :=
  addf (Host.dotGeneral dot_S290x256x1024_S290x1024x2048_S290x256x2048_2_1_1_2_0_0 none (shapeCast _ x shapeCasts_S74240x1024_S290x256x1024) (Host.gather gather_S32x1024x2048_S290x1_S290x1024x2048_12_0_n_n_0_1_110242048 wu (refIdx T))) (broadcastInDim S290x256x2048 ![0, 1, 2] bcast_S290x1x2048_S290x256x2048_0_1_2 (Host.gather gather_S32x1x2048_S290x1_S290x1x2048_12_0_n_n_0_1_112048 bu (refIdx T)))

theorem refU_apply (T : IVec S290 32) (hT : InRange T) (x : FVec Ideal S74240x1024 .f32) (wu : FVec Ideal S32x1024x2048 .f32) (bu : FVec Ideal S32x1x2048 .f32)
    (n : Fin 290) (r : Fin 256) (l : Fin 2048) :
    refU T x wu bu (ix3 n r l) = ∑ k : Fin 1024, x (ix2 (⟨n.val * 256 + r.val, by omega⟩ : Fin 74240) k) * wu (ix3 (expert T n) k l) + bu (ix3 (expert T n) 0 l) := by
  have g1 : ∀ k l, Host.gather gather_S32x1024x2048_S290x1_S290x1024x2048_12_0_n_n_0_1_110242048 wu (refIdx T) (ix3 n k l) = wu (ix3 (expert T n) k l) := fun k l => by
    refine (pick_apply (A := 1024) (B := 2048) _ wu (refIdx T) n k l).trans ?_
    simp only [refIdx_apply T hT]; rfl
  have g2 : ∀ k l, Host.gather gather_S32x1x2048_S290x1_S290x1x2048_12_0_n_n_0_1_112048 bu (refIdx T) (ix3 n k l) = bu (ix3 (expert T n) k l) := fun k l => by
    refine (pick_apply (A := 1) (B := 2048) _ bu (refIdx T) n k l).trans ?_
    simp only [refIdx_apply T hT]; rfl
  pointwise [refU]
  simp only [g1, g2]

/-- The reference's gated unit from the first layer's values. -/
def refAct (u : FVec Ideal S290x256x2048 .f32) : FVec Ideal S290x256x1024 .f32 :=
  mulf (mulf (minimumf (extractStridedSlice (s := S290x256x2048) S290x256x1024 ![0, 0, 0] u slices_S290x256x2048_S290x256x1024_0_0_0) (broadcastInDim S290x256x1024 ![] bcast_S_S290x256x1024 (constant S_ .f32 0x40E00000#32))) (Host.divf (broadcastInDim S290x256x1024 ![] bcast_S_S290x256x1024 (constant S_ .f32 0x3F800000#32)) (addf (broadcastInDim S290x256x1024 ![] bcast_S_S290x256x1024 (constant S_ .f32 0x3F800000#32)) (Host.exp (Host.negf (mulf (broadcastInDim S290x256x1024 ![] bcast_S_S290x256x1024 (constant S_ .f32 0x3FD9DB23#32)) (minimumf (extractStridedSlice (s := S290x256x2048) S290x256x1024 ![0, 0, 0] u slices_S290x256x2048_S290x256x1024_0_0_0) (broadcastInDim S290x256x1024 ![] bcast_S_S290x256x1024 (constant S_ .f32 0x40E00000#32))))))))) (addf (minimumf (broadcastInDim S290x256x1024 ![] bcast_S_S290x256x1024 (id (constant S_ .f32 0x40E00000#32))) (maximumf (broadcastInDim S290x256x1024 ![] bcast_S_S290x256x1024 (id (constant S_ .f32 0xC0E00000#32))) (extractStridedSlice (s := S290x256x2048) S290x256x1024 ![0, 0, 1024] u slices_S290x256x2048_S290x256x1024_0_0_1024))) (broadcastInDim S290x256x1024 ![] bcast_S_S290x256x1024 (constant S_ .f32 0x3F800000#32)))

theorem refAct_apply (u : FVec Ideal S290x256x2048 .f32) (n : Fin 290) (r : Fin 256) (f : Fin 1024) :
    refAct u (ix3 n r f) = act (fun l => u (ix3 n r l)) f := by
  pointwise [refAct]
  unfold act
  rfl

/-- The reference's second layer, with the blocks past the last one in use at zero. -/
def refY (T : IVec S290 32) (N : IVec S1 32) (a : FVec Ideal S290x256x1024 .f32) (wd : FVec Ideal S32x1024x1024 .f32) (bd : FVec Ideal S32x1x1024 .f32) : FVec Ideal S74240x1024 .f32 :=
  shapeCast _ (select (broadcastInDim S290x256x1024 ![0, 1, 2] bcast_S290x1x1_S290x256x1024_0_1_2 (broadcastInDim S290x1x1 ![0] bcast_S290_S290x1x1_0 (cmpi .slt (iotaInDim S290 32 0) (broadcastInDim S290 ![] bcast_S_S290 (shapeCast _ N shapeCasts_S1_S_))))) (addf (Host.dotGeneral dot_S290x256x1024_S290x1024x1024_S290x256x1024_2_1_1_2_0_0 none a (Host.gather gather_S32x1024x1024_S290x1_S290x1024x1024_12_0_n_n_0_1_110241024 wd (refIdx T))) (broadcastInDim S290x256x1024 ![0, 1, 2] bcast_S290x1x1024_S290x256x1024_0_1_2 (Host.gather gather_S32x1x1024_S290x1_S290x1x1024_12_0_n_n_0_1_111024 bd (refIdx T)))) (broadcastInDim S290x256x1024 ![] bcast_S_S290x256x1024 (id (constant S_ .f32 0x00000000#32)))) shapeCasts_S290x256x1024_S74240x1024

theorem refY_apply (T : IVec S290 32) (hT : InRange T) (N : IVec S1 32) (a : FVec Ideal S290x256x1024 .f32) (wd : FVec Ideal S32x1024x1024 .f32) (bd : FVec Ideal S32x1x1024 .f32)
    (r : Fin 74240) (d : Fin 1024) (n : Fin 290) (hn : (⟨r.val / 256, by omega⟩ : Fin 290) = n) :
    refY T N a wd bd (ix2 r d) = if (BitVec.ofNat 32 n.val).toInt < (N (ix1 (0 : Fin 1))).toInt then
      ∑ f : Fin 1024, a (ix3 n (⟨r.val % 256, by omega⟩ : Fin 256) f) * wd (ix3 (expert T n) f d) + bd (ix3 (expert T n) 0 d) else 0 := by
  have g1 : ∀ n k l, Host.gather gather_S32x1024x1024_S290x1_S290x1024x1024_12_0_n_n_0_1_110241024 wd (refIdx T) (ix3 n k l) = wd (ix3 (expert T n) k l) := fun n k l => by
    refine (pick_apply (A := 1024) (B := 1024) _ wd (refIdx T) n k l).trans ?_
    simp only [refIdx_apply T hT]; rfl
  have g2 : ∀ n k l, Host.gather gather_S32x1x1024_S290x1_S290x1x1024_12_0_n_n_0_1_111024 bd (refIdx T) (ix3 n k l) = bd (ix3 (expert T n) k l) := fun n k l => by
    refine (pick_apply (A := 1) (B := 1024) _ bd (refIdx T) n k l).trans ?_
    simp only [refIdx_apply T hT]; rfl
  pointwise [refY]
  simp only [g1, g2, hn]
  have hz : (constant S_ .f32 0x00000000#32 : FVec Ideal S_ .f32) ix0 = 0 := by pointwise []
  refine (congrArg _ hz).trans ?_
  have hnv : r.val / 256 = n.val := congrArg Fin.val hn
  rw [hnv]
  by_cases hu : (BitVec.ofNat 32 n.val).toInt < (N (ix1 (0 : Fin 1))).toInt
  · rw [if_pos hu, IntOp.cmpi_slt.2 hu]; rfl
  · rw [if_neg hu, ValueIdx.eq_zero_of_ne_one (fun e => hu (IntOp.cmpi_slt.1 e))]; rfl

/-- The reference's three stages together are the experts' result. -/
theorem ref_eq (T : IVec S290 32) (hT : InRange T) (N : IVec S1 32) (x : FVec Ideal S74240x1024 .f32) (wu : FVec Ideal S32x1024x2048 .f32) (bu : FVec Ideal S32x1x2048 .f32)
    (wd : FVec Ideal S32x1024x1024 .f32) (bd : FVec Ideal S32x1x1024 .f32) :
    refY T N (refAct (refU T x wu bu)) wd bd = moeVal T N x wu bu wd bd := by
  funext j
  refine (congrArg _ (eq_ix2 (n0 := 74240) (n1 := 1024) j)).trans ((refY_apply T hT N _ wd bd (j 0) (j 1) _ rfl).trans ?_)
  have hr : (⟨(j 0).val / 256 * 256 + (j 0).val % 256, by have : (j 0).val < 74240 := (j 0).isLt; omega⟩ : Fin 74240) = j 0 :=
    Fin.ext (by show (j 0).val / 256 * 256 + (j 0).val % 256 = (j 0).val; omega)
  unfold moeVal rowVal
  simp only [refAct_apply, refU_apply T hT, hr]

variable (m : (ℓ : Loc nD τ sig) → Buf (Elt Ideal) ℓ) (ρ : Dev nD → PrngReg)

/-- The reference's run from a memory whose table is in range. -/
theorem run (hT : ∀ c : Dev nD, InRange (m ((c : Thread nD τ).loc main_arg0))) :
    θ_run defs (onTc (τ := τ) (main (F := Ideal))) ⟨m, fun _ => 0, ρ⟩ fun r => ∀ c : Dev nD,
      r.2.mem ((c : Thread nD τ).loc main_v58) = moeVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans ((rfl : Value.res_main_v58 m c = refY _ _ (refAct (refU _ _ _ _)) _ _).trans
    (ref_eq _ (hT c) _ _ _ _ _ _)), (h c).2⟩) (Value.run m ρ)

/-- No operation of the kernel was rewritten. -/
theorem preserves : Cert.preserves_Experts_ExpertsIdeal := trivial

/-- The reference runs to its end and leaves its arguments and counters as they were. -/
theorem frame_ref : Cert.quiescent_ExpertsRefIdeal := fun m ρ _ =>
  (θ_run Cert.ExpertsRefIdeal.defs _ _).mono (fun r h => ⟨fun c => (h c).2,
      Idealize.ShloMosaic.sem_eq_zero_of_no_sems (by decide) r.2⟩) (Value.run m ρ)

/-- The kernel and the reference leave the same array. -/
theorem algebraic : Cert.algebraic_ExpertsIdeal_ExpertsRefIdeal := by
  intro m g m' g' hpre hag
  have hr : InRange (pf m 0) := ExpertsTables.inRange_of_pre _ _ _ _ _ _ _ (hpre 0)
  have hp := ExpertsTables.held m hr
  have hr' : ∀ c : Dev nD, InRange (m' ((c : Thread nD τ).loc main_arg0)) := fun c => by
    rw [(hag c).1]
    exact ExpertsTables.inRange_of_pre _ _ _ _ _ _ _ (hpre c)
  refine ⟨fun c => moeVal (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)), ?_, ?_⟩
  · refine (θ_run Cert.ExpertsIdeal.defs _ _).mono (fun _ h c => ⟨((h.1 c).1 (5 : Fin 6)).trans ((final m g hr c).trans ?_),
      ((h.1 c).2 0).trans (hp c 0).symm, ((h.1 c).2 1).trans (hp c 1).symm,
      ((h.1 c).1 (0 : Fin 6)).trans ((ExpertsFrame.dats (ExpertsTables.adm m hr) m g 0 c).arrAt_in (0 : Fin 6) rfl _),
      ((h.1 c).1 (1 : Fin 6)).trans ((ExpertsFrame.dats (ExpertsTables.adm m hr) m g 0 c).arrAt_in (1 : Fin 6) rfl _),
      ((h.1 c).1 (2 : Fin 6)).trans ((ExpertsFrame.dats (ExpertsTables.adm m hr) m g 0 c).arrAt_in (2 : Fin 6) rfl _),
      ((h.1 c).1 (3 : Fin 6)).trans ((ExpertsFrame.dats (ExpertsTables.adm m hr) m g 0 c).arrAt_in (3 : Fin 6) rfl _),
      ((h.1 c).1 (4 : Fin 6)).trans ((ExpertsFrame.dats (ExpertsTables.adm m hr) m g 0 c).arrAt_in (4 : Fin 6) rfl _)⟩)
      (ExpertsFrame.run_quiescent (ExpertsTables.adm m hr) m g hp)
    obtain rfl : c = 0 := Subsingleton.elim _ _
    rfl
  · refine (θ_run Cert.ExpertsRefIdeal.defs _ _).mono (fun _ h c => ⟨(h c).1.trans ?_, (h c).2⟩) (run m' g' hr')
    obtain ⟨h0, h1, h2, h3, h4, h5, h6⟩ := hag c
    rw [h0, h1, h2, h3, h4, h5, h6]

end Cert.Proof.ExpertsRef
end
-- ==== Proof.InProjValue.lean ====
/-
  The value of the input projection's kernel: after the run each of the two result arrays is one function of the
  arguments, given index by index. The kernel's 32 blocks of 512 rows are read at coordinates, the blocks cover the
  arrays, and the two chains of contractions are opened to sums.
-/
module

public import proofs.«01_k».proof.Proof.Gen.InProjIdeal.Value
public import Idealize.ShloMosaic.Lib.Pipeline.ValueKit
public import Idealize.ShloMosaic.Lib.Pointwise
public import Idealize.ShloMosaic.Lib.StableHlo.ReadAt

@[expose] public section
noncomputable section

namespace Cert.Proof.InProjValue
open Idealize.ShloMosaic Idealize.ShloMosaic.TcCoe Idealize.SL.Sem
open Idealize.ShloMosaic.Pipeline (Dat)
open Cert.InProjIdeal Cert.InProjIdeal.Gen

/-- The normalised and modulated row `r` at feature `d`: the row divided by its root mean square, times the gain, times
    one plus the scale of the row's sequence, plus that sequence's shift. -/
def hval (x : S16384x1024.Idx → EReal) (mod : S8x1x6144.Idx → EReal) (g : S1x1024.Idx → EReal)
    (r : Fin 16384) (d : Fin 1024) : EReal :=
  x (ix2 r d) * Ideal.rsqrt (Ideal.div (∑ k, x (ix2 r k) * x (ix2 r k)) (Ideal.ofBits FTy.f32 1149239296#32)
      + Ideal.ofBits FTy.f32 897988541#32) * g (ix2 0 d)
    * (1 + mod (ix3 (⟨r.val / 2048, by omega⟩ : Fin 8) 0 ⟨1024 + d.val, by omega⟩))
    + mod (ix3 (⟨r.val / 2048, by omega⟩ : Fin 8) 0 ⟨d.val, by omega⟩)

/-- The main projection: the row times the first 3584 columns of the weights. -/
def mainVal (x : S16384x1024.Idx → EReal) (mod : S8x1x6144.Idx → EReal) (g : S1x1024.Idx → EReal)
    (w : S1024x3600.Idx → EReal) (j : S16384x3584.Idx) : EReal :=
  ∑ d : Fin 1024, hval x mod g (j 0) d * w (ix2 d (⟨(j 1).val, lt_of_lt_of_le (show (j 1).val < 3584 from (j 1).isLt) (by decide)⟩ : Fin 3600))

/-- The low-rank gate: the row times the last 16 columns, times the second factor, plus the bias. -/
def gateVal (x : S16384x1024.Idx → EReal) (mod : S8x1x6144.Idx → EReal) (g : S1x1024.Idx → EReal)
    (w : S1024x3600.Idx → EReal) (w2 : S16x256.Idx → EReal) (b : S1x256.Idx → EReal) (j : S16384x256.Idx) : EReal :=
  ∑ k : Fin 16, (∑ d : Fin 1024, hval x mod g (j 0) d * w (ix2 d (⟨3584 + k.val, by omega⟩ : Fin 3600)))
    * w2 (ix2 k (j 1)) + b (ix2 0 (j 1))

variable (m : (ℓ : Loc nD τ sig) → Buf (Elt Ideal) ℓ) (ρ : Dev nD → PrngReg)

/-- The weights' first 3584 columns, as the call is given them. -/
theorem V_main (c : Dev nD) (r : Fin 1024) (l : Fin 3584) :
    V m c main_v1 (ix2 r l) = m ((c : Thread nD τ).loc main_arg3) (ix2 r (⟨l.val, by omega⟩ : Fin 3600)) := by
  unfold V
  after_reads_at

/-- The weights' last 16 columns, as the call is given them. -/
theorem V_rank (c : Dev nD) (r : Fin 1024) (l : Fin 16) :
    V m c main_v3 (ix2 r l) = m ((c : Thread nD τ).loc main_arg3) (ix2 r (⟨3584 + l.val, by omega⟩ : Fin 3600)) := by
  unfold V
  after_reads_at

/-- The gate's second factor, as the call is given it. -/
theorem V_gk2 (c : Dev nD) (r : Fin 16) (l : Fin 256) :
    V m c main_v4 (ix2 r l) = m ((c : Thread nD τ).loc main_arg4) (ix2 r l) := by
  unfold V
  after_reads_at

theorem idx0 : ∀ t : Fin cfg0.N, win0_0.index t = ![t.val, 0] := (by decide +kernel : ∀ t : Fin grid0.N, _)
theorem idx1 : ∀ t : Fin cfg0.N, win0_1.index t = ![t.val / 4, 0, 0] := (by decide +kernel : ∀ t : Fin grid0.N, _)
theorem idx2 : ∀ t : Fin cfg0.N, win0_2.index t = ![t.val / 4, 0, 1] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)

theorem lt32 (t : Fin cfg0.N) : t.val < 32 := t.isLt

/-- Block `t` of the rows is rows `512 t` to `512 t + 511`. -/
theorem blk_x (c : Dev nD) (t : Fin cfg0.N) (r : Fin 512) (d : Fin 1024) :
    iblk m c 0 t (ix2 r d)
      = m ((c : Thread nD τ).loc main_arg0) (ix2 (⟨t.val * 512 + r.val, by have := lt32 t; omega⟩ : Fin 16384) d) := by
  blk_simp [iblk]
  rw [V_main_arg0]
  congr 1
  blk_ext [idx0]

/-- The shift of block `t` is that of its sequence, `t / 4`. -/
theorem blk_sh (c : Dev nD) (t : Fin cfg0.N) (d : Fin 1024) :
    iblk m c 1 t (ix3 0 0 d)
      = m ((c : Thread nD τ).loc main_arg1) (ix3 (⟨t.val / 4, by have := lt32 t; omega⟩ : Fin 8) 0 (⟨d.val, by omega⟩ : Fin 6144)) := by
  blk_simp [iblk]
  rw [V_main_arg1]
  congr 1
  blk_ext [idx1]

/-- The scale of block `t` is that of its sequence, `t / 4`. -/
theorem blk_sc (c : Dev nD) (t : Fin cfg0.N) (d : Fin 1024) :
    iblk m c 2 t (ix3 0 0 d)
      = m ((c : Thread nD τ).loc main_arg1) (ix3 (⟨t.val / 4, by have := lt32 t; omega⟩ : Fin 8) 0 (⟨1024 + d.val, by omega⟩ : Fin 6144)) := by
  blk_simp [iblk]
  rw [V_main_arg1]
  congr 1
  blk_ext [idx2]

/-- The gain, the weights and the bias are whole at every point. -/
theorem blk_g (c : Dev nD) (t : Fin cfg0.N) (d : Fin 1024) :
    iblk m c 3 t (ix2 0 d) = m ((c : Thread nD τ).loc main_arg2) (ix2 0 d) := by
  blk_simp [iblk]
  rw [V_main_arg2]
  congr 1
  blk_ext [idx3]

theorem blk_main (c : Dev nD) (t : Fin cfg0.N) (r : Fin 1024) (l : Fin 3584) :
    iblk m c 4 t (ix2 r l) = m ((c : Thread nD τ).loc main_arg3) (ix2 r (⟨l.val, by omega⟩ : Fin 3600)) := by
  refine Eq.trans ?_ (V_main m c r l)
  blk_simp [iblk]
  congr 1
  blk_ext [idx4]

theorem blk_rank (c : Dev nD) (t : Fin cfg0.N) (r : Fin 1024) (l : Fin 16) :
    iblk m c 5 t (ix2 r l) = m ((c : Thread nD τ).loc main_arg3) (ix2 r (⟨3584 + l.val, by omega⟩ : Fin 3600)) := by
  refine Eq.trans ?_ (V_rank m c r l)
  blk_simp [iblk]
  congr 1
  blk_ext [idx5]

theorem blk_gk2 (c : Dev nD) (t : Fin cfg0.N) (r : Fin 16) (l : Fin 256) :
    iblk m c 6 t (ix2 r l) = m ((c : Thread nD τ).loc main_arg4) (ix2 r l) := by
  refine Eq.trans ?_ (V_gk2 m c r l)
  blk_simp [iblk]
  congr 1
  blk_ext [idx6]

theorem blk_b (c : Dev nD) (t : Fin cfg0.N) (l : Fin 256) :
    iblk m c 7 t (ix2 0 l) = m ((c : Thread nD τ).loc main_arg5) (ix2 0 l) := by
  blk_simp [iblk]
  rw [V_main_arg5]
  congr 1
  blk_ext [idx7]

/-- The body's normalised rows of block `t`, at coordinates. -/
theorem pay_h (c : Dev nD) (t : Fin cfg0.N) (r : Fin 512) (d : Fin 1024) :
    k0_pay2 (iblk m c 0 t) (iblk m c 3 t) (iblk m c 2 t) (iblk m c 1 t) (ix2 r d)
      = hval (m ((c : Thread nD τ).loc main_arg0)) (m ((c : Thread nD τ).loc main_arg1)) (m ((c : Thread nD τ).loc main_arg2))
          (⟨t.val * 512 + r.val, by have := lt32 t; omega⟩ : Fin 16384) d := by
  have hq : (⟨(t.val * 512 + r.val) / 2048, by have := lt32 t; omega⟩ : Fin 8) = ⟨t.val / 4, by have := lt32 t; omega⟩ :=
    Fin.ext (by show (t.val * 512 + r.val) / 2048 = t.val / 4; omega)
  pointwise [k0_pay2]
  unfold hval
  simp only [hq, blk_x, blk_g, blk_sc, blk_sh]

/-- The main projection of block `t`, at coordinates. -/
theorem pay_main (c : Dev nD) (t : Fin cfg0.N) (r : Fin 512) (l : Fin 3584) :
    k0_pay3 (iblk m c 0 t) (iblk m c 3 t) (iblk m c 2 t) (iblk m c 1 t) (iblk m c 4 t) (ix2 r l)
      = mainVal (m ((c : Thread nD τ).loc main_arg0)) (m ((c : Thread nD τ).loc main_arg1)) (m ((c : Thread nD τ).loc main_arg2))
          (m ((c : Thread nD τ).loc main_arg3)) (ix2 (⟨t.val * 512 + r.val, by have := lt32 t; omega⟩ : Fin 16384) l) := by
  pointwise [k0_pay3]
  unfold mainVal
  exact Finset.sum_congr rfl fun d _ => congrArg₂ (· * ·) (pay_h m c t r d) (blk_main m c t d l)

/-- The gate of block `t`, at coordinates. -/
theorem pay_gate (c : Dev nD) (t : Fin cfg0.N) (r : Fin 512) (l : Fin 256) :
    k0_pay1 (k0_pay4 (iblk m c 0 t) (iblk m c 3 t) (iblk m c 2 t) (iblk m c 1 t) (iblk m c 5 t)) (iblk m c 6 t) (iblk m c 7 t) (ix2 r l)
      = gateVal (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (ix2 (⟨t.val * 512 + r.val, by have := lt32 t; omega⟩ : Fin 16384) l) := by
  pointwise [k0_pay1, k0_pay4]
  unfold gateVal
  refine congrArg₂ (· + ·) (Finset.sum_congr rfl fun k _ => congrArg₂ (· * ·) (Finset.sum_congr rfl fun d _ =>
    congrArg₂ (· * ·) (pay_h m c t r d) (blk_rank m c t d k)) (blk_gk2 m c t k l)) (blk_b m c t l)

/-- The array of main projections after the run. -/
theorem final_main (c : Dev nD) : (dats m 0 c).arrAt 8 cfg0.N
    = mainVal (m ((c : Thread nD τ).loc main_arg0)) (m ((c : Thread nD τ).loc main_arg1)) (m ((c : Thread nD τ).loc main_arg2))
        (m ((c : Thread nD τ).loc main_arg3)) := by
  refine (dats m 0 c).arrAt_eq_of_covers 8 _ (by decide +kernel) fun t hf y => ?_
  blk_simp
  rw [after0_8]; unfold out0_8; frame_out
  refine (congrArg _ (eq_ix2 (n0 := 512) (n1 := 3584) y)).trans ((pay_main m c t (y 0) (y 1)).trans (congrArg _ ?_))
  blk_ext [idx8]

/-- The array of gates after the run. -/
theorem final_gate (c : Dev nD) : (dats m 0 c).arrAt 9 cfg0.N
    = gateVal (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]; unfold out0_9; frame_out
  refine (congrArg _ (eq_ix2 (n0 := 512) (n1 := 256) y)).trans ((pay_gate m c t (y 0) (y 1)).trans (congrArg _ ?_))
  blk_ext [idx9]

/-- The kernel's run: the two results at these functions of the arguments, the arguments unchanged. -/
theorem run : θ_run defs (onTc (τ := τ) (main (F := Ideal))) ⟨m, fun _ => 0, ρ⟩ fun r => ∀ c : Dev nD,
      (r.2.mem ((c : Thread nD τ).loc main_v5_0)
        = mainVal (m ((c : Thread nD τ).loc main_arg0)) (m ((c : Thread nD τ).loc main_arg1)) (m ((c : Thread nD τ).loc main_arg2))
        (m ((c : Thread nD τ).loc main_arg3))
      ∧ r.2.mem ((c : Thread nD τ).loc main_v5_1)
        = gateVal (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨⟨(h c).1.trans (final_main m c), (h c).2.1.trans (final_gate m c)⟩, (h c).2.2⟩)
    (Value.run_blocks m ρ)

end Cert.Proof.InProjValue
end
-- ==== Proof.InProjRef.lean ====
/-
  The reference of the input projection reads, index by index, as the same functions of the arguments, and the claim.
-/
module

public import proofs.«01_k».proof.Defs
public import proofs.«01_k».proof.Proof.InProjValue
public import proofs.«01_k».proof.Proof.Gen.InProjRefIdeal.Run
public import proofs.«01_k».proof.Proof.Gen.InProj.Frame
public import Idealize.ShloMosaic.Lib.Quiescent

@[expose] public section
noncomputable section

namespace Cert.Proof.InProjRef
open Idealize.ShloMosaic Idealize.ShloMosaic.TcCoe Idealize.SL.Sem
open Cert.InProjRefIdeal Cert.InProjRefIdeal.Gen Cert.Proof.InProjValue

/-- The reference's normalised and modulated rows, as its operations compose them. -/
def refH (x : FVec Ideal S16384x1024 .f32) (mod : FVec Ideal S8x1x6144 .f32) (g : FVec Ideal S1x1024 .f32) : FVec Ideal S8x2048x1024 .f32 :=
  (addf (mulf (mulf (mulf (shapeCast _ x shapeCasts_S16384x1024_S8x2048x1024) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (shapeCast _ x shapeCasts_S16384x1024_S8x2048x1024) (shapeCast _ x shapeCasts_S16384x1024_S8x2048x1024)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![1, 2] bcast_S1x1024_S1x1x1024_1_2 g))) (broadcastInDim S8x2048x1024 ![0, 1, 2] bcast_S8x1x1024_S8x2048x1024_0_1_2 (addf (broadcastInDim S8x1x1024 ![] bcast_S_S8x1x1024 (constant S_ .f32 0x3F800000#32)) (extractStridedSlice (s := S8x1x6144) S8x1x1024 ![0, 0, 1024] mod slices_S8x1x6144_S8x1x1024_0_0_1024)))) (broadcastInDim S8x2048x1024 ![0, 1, 2] bcast_S8x1x1024_S8x2048x1024_0_1_2 (extractStridedSlice (s := S8x1x6144) S8x1x1024 ![0, 0, 0] mod slices_S8x1x6144_S8x1x1024_0_0_0)))

theorem refH_apply (x : FVec Ideal S16384x1024 .f32) (mod : FVec Ideal S8x1x6144 .f32) (g : FVec Ideal S1x1024 .f32)
    (b : Fin 8) (t : Fin 2048) (d : Fin 1024) :
    refH x mod g (ix3 b t d) = hval x mod g (⟨b.val * 2048 + t.val, by omega⟩ : Fin 16384) d := by
  have hq : (⟨(b.val * 2048 + t.val) / 2048, by omega⟩ : Fin 8) = b :=
    Fin.ext (by show (b.val * 2048 + t.val) / 2048 = b.val; omega)
  pointwise [refH]
  unfold hval
  simp only [hq]

/-- The reference's main projection from the rows. -/
def refP (h : FVec Ideal S8x2048x1024 .f32) (w : FVec Ideal S1024x3600 .f32) : FVec Ideal S16384x3584 .f32 :=
 shapeCast _ (extractStridedSlice (s := S8x2048x3600) S8x2048x3584 ![0, 0, 0] (Host.dotGeneral dot_S8x2048x1024_S1024x3600_S8x2048x3600_2_0_01_1_n_n none h w) slices_S8x2048x3600_S8x2048x3584_0_0_0) shapeCasts_S8x2048x3584_S16384x3584

theorem refP_apply (h : FVec Ideal S8x2048x1024 .f32) (w : FVec Ideal S1024x3600 .f32) (r : Fin 16384) (l : Fin 3584) :
    refP h w (ix2 r l) = ∑ d : Fin 1024, h (ix3 (⟨r.val / 2048, by omega⟩ : Fin 8) (⟨r.val % 2048, by omega⟩ : Fin 2048) d)
      * w (ix2 d (⟨l.val, by omega⟩ : Fin 3600)) := by
  pointwise [refP]

/-- The reference's low-rank gate from the rows. -/
def refG (h : FVec Ideal S8x2048x1024 .f32) (w : FVec Ideal S1024x3600 .f32) (w2 : FVec Ideal S16x256 .f32) (b : FVec Ideal S1x256 .f32) : FVec Ideal S16384x256 .f32 :=
 shapeCast _ (addf (Host.dotGeneral dot_S8x2048x16_S16x256_S8x2048x256_2_0_01_1_n_n none (extractStridedSlice (s := S8x2048x3600) S8x2048x16 ![0, 0, 3584] (Host.dotGeneral dot_S8x2048x1024_S1024x3600_S8x2048x3600_2_0_01_1_n_n none h w) slices_S8x2048x3600_S8x2048x16_0_0_3584) w2) (broadcastInDim S8x2048x256 ![0, 1, 2] bcast_S1x1x256_S8x2048x256_0_1_2 (broadcastInDim S1x1x256 ![1, 2] bcast_S1x256_S1x1x256_1_2 b))) shapeCasts_S8x2048x256_S16384x256

theorem refG_apply (h : FVec Ideal S8x2048x1024 .f32) (w : FVec Ideal S1024x3600 .f32) (w2 : FVec Ideal S16x256 .f32) (b : FVec Ideal S1x256 .f32) (r : Fin 16384) (l : Fin 256) :
    refG h w w2 b (ix2 r l) = ∑ k : Fin 16, (∑ d : Fin 1024,
        h (ix3 (⟨r.val / 2048, by omega⟩ : Fin 8) (⟨r.val % 2048, by omega⟩ : Fin 2048) d)
          * w (ix2 d (⟨3584 + k.val, by omega⟩ : Fin 3600))) * w2 (ix2 k l) + b (ix2 0 l) := by
  pointwise [refG]

/-- The reference's normalised row `r` of the flattened batch. -/
theorem refH_row (x : FVec Ideal S16384x1024 .f32) (mod : FVec Ideal S8x1x6144 .f32) (g : FVec Ideal S1x1024 .f32)
    (r : Fin 16384) (d : Fin 1024) :
    refH x mod g (ix3 (⟨r.val / 2048, by omega⟩ : Fin 8) (⟨r.val % 2048, by omega⟩ : Fin 2048) d) = hval x mod g r d := by
  rw [refH_apply]
  congr 1
  exact Fin.ext (by show r.val / 2048 * 2048 + r.val % 2048 = r.val; omega)

variable (m : (ℓ : Loc nD τ sig) → Buf (Elt Ideal) ℓ) (ρ : Dev nD → PrngReg)

/-- The reference's run, its two results read at every index. -/
theorem run : θ_run defs (onTc (τ := τ) (main (F := Ideal))) ⟨m, fun _ => 0, ρ⟩ fun r => ∀ c : Dev nD,
      (r.2.mem ((c : Thread nD τ).loc main_v29)
        = mainVal (m ((c : Thread nD τ).loc main_arg0)) (m ((c : Thread nD τ).loc main_arg1)) (m ((c : Thread nD τ).loc main_arg2))
        (m ((c : Thread nD τ).loc main_arg3))
      ∧ r.2.mem ((c : Thread nD τ).loc main_v30)
        = gateVal (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun _ h c => ⟨⟨(h c).1.trans (?_ : refP (refH _ _ _) _ = _),
    (h c).2.1.trans (?_ : refG (refH _ _ _) _ _ _ = _)⟩, (h c).2.2⟩) (Value.run m ρ)
  · refine funext fun j => (congrArg _ (eq_ix2 (n0 := 16384) (n1 := 3584) j)).trans ((refP_apply _ _ _ _).trans ?_)
    unfold mainVal
    exact Finset.sum_congr rfl fun d _ => congrArg (· * _) (refH_row _ _ _ _ d)
  · refine funext fun j => (congrArg _ (eq_ix2 (n0 := 16384) (n1 := 256) j)).trans ((refG_apply _ _ _ _ _ _).trans ?_)
    unfold gateVal
    exact congrArg (· + _) (Finset.sum_congr rfl fun k _ => congrArg (· * _) (Finset.sum_congr rfl fun d _ =>
      congrArg (· * _) (refH_row _ _ _ _ d)))

/-- No operation of the kernel was rewritten. -/
theorem preserves : Cert.preserves_InProj_InProjIdeal := trivial

/-- The kernel as printed runs to its end and leaves its arguments and counters as they were. -/
theorem frame : Cert.quiescent_InProj := fun m ρ _ => Cert.InProj.Gen.frame m ρ

/-- The kernel read in exact arithmetic likewise. -/
theorem frame_ideal : Cert.quiescent_InProjIdeal := fun m ρ _ => Cert.InProjIdeal.Gen.frame m ρ

/-- The reference likewise. -/
theorem frame_ref : Cert.quiescent_InProjRefIdeal := fun m ρ _ =>
  (θ_run Cert.InProjRefIdeal.defs _ _).mono (fun r h => ⟨fun c => (h c).2,
      Idealize.ShloMosaic.sem_eq_zero_of_no_sems (by decide) r.2⟩) (run m ρ)

/-- The kernel and the reference leave the same two arrays. -/
theorem algebraic : Cert.algebraic_InProjIdeal_InProjRefIdeal := by
  intro m ρ m' ρ' _ hag
  refine ⟨fun c => mainVal (m ((c.tc : Thread Cert.InProjIdeal.nD Cert.InProjIdeal.τ).loc Cert.InProjIdeal.main_arg0)) (m ((c.tc : Thread Cert.InProjIdeal.nD Cert.InProjIdeal.τ).loc Cert.InProjIdeal.main_arg1))
      (m ((c.tc : Thread Cert.InProjIdeal.nD Cert.InProjIdeal.τ).loc Cert.InProjIdeal.main_arg2)) (m ((c.tc : Thread Cert.InProjIdeal.nD Cert.InProjIdeal.τ).loc Cert.InProjIdeal.main_arg3)),
    fun c => gateVal (m ((c.tc : Thread Cert.InProjIdeal.nD Cert.InProjIdeal.τ).loc Cert.InProjIdeal.main_arg0)) (m ((c.tc : Thread Cert.InProjIdeal.nD Cert.InProjIdeal.τ).loc Cert.InProjIdeal.main_arg1))
      (m ((c.tc : Thread Cert.InProjIdeal.nD Cert.InProjIdeal.τ).loc Cert.InProjIdeal.main_arg2)) (m ((c.tc : Thread Cert.InProjIdeal.nD Cert.InProjIdeal.τ).loc Cert.InProjIdeal.main_arg3))
      (m ((c.tc : Thread Cert.InProjIdeal.nD Cert.InProjIdeal.τ).loc Cert.InProjIdeal.main_arg4)) (m ((c.tc : Thread Cert.InProjIdeal.nD Cert.InProjIdeal.τ).loc Cert.InProjIdeal.main_arg5)), ?_, ?_⟩
  · exact (θ_run Cert.InProjIdeal.defs _ _).mono (fun _ h c => ⟨(h c).1.1, (h c).1.2, (h c).2⟩) (InProjValue.run m ρ)
  · refine (θ_run Cert.InProjRefIdeal.defs _ _).mono (fun _ h c => ⟨(h c).1.1.trans ?_, (h c).1.2.trans ?_, (h c).2⟩) (run m' ρ')
    · obtain ⟨h0, h1, h2, h3, _, _⟩ := hag c
      rw [h0, h1, h2, h3]
    · obtain ⟨h0, h1, h2, h3, h4, h5⟩ := hag c
      rw [h0, h1, h2, h3, h4, h5]

end Cert.Proof.InProjRef
end
-- ==== Proof.AdaModValue.lean ====
/-
  The value of the modulation's kernel: after the run the result array is one function of the arguments, index by
  index: silu of the conditioning vectors, times a layer's matrix, plus its bias.
-/
module

public import proofs.«01_k».proof.Proof.Gen.AdaModIdeal.Value
public import Idealize.ShloMosaic.Lib.Pipeline.ValueKit
public import Idealize.ShloMosaic.Lib.Pointwise
public import Idealize.ShloMosaic.Lib.StableHlo.ReadAt

@[expose] public section
noncomputable section

namespace Cert.Proof.AdaModValue
open Idealize.ShloMosaic Idealize.ShloMosaic.TcCoe Idealize.SL.Sem
open Idealize.ShloMosaic.Pipeline (Dat)
open Cert.AdaModIdeal Cert.AdaModIdeal.Gen

/-- The conditioning vectors of the two groups, one under the other. -/
def both (a : FVec Ideal S8x1024 .f32) (b : FVec Ideal S128x1024 .f32) : FVec Ideal S136x1024 .f32 :=
  concatenate S136x1024 0 [⟨S8x1024, a⟩, ⟨S128x1024, b⟩] concatenates_S8x1024_S128x1024_S136x1024_d0

/-- Layer `l`'s modulation of sequence `r` at column `d`. -/
def modAt (x : S136x1024.Idx → EReal) (w : S2x1024x6144.Idx → EReal) (b : S2x6144.Idx → EReal)
    (l : Fin 2) (r : Fin 136) (d : Fin 6144) : EReal :=
  ∑ k : Fin 1024, x (ix2 r k) * Ideal.div 1 (1 + Ideal.exp (-x (ix2 r k))) * w (ix3 l k d) + b (ix2 l d)

/-- The whole result. -/
def modVal (x : S136x1024.Idx → EReal) (w : S2x1024x6144.Idx → EReal) (b : S2x6144.Idx → EReal)
    (j : S2x136x6144.Idx) : EReal := modAt x w b (j 0) (j 1) (j 2)

variable (m : (ℓ : Loc nD τ sig) → Buf (Elt Ideal) ℓ) (ρ : Dev nD → PrngReg)

/-- The conditioning vectors, as the call is given them. -/
theorem V_c (c : Dev nD) : V m c main_v0
    = both (m ((c : Thread nD τ).loc main_arg0)) (m ((c : Thread nD τ).loc main_arg1)) := by
  unfold V
  after_reads_simp
  rfl

/-- The biases, as the call is given them. -/
theorem V_b (c : Dev nD) (l : Fin 2) (d : Fin 6144) :
    V m c main_v1 (ix3 l 0 d) = m ((c : Thread nD τ).loc main_arg3) (ix2 l d) := by
  unfold V
  after_reads_at

theorem idx0 : ∀ t : Fin cfg0.N, win0_0.index t = ![0, 0] := (by decide +kernel : ∀ t : Fin grid0.N, _)
theorem idx1 : ∀ t : Fin cfg0.N, win0_1.index t = ![t.val / 4, 0, t.val % 4] := (by decide +kernel : ∀ t : Fin grid0.N, _)
theorem idx2 : ∀ t : Fin cfg0.N, win0_2.index t = ![t.val / 4, 0, t.val % 4] := (by decide +kernel : ∀ t : Fin grid0.N, _)
theorem idx3 : ∀ t : Fin cfg0.N, win0_3.index t = ![t.val / 4, 0, t.val % 4] := (by decide +kernel : ∀ t : Fin grid0.N, _)

theorem lt8 (t : Fin cfg0.N) : t.val < 8 := t.isLt

theorem blk_x (c : Dev nD) (t : Fin cfg0.N) (r : Fin 136) (d : Fin 1024) :
    iblk m c 0 t (ix2 r d)
      = both (m ((c : Thread nD τ).loc main_arg0)) (m ((c : Thread nD τ).loc main_arg1)) (ix2 r d) := by
  rw [← V_c]
  blk_simp [iblk]
  congr 1
  blk_ext [idx0]

theorem blk_w (c : Dev nD) (t : Fin cfg0.N) (k : Fin 1024) (d : Fin 1536) :
    iblk m c 1 t (ix3 0 k d) = m ((c : Thread nD τ).loc main_arg2)
      (ix3 (⟨t.val / 4, by have := lt8 t; omega⟩ : Fin 2) k (⟨t.val % 4 * 1536 + d.val, by omega⟩ : Fin 6144)) := by
  blk_simp [iblk]
  rw [V_main_arg2]
  congr 1
  blk_ext [idx1]

theorem blk_b (c : Dev nD) (t : Fin cfg0.N) (d : Fin 1536) :
    iblk m c 2 t (ix3 0 0 d) = m ((c : Thread nD τ).loc main_arg3)
      (ix2 (⟨t.val / 4, by have := lt8 t; omega⟩ : Fin 2) (⟨t.val % 4 * 1536 + d.val, by omega⟩ : Fin 6144)) := by
  refine Eq.trans ?_ (V_b m c _ _)
  blk_simp [iblk]
  congr 1
  blk_ext [idx2]

/-- The body's block at coordinates. -/
theorem pay (c : Dev nD) (t : Fin cfg0.N) (u : Fin 1) (r : Fin 136) (d : Fin 1536) :
    k0_pay1 (iblk m c 0 t) (iblk m c 1 t) (iblk m c 2 t) (ix3 u r d)
      = modVal (both (m ((c : Thread nD τ).loc main_arg0)) (m ((c : Thread nD τ).loc main_arg1)))
          (m ((c : Thread nD τ).loc main_arg2)) (m ((c : Thread nD τ).loc main_arg3))
          (ix3 (⟨t.val / 4, by have := lt8 t; omega⟩ : Fin 2) r (⟨t.val % 4 * 1536 + d.val, by omega⟩ : Fin 6144)) := by
  obtain rfl : u = 0 := Subsingleton.elim _ _
  pointwise [k0_pay1]
  unfold modVal modAt
  simp only [zero_sub]
  refine congrArg₂ (· + ·) (Finset.sum_congr rfl fun k _ => congrArg₂ (· * ·) ?_ (blk_w m c t k d)) (blk_b m c t d)
  rw [blk_x]
  rfl

/-- The result array after the run. -/
theorem final (c : Dev nD) : (dats m 0 c).arrAt 3 cfg0.N
    = modVal (both (m ((c : Thread nD τ).loc main_arg0)) (m ((c : Thread nD τ).loc main_arg1)))
        (m ((c : Thread nD τ).loc main_arg2)) (m ((c : Thread nD τ).loc main_arg3)) := by
  refine (dats m 0 c).arrAt_eq_of_covers 3 _ (by decide +kernel) fun t hf y => ?_
  blk_simp
  rw [after0_3]; unfold out0_3; frame_out
  refine (congrArg _ (eq_ix3 (n0 := 1) (n1 := 136) (n2 := 1536) y)).trans ((pay m c t (y 0) (y 1) (y 2)).trans (congrArg (modVal _ _ _) ?_))
  blk_ext [idx3]

/-- The kernel's run: the result at this function of the arguments, the arguments unchanged. -/
theorem run : θ_run defs (onTc (τ := τ) (main (F := Ideal))) ⟨m, fun _ => 0, ρ⟩ fun r => ∀ c : Dev nD,
      r.2.mem ((c : Thread nD τ).loc main_v2)
        = modVal (both (m ((c : Thread nD τ).loc main_arg0)) (m ((c : Thread nD τ).loc main_arg1)))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.Proof.AdaModValue
end
-- ==== Proof.AdaModRef.lean ====
/-
  The reference of the modulation reads, index by index, as the same function of the arguments, and the claims.
-/
module

public import proofs.«01_k».proof.Defs
public import proofs.«01_k».proof.Proof.AdaModValue
public import proofs.«01_k».proof.Proof.Gen.AdaModRefIdeal.Run
public import proofs.«01_k».proof.Proof.Gen.AdaMod.Frame
public import Idealize.ShloMosaic.Lib.Quiescent

@[expose] public section
noncomputable section

namespace Cert.Proof.AdaModRef
open Idealize.ShloMosaic Idealize.ShloMosaic.TcCoe Idealize.SL.Sem
open Cert.AdaModRefIdeal Cert.AdaModRefIdeal.Gen Cert.Proof.AdaModValue

variable (m : (ℓ : Loc nD τ sig) → Buf (Elt Ideal) ℓ) (ρ : Dev nD → PrngReg)

/-- The reference's result as its operations compose it, over the conditioning vectors `x`. -/
def refA (x : FVec Ideal S136x1024 .f32) (w : FVec Ideal S2x1024x6144 .f32) (b : FVec Ideal S2x6144 .f32) : FVec Ideal S2x136x6144 .f32 :=
 concatenate S2x136x6144 0 [⟨S1x136x6144, (broadcastInDim S1x136x6144 ![1, 2] bcast_S136x6144_S1x136x6144_1_2 (addf (Host.dotGeneral dot_S136x1024_S1024x6144_S136x6144_1_0_0_1_n_n none (mulf x (Host.divf (broadcastInDim S136x1024 ![] bcast_S_S136x1024 (constant S_ .f32 0x3F800000#32)) (addf (broadcastInDim S136x1024 ![] bcast_S_S136x1024 (constant S_ .f32 0x3F800000#32)) (Host.exp (Host.negf x))))) (shapeCast _ (extractStridedSlice (s := S2x1024x6144) S1x1024x6144 ![0, 0, 0] w slices_S2x1024x6144_S1x1024x6144_0_0_0) shapeCasts_S1x1024x6144_S1024x6144)) (broadcastInDim S136x6144 ![0, 1] bcast_S1x6144_S136x6144_0_1 (broadcastInDim S1x6144 ![1] bcast_S6144_S1x6144_1 (shapeCast _ (extractStridedSlice (s := S2x6144) S1x6144 ![0, 0] b slices_S2x6144_S1x6144_0_0) shapeCasts_S1x6144_S6144)))))⟩, ⟨S1x136x6144, (broadcastInDim S1x136x6144 ![1, 2] bcast_S136x6144_S1x136x6144_1_2 (addf (Host.dotGeneral dot_S136x1024_S1024x6144_S136x6144_1_0_0_1_n_n none (mulf x (Host.divf (broadcastInDim S136x1024 ![] bcast_S_S136x1024 (constant S_ .f32 0x3F800000#32)) (addf (broadcastInDim S136x1024 ![] bcast_S_S136x1024 (constant S_ .f32 0x3F800000#32)) (Host.exp (Host.negf x))))) (shapeCast _ (extractStridedSlice (s := S2x1024x6144) S1x1024x6144 ![1, 0, 0] w slices_S2x1024x6144_S1x1024x6144_1_0_0) shapeCasts_S1x1024x6144_S1024x6144)) (broadcastInDim S136x6144 ![0, 1] bcast_S1x6144_S136x6144_0_1 (broadcastInDim S1x6144 ![1] bcast_S6144_S1x6144_1 (shapeCast _ (extractStridedSlice (s := S2x6144) S1x6144 ![1, 0] b slices_S2x6144_S1x6144_1_0) shapeCasts_S1x6144_S6144)))))⟩] concatenates_S1x136x6144_S1x136x6144_S2x136x6144_d0

theorem refA_apply (x : FVec Ideal S136x1024 .f32) (w : FVec Ideal S2x1024x6144 .f32) (b : FVec Ideal S2x6144 .f32)
    (l : Fin 2) (r : Fin 136) (d : Fin 6144) : refA x w b (ix3 l r d) = modAt x w b l r d := by
  pointwise [refA]
  unfold modAt
  fin_cases l <;> rfl

/-- The reference's run, its result read at every index. -/
theorem run : θ_run defs (onTc (τ := τ) (main (F := Ideal))) ⟨m, fun _ => 0, ρ⟩ fun r => ∀ c : Dev nD,
      r.2.mem ((c : Thread nD τ).loc main_v21)
        = modVal (both (m ((c : Thread nD τ).loc main_arg0)) (m ((c : Thread nD τ).loc main_arg1)))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨(h c).1.trans (?_ : refA (both _ _) _ _ = _), (h c).2⟩) (Value.run m ρ)
  exact funext fun j => (congrArg _ (eq_ix3 (n0 := 2) (n1 := 136) (n2 := 6144) j)).trans (refA_apply _ _ _ _ _ _)

/-- No operation of the kernel was rewritten. -/
theorem preserves : Cert.preserves_AdaMod_AdaModIdeal := trivial

/-- The kernel as printed runs to its end and leaves its arguments and counters as they were. -/
theorem frame : Cert.quiescent_AdaMod := fun m ρ _ => Cert.AdaMod.Gen.frame m ρ

/-- The kernel read in exact arithmetic likewise. -/
theorem frame_ideal : Cert.quiescent_AdaModIdeal := fun m ρ _ => Cert.AdaModIdeal.Gen.frame m ρ

/-- The reference likewise. -/
theorem frame_ref : Cert.quiescent_AdaModRefIdeal := fun m ρ _ =>
  (θ_run Cert.AdaModRefIdeal.defs _ _).mono (fun r h => ⟨fun c => (h c).2,
      Idealize.ShloMosaic.sem_eq_zero_of_no_sems (by decide) r.2⟩) (run m ρ)

/-- The kernel and the reference leave the same array. -/
theorem algebraic : Cert.algebraic_AdaModIdeal_AdaModRefIdeal := by
  intro m ρ m' ρ' _ hag
  refine ⟨fun c => modVal
      (both (m ((c.tc : Thread Cert.AdaModIdeal.nD Cert.AdaModIdeal.τ).loc Cert.AdaModIdeal.main_arg0))
        (m ((c.tc : Thread Cert.AdaModIdeal.nD Cert.AdaModIdeal.τ).loc Cert.AdaModIdeal.main_arg1)))
      (m ((c.tc : Thread Cert.AdaModIdeal.nD Cert.AdaModIdeal.τ).loc Cert.AdaModIdeal.main_arg2))
      (m ((c.tc : Thread Cert.AdaModIdeal.nD Cert.AdaModIdeal.τ).loc Cert.AdaModIdeal.main_arg3)), AdaModValue.run m ρ, ?_⟩
  refine (θ_run Cert.AdaModRefIdeal.defs _ _).mono (fun _ h c => ⟨(h c).1.trans ?_, (h c).2⟩) (run m' ρ')
  obtain ⟨h0, h1, h2, h3⟩ := hag c
  rw [h0, h1, h2, h3]

end Cert.Proof.AdaModRef
end
-- ==== Proof.PostTopK.lean ====
/-
  The four greatest of a row: the first places of the row's stable descending sort are what rounds of "greatest entry, least place that
  holds it, strike it out" pick.
-/
module

public import Idealize.ShloMosaic.Lib.SortFacts
public import Idealize.ShloMosaic.PureOps.Ideal.Laws

@[expose] public section
noncomputable section

namespace Cert.Proof.PostTopK
open Idealize.ShloMosaic

variable (L : Fin 32 → EReal)

/-- The place whose entry the stable descending sort of the row puts at `k`. -/
def srt (k : Fin 32) : Fin 32 := sortedFrom (fun i j => Ideal.cmp .ogt (L i) (L j) == 1#1) k

/-- The order of the sort with its ties: greater entries first, and of two equal ones the earlier. -/
def bef (i j : Fin 32) : Bool := decide (L j < L i ∨ L i = L j ∧ i < j)

/-- A stable sort consults its relation only at a later place before an earlier one. -/
theorem stableSort_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr _ _ _ _ fun b hb => h.1 b ((perm_stableSort _ _).mem_iff.1 hb)

theorem sortedFrom_later {n : ℕ} (R R' : Fin n → Fin n → Bool) (h : ∀ a b, a < b → R b a = R' b a) :
    sortedFrom R = sortedFrom R' := by
  have e : sortPositions n R = sortPositions n R' :=
    stableSort_later _ _ _ ((List.pairwise_lt_finRange n).imp fun {a b} hab => h a b hab)
  funext k
  unfold sortedFrom
  rw [List.get_of_eq e]
  rfl

theorem srt_bef : srt L = sortedFrom (bef L) := by
  refine sortedFrom_later _ _ fun a b hab => ?_
  unfold bef
  have : ¬ b < a := not_lt.2 hab.le
  by_cases hl : L a < L b <;> simp [Ideal.cmp, hl, this]

theorem srt_inj : Function.Injective (srt L) := sortedFrom_injective _
theorem srt_surj : Function.Surjective (srt L) := sortedFrom_surjective _

/-- A later place of the sort holds a smaller entry, or an equal one from further right. -/
theorem srt_lt {i j : Fin 32} (h : i < j) : L (srt L j) < L (srt L i) ∨ L (srt L j) = L (srt L i) ∧ srt L i < srt L j := by
  have e := sortedFrom_noInversion (bef L) (bef L)
    (fun a b h => by
      simp only [bef, decide_eq_true_eq, decide_eq_false_iff_not] at h ⊢
      rintro (h' | ⟨h', h''⟩) <;> rcases h with h | ⟨h, h3⟩
      · exact lt_asymm h h'
      · exact absurd h' (h ▸ lt_irrefl _)
      · exact absurd h (h' ▸ lt_irrefl _)
      · exact lt_asymm h'' h3)
    (fun _ _ h => h)
    (fun a b c h h' => by
      simp only [bef, decide_eq_false_iff_not, not_or, not_and, not_lt] at h h' ⊢
      refine ⟨h.1.trans h'.1, fun hac => ?_⟩
      have hab : L a = L b := le_antisymm h.1 (h'.1.trans hac.ge)
      exact (h'.2 (hab.symm.trans hac)).trans (h.2 hab))
    i j h
  rw [← srt_bef] at e
  simp only [bef, decide_eq_false_iff_not, not_or, not_and, not_lt] at e
  rcases lt_or_eq_of_le e.1 with e1 | e1
  · exact Or.inl e1
  · exact Or.inr ⟨e1, lt_of_le_of_ne (e.2 e1) fun hh => absurd (srt_inj L hh) (ne_of_lt h)⟩

theorem srt_le {i j : Fin 32} (h : i ≤ j) : L (srt L j) ≤ L (srt L i) := by
  rcases eq_or_lt_of_le h with rfl | h
  · exact le_rfl
  · rcases srt_lt L h with h | h
    · exact h.le
    · exact h.1.le

/-- The row with the first `k` places of its sort struck out. -/
def gone (k : ℕ) (i : Fin 32) : EReal := if ∃ j : Fin 32, j.val < k ∧ srt L j = i then ⊥ else L i

theorem gone_zero (i : Fin 32) : gone L 0 i = L i := by simp [gone]

theorem gone_srt (k : ℕ) (j : Fin 32) : gone L k (srt L j) = if j.val < k then ⊥ else L (srt L j) := by
  unfold gone
  congr 1
  refine propext ⟨?_, fun h => ⟨j, h, rfl⟩⟩
  rintro ⟨j', h, e⟩
  exact srt_inj L e ▸ h

/-- Striking out one more place. -/
theorem gone_succ (k : Fin 32) (i : Fin 32) : gone L (k.val + 1) i = if i = srt L k then ⊥ else gone L k.val i := by
  obtain ⟨j, rfl⟩ := srt_surj L i
  rw [gone_srt, gone_srt]
  by_cases h : j = k
  · subst h; simp
  · rw [if_neg fun e => h (srt_inj L e)]
    have : j.val ≠ k.val := fun e => h (Fin.ext e)
    by_cases h' : j.val < k.val
    · rw [if_pos h', if_pos (by omega)]
    · rw [if_neg h', if_neg (by omega)]

/-- The greatest of what is left is the sort's next entry. -/
theorem max_gone (k : Fin 32) : Finset.univ.fold max ⊥ (gone L k.val) = L (srt L k) := by
  refine le_antisymm ?_ ?_
  · rw [Finset.fold_max_le]
    refine ⟨bot_le, fun i _ => ?_⟩
    obtain ⟨j, rfl⟩ := srt_surj L i
    rw [gone_srt]
    split
    · exact bot_le
    · exact srt_le L (by rw [Fin.le_def]; omega)
  · rw [Finset.le_fold_max]
    exact Or.inr ⟨srt L k, Finset.mem_univ _, by rw [gone_srt, if_neg (lt_irrefl _)]⟩

/-- The least place that holds it is the sort's next place. -/
theorem min_gone (hL : ∀ i, L i ≠ ⊥) (k : Fin 32) :
    Finset.univ.fold min ⊤ (fun i : Fin 32 => if gone L k.val i = L (srt L k) then ((i.val : ℝ) : EReal) else ((32 : ℝ) : EReal))
      = (((srt L k).val : ℝ) : EReal) := by
  refine le_antisymm ?_ ?_
  · rw [Finset.fold_min_le]
    exact Or.inr ⟨srt L k, Finset.mem_univ _, by rw [gone_srt, if_neg (lt_irrefl _), if_pos rfl]⟩
  · rw [Finset.le_fold_min]
    refine ⟨le_top, fun i _ => ?_⟩
    obtain ⟨j, rfl⟩ := srt_surj L i
    rw [gone_srt]
    by_cases h : (if j.val < k.val then ⊥ else L (srt L j)) = L (srt L k)
    · rw [if_pos h, EReal.coe_le_coe_iff, Nat.cast_le]
      by_cases hj : j.val < k.val
      · rw [if_pos hj] at h
        exact absurd h.symm (hL _)
      · rw [if_neg hj] at h
        rcases eq_or_lt_of_le (show k ≤ j by rw [Fin.le_def]; omega) with e | e
        · exact e ▸ le_rfl
        · rcases srt_lt L e with e | e
          · exact absurd h (ne_of_lt e)
          · exact e.2.le
    · rw [if_neg h, EReal.coe_le_coe_iff]
      exact_mod_cast (srt L k).isLt.le

end Cert.Proof.PostTopK
end
-- ==== Proof.PostRounds.lean ====
/-
  The output projection's kernel picks each row's four experts in rounds: what the rounds hold, row by row.
-/
module

public import proofs.«01_k».proof.Proof.PostTopK
public import proofs.«01_k».proof.Proof.Gen.PostIdeal.Value
public import Idealize.ShloMosaic.Lib.Pointwise

@[expose] public section
noncomputable section

namespace Cert.Proof.PostRounds
open Idealize.ShloMosaic
open Cert.PostIdeal Cert.PostIdeal.Gen Cert.Proof.PostTopK

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]
theorem ofBits_32 : Ideal.ofBits .f32 0x42000000#32 = ((32 : ℝ) : EReal) := by
  simp [Ideal.ofBits, Ideal.ieee, -EReal.coe_mul]; norm_num

/-- The kernel's lane numbers are the places of the row. -/
theorem lane (r : Fin 512) (i : Fin 32) : k0_pay5 (F := Ideal) (ix2 r i) = ((i.val : ℝ) : EReal) := by
  pointwise [k0_pay5]
  show ((((BitVec.ofNat 32 i.val).toInt : ℤ) : ℝ) : EReal) = _
  have : (BitVec.ofNat 32 i.val).toInt = (i.val : ℤ) := (by decide : ∀ i : Fin 32, (BitVec.ofNat 32 i.val).toInt = (i.val : ℤ)) i
  rw [this, Int.cast_natCast]

/-- A row's greatest entry. -/
def mx (v : FVec Ideal S512x32 .f32) : FVec Ideal S512x1 .f32 :=
  shapeCast S512x1 (multiReduction .maximumf [1] S512 v 0xFF800000#32 reduces_S512x32_S512 (.inl rfl) rfl) shapeCasts_S512_S512x1

/-- The least lane where a row holds `a`, `32` if none. -/
def amx (v : FVec Ideal S512x32 .f32) (a : FVec Ideal S512x1 .f32) : FVec Ideal S512x1 .f32 :=
  shapeCast S512x1 (multiReduction .minimumf [1] S512 (select (cmpf .oeq v (broadcastTo S512x32 a broadcasts_S512x1_S512x32))
    (k0_pay5 (F := Ideal)) (broadcast S512x32 (Scalar.ofBits .f32 0x42000000#32))) 0x7F800000#32 reduces_S512x32_S512 (.inl rfl) rfl) shapeCasts_S512_S512x1

/-- The row with lane `p` struck out. -/
def out (v : FVec Ideal S512x32 .f32) (p : FVec Ideal S512x1 .f32) : FVec Ideal S512x32 .f32 :=
  select (cmpf .oeq (k0_pay5 (F := Ideal)) (broadcastTo S512x32 p broadcasts_S512x1_S512x32)) (k0_pay9 (F := Ideal)) v

variable (L : Fin 32 → EReal) (v : FVec Ideal S512x32 .f32) (r : Fin 512) (k : Fin 32)

theorem mx_apply (h : ∀ i, v (ix2 r i) = gone L k.val i) : mx v (ix2 r 0) = L (srt L k) := by
  rw [← max_gone L]
  pointwise [mx, h]
  rw [ofBits_bot]

theorem amx_apply (hL : ∀ i, L i ≠ ⊥) (h : ∀ i, v (ix2 r i) = gone L k.val i) (a : FVec Ideal S512x1 .f32) (ha : a (ix2 r 0) = L (srt L k)) :
    amx v a (ix2 r 0) = (((srt L k).val : ℝ) : EReal) := by
  rw [← min_gone L hL]
  pointwise [amx, h, lane, ha]
  rw [ofBits_top, ofBits_32]

theorem out_apply (h : ∀ i, v (ix2 r i) = gone L k.val i) (p : FVec Ideal S512x1 .f32) (hp : p (ix2 r 0) = (((srt L k).val : ℝ) : EReal)) (i : Fin 32) :
    out v p (ix2 r i) = gone L (k.val + 1) i := by
  rw [gone_succ]
  pointwise [out, k0_pay9, h, lane, hp]
  rw [ofBits_bot]
  refine if_congr ?_ rfl rfl
  rw [EReal.coe_eq_coe_iff, Nat.cast_inj, Fin.ext_iff]

/-- The rows after `n` rounds. -/
def vs (v : FVec Ideal S512x32 .f32) : ℕ → FVec Ideal S512x32 .f32
  | 0 => v
  | n + 1 => out (vs v n) (amx (vs v n) (mx (vs v n)))

theorem vs_apply (hL : ∀ i, L i ≠ ⊥) (h : ∀ i, v (ix2 r i) = L i) (n : ℕ) (hn : n ≤ 32) (i : Fin 32) : vs v n (ix2 r i) = gone L n i := by
  induction n generalizing i with
  | zero => rw [gone_zero]; exact h i
  | succ n ih =>
    have ih := ih (by omega)
    exact out_apply L _ r ⟨n, by omega⟩ ih _ (amx_apply L _ r ⟨n, by omega⟩ hL ih _ (mx_apply L _ r ⟨n, by omega⟩ ih)) i

theorem mx_vs (hL : ∀ i, L i ≠ ⊥) (h : ∀ i, v (ix2 r i) = L i) (n : ℕ) (hn : n < 32) : mx (vs v n) (ix2 r 0) = L (srt L ⟨n, hn⟩) :=
  mx_apply L _ r ⟨n, hn⟩ (vs_apply L v r hL h n hn.le)

theorem amx_vs (hL : ∀ i, L i ≠ ⊥) (h : ∀ i, v (ix2 r i) = L i) (n : ℕ) (hn : n < 32) :
    amx (vs v n) (mx (vs v n)) (ix2 r 0) = (((srt L ⟨n, hn⟩).val : ℝ) : EReal) :=
  amx_apply L _ r ⟨n, hn⟩ hL (vs_apply L v r hL h n hn.le) _ (mx_vs L v r hL h n hn)

theorem fptosi_lane (p : Fin 32) : Ideal.fptosi 32 ((p.val : ℝ) : EReal) = BitVec.ofNat 32 p.val := by
  have : p.val < 32 := p.isLt
  simp only [Ideal.fptosi, Ideal.toIntClamped_coe]
  rw [if_pos (Nat.cast_nonneg _), Int.floor_natCast, min_eq_right (by norm_num; omega), max_eq_right (by norm_num)]
  exact BitVec.ofInt_natCast _ _

variable (H : FVec Ideal S512x1024 .f32) (w : FVec Ideal S1024x32 .f32) (b : FVec Ideal S1x32 .f32)

/-- The block of chosen places the body writes, from the block's rows, the router's weights and its bias. -/
def idxBlk : IVec S512x4 32 := k0_pay23 (k0_pay4 H w b) (k0_pay5 (F := Ideal)) (k0_pay7 H w b) (k0_pay8 H w b) (k0_pay9 (F := Ideal))

theorem pay23_eq : idxBlk H w b
    = fptosi 32 (concatenate S512x4 1 [⟨S512x1, amx (vs (k0_pay4 H w b) 0) (mx (vs (k0_pay4 H w b) 0))⟩, ⟨S512x1, amx (vs (k0_pay4 H w b) 1) (mx (vs (k0_pay4 H w b) 1))⟩,
        ⟨S512x1, amx (vs (k0_pay4 H w b) 2) (mx (vs (k0_pay4 H w b) 2))⟩, ⟨S512x1, amx (vs (k0_pay4 H w b) 3) (mx (vs (k0_pay4 H w b) 3))⟩]
        concatenates_S512x1_S512x1_S512x1_S512x1_S512x4_d1) := rfl

/-- The place of rank `k` in the row, for the four ranks taken. -/
def rank (k : Fin 4) : Fin 32 := ⟨k.val, by omega⟩

/-- The place of rank `k`, as the word the kernel writes. -/
def idxOf (k : Fin 4) : BitVec 32 := BitVec.ofNat 32 (srt L (rank k)).val

/-- The four places the kernel writes are the sort's first four. -/
theorem idx_apply (hL : ∀ i, L i ≠ ⊥) (h : ∀ i, k0_pay4 H w b (ix2 r i) = L i) (k : Fin 4) :
    idxBlk H w b (ix2 r k)
      = idxOf L k := by
  rw [idxOf, pay23_eq, ← fptosi_lane]
  have e := fun n hn => amx_vs L (k0_pay4 H w b) r hL h n hn
  fin_cases k <;> pointwise [e] <;> rfl

/-- The gate the row gives the place of rank `k`: its entry's share of the four exponentials. -/
def gateOf (k : Fin 4) : EReal :=
  Ideal.div (Ideal.exp (L (srt L (rank k)) - L (srt L 0))) (∑ k' : Fin 4, Ideal.exp (L (srt L (rank k')) - L (srt L 0)))

def ex (v : FVec Ideal S512x32 .f32) (n : ℕ) : FVec Ideal S512x1 .f32 := exp (subf (mx (vs v n)) (mx (vs v 0)))

/-- The block of gates likewise. -/
def gateBlk : FVec Ideal S512x4 .f32 := k0_pay1 (k0_pay18 (k0_pay6 H w b)) (k0_pay19 (k0_pay4 H w b) (k0_pay6 H w b) (k0_pay8 H w b) (k0_pay9 (F := Ideal)))
      (k0_pay20 (k0_pay4 H w b) (k0_pay5 (F := Ideal)) (k0_pay6 H w b) (k0_pay8 H w b) (k0_pay9 (F := Ideal)))
      (k0_pay21 (k0_pay4 H w b) (k0_pay5 (F := Ideal)) (k0_pay6 H w b) (k0_pay8 H w b) (k0_pay9 (F := Ideal)))
      (k0_pay22 (k0_pay4 H w b) (k0_pay5 (F := Ideal)) (k0_pay6 H w b) (k0_pay8 H w b) (k0_pay9 (F := Ideal)))

theorem pay1_eq : gateBlk H w b
    = k0_pay1 (ex (k0_pay4 H w b) 0) (ex (k0_pay4 H w b) 1) (ex (k0_pay4 H w b) 2) (ex (k0_pay4 H w b) 3)
      (addf (addf (addf (ex (k0_pay4 H w b) 0) (ex (k0_pay4 H w b) 1)) (ex (k0_pay4 H w b) 2)) (ex (k0_pay4 H w b) 3)) := rfl

theorem ex_apply (hL : ∀ i, L i ≠ ⊥) (h : ∀ i, v (ix2 r i) = L i) (n : ℕ) (hn : n < 32) :
    ex v n (ix2 r 0) = Ideal.exp (L (srt L ⟨n, hn⟩) - L (srt L 0)) := by
  pointwise [ex, mx_vs L v r hL h n hn, mx_vs L v r hL h 0 (by omega)]

/-- The four gates the kernel writes. -/
theorem gate_apply (hL : ∀ i, L i ≠ ⊥) (h : ∀ i, k0_pay4 H w b (ix2 r i) = L i) (k : Fin 4) :
    gateBlk H w b (ix2 r k)
      = gateOf L k := by
  rw [pay1_eq]
  have e := fun n hn => ex_apply L (k0_pay4 H w b) r hL h n hn
  unfold gateOf
  rw [Fin.sum_univ_four]
  fin_cases k <;> pointwise [k0_pay1, e] <;> rfl

end Cert.Proof.PostRounds
end
-- ==== Proof.PostValue.lean ====
/-
  The value of the output projection's kernel: after the run its first two result arrays are functions of the arguments,
  given index by index.
-/
module

public import proofs.«01_k».proof.Proof.Gen.PostIdeal.Value
public import Idealize.ShloMosaic.Lib.Pipeline.ValueKit
public import Idealize.ShloMosaic.Lib.Pointwise
public import Idealize.ShloMosaic.Lib.StableHlo.ReadAt

@[expose] public section
noncomputable section

namespace Cert.Proof.PostValue
open Idealize.ShloMosaic Idealize.ShloMosaic.TcCoe Idealize.SL.Sem
open Idealize.ShloMosaic.Pipeline (Dat)
open Cert.PostIdeal Cert.PostIdeal.Gen

/-- The residual row `r` at feature `d`: the token plus its sequence's gate times the mixers' outputs through the projection. -/
def x1At (x : S16384x1024.Idx → EReal) (o : S16384x1024.Idx → EReal) (mod : S8x1x6144.Idx → EReal) (w : S1024x1024.Idx → EReal)
    (r : Fin 16384) (d : Fin 1024) : EReal :=
  x (ix2 r d) + mod (ix3 (⟨r.val / 2048, by omega⟩ : Fin 8) 0 ⟨2048 + d.val, by omega⟩) * ∑ k : Fin 1024, o (ix2 r k) * w (ix2 k d)

/-- That row divided by its root mean square, times the gain, times one plus its sequence's scale, plus its shift. -/
def h2At (x : S16384x1024.Idx → EReal) (o : S16384x1024.Idx → EReal) (mod : S8x1x6144.Idx → EReal) (g : S1x1024.Idx → EReal)
    (w : S1024x1024.Idx → EReal) (r : Fin 16384) (d : Fin 1024) : EReal :=
  x1At x o mod w r d * Ideal.rsqrt (Ideal.div (∑ k, x1At x o mod w r k * x1At x o mod w r k) (Ideal.ofBits FTy.f32 1149239296#32)
      + Ideal.ofBits FTy.f32 897988541#32) * g (ix2 0 d)
    * (1 + mod (ix3 (⟨r.val / 2048, by omega⟩ : Fin 8) 0 ⟨4096 + d.val, by omega⟩))
    + mod (ix3 (⟨r.val / 2048, by omega⟩ : Fin 8) 0 ⟨3072 + d.val, by omega⟩)

def x1Val (x : S16384x1024.Idx → EReal) (o : S16384x1024.Idx → EReal) (mod : S8x1x6144.Idx → EReal) (w : S1024x1024.Idx → EReal)
    (j : S16384x1024.Idx) : EReal := x1At x o mod w (j 0) (j 1)
def h2Val (x : S16384x1024.Idx → EReal) (o : S16384x1024.Idx → EReal) (mod : S8x1x6144.Idx → EReal) (g : S1x1024.Idx → EReal)
    (w : S1024x1024.Idx → EReal) (j : S16384x1024.Idx) : EReal := h2At x o mod g w (j 0) (j 1)

variable (m : (ℓ : Loc nD τ sig) → Buf (Elt Ideal) ℓ) (ρ : Dev nD → PrngReg)

/-- The projection's weights, as the call is given them. -/
theorem V_w (c : Dev nD) (r : Fin 1024) (l : Fin 1024) :
    V m c main_v0 (ix2 r l) = (m ((c : Thread nD τ).loc main_arg4)) (ix2 r l) := by
  unfold V
  after_reads_at

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val / 4, 0, 2] := (by decide +kernel : ∀ t : Fin grid0.N, _)
theorem idx3 : ∀ t : Fin cfg0.N, win0_3.index t = ![t.val / 4, 0, 3] := (by decide +kernel : ∀ t : Fin grid0.N, _)
theorem idx4 : ∀ t : Fin cfg0.N, win0_4.index t = ![t.val / 4, 0, 4] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)

theorem lt32 (t : Fin cfg0.N) : t.val < 32 := t.isLt

/-! ## The windows' blocks: rows `512 t` to `512 t + 511`, the modulation of sequence `t / 4`, the weights whole -/

theorem blk_x (c : Dev nD) (t : Fin cfg0.N) (r : Fin 512) (l : Fin 1024) :
    iblk m c 0 t (ix2 r l) = (m ((c : Thread nD τ).loc main_arg0)) (ix2 (⟨t.val * 512 + r.val, by have := lt32 t; omega⟩ : Fin 16384) l) := by
  blk_simp [iblk]
  rw [V_main_arg0]
  congr 1
  blk_ext [idx0]

theorem blk_o (c : Dev nD) (t : Fin cfg0.N) (r : Fin 512) (l : Fin 1024) :
    iblk m c 1 t (ix2 r l) = (m ((c : Thread nD τ).loc main_arg1)) (ix2 (⟨t.val * 512 + r.val, by have := lt32 t; omega⟩ : Fin 16384) l) := by
  blk_simp [iblk]
  rw [V_main_arg1]
  congr 1
  blk_ext [idx1]

theorem blk_g1 (c : Dev nD) (t : Fin cfg0.N) (l : Fin 1024) :
    iblk m c 2 t (ix3 0 0 l) = (m ((c : Thread nD τ).loc main_arg2)) (ix3 (⟨t.val / 4, by have := lt32 t; omega⟩ : Fin 8) 0 (⟨2048 + l.val, by omega⟩ : Fin 6144)) := by
  blk_simp [iblk]
  rw [V_main_arg2]
  congr 1
  blk_ext [idx2]

theorem blk_sh (c : Dev nD) (t : Fin cfg0.N) (l : Fin 1024) :
    iblk m c 3 t (ix3 0 0 l) = (m ((c : Thread nD τ).loc main_arg2)) (ix3 (⟨t.val / 4, by have := lt32 t; omega⟩ : Fin 8) 0 (⟨3072 + l.val, by omega⟩ : Fin 6144)) := by
  blk_simp [iblk]
  rw [V_main_arg2]
  congr 1
  blk_ext [idx3]

theorem blk_sc (c : Dev nD) (t : Fin cfg0.N) (l : Fin 1024) :
    iblk m c 4 t (ix3 0 0 l) = (m ((c : Thread nD τ).loc main_arg2)) (ix3 (⟨t.val / 4, by have := lt32 t; omega⟩ : Fin 8) 0 (⟨4096 + l.val, by omega⟩ : Fin 6144)) := by
  blk_simp [iblk]
  rw [V_main_arg2]
  congr 1
  blk_ext [idx4]

theorem blk_g (c : Dev nD) (t : Fin cfg0.N) (l : Fin 1024) :
    iblk m c 5 t (ix2 0 l) = (m ((c : Thread nD τ).loc main_arg3)) (ix2 0 l) := by
  blk_simp [iblk]
  rw [V_main_arg3]
  congr 1
  blk_ext [idx5]

theorem blk_w (c : Dev nD) (t : Fin cfg0.N) (r : Fin 1024) (l : Fin 1024) :
    iblk m c 6 t (ix2 r l) = (m ((c : Thread nD τ).loc main_arg4)) (ix2 r l) := by
  refine Eq.trans ?_ (V_w m c r l)
  blk_simp [iblk]
  congr 1
  blk_ext [idx6]

/-- The body's residual rows of block `t`, at coordinates. -/
theorem pay_x1 (c : Dev nD) (t : Fin cfg0.N) (r : Fin 512) (d : Fin 1024) :
    k0_pay2 (iblk m c 0 t) (iblk m c 2 t) (iblk m c 1 t) (iblk m c 6 t) (ix2 r d)
      = x1At (m ((c : Thread nD τ).loc main_arg0)) (m ((c : Thread nD τ).loc main_arg1)) (m ((c : Thread nD τ).loc main_arg2)) (m ((c : Thread nD τ).loc main_arg4)) (⟨t.val * 512 + r.val, by have := lt32 t; omega⟩ : Fin 16384) d := by
  have hq : (⟨(t.val * 512 + r.val) / 2048, by have := lt32 t; omega⟩ : Fin 8) = ⟨t.val / 4, by have := lt32 t; omega⟩ :=
    Fin.ext (by show (t.val * 512 + r.val) / 2048 = t.val / 4; omega)
  pointwise [k0_pay2]
  unfold x1At
  simp only [hq, blk_x, blk_o, blk_g1, blk_w]

/-- Its normalised and modulated rows. -/
theorem pay_h2 (c : Dev nD) (t : Fin cfg0.N) (r : Fin 512) (d : Fin 1024) :
    k0_pay3 (iblk m c 0 t) (iblk m c 2 t) (iblk m c 1 t) (iblk m c 6 t) (iblk m c 5 t) (iblk m c 4 t) (iblk m c 3 t) (ix2 r d)
      = h2At (m ((c : Thread nD τ).loc main_arg0)) (m ((c : Thread nD τ).loc main_arg1)) (m ((c : Thread nD τ).loc main_arg2)) (m ((c : Thread nD τ).loc main_arg3)) (m ((c : Thread nD τ).loc main_arg4)) (⟨t.val * 512 + r.val, by have := lt32 t; omega⟩ : Fin 16384) d := by
  have hq : (⟨(t.val * 512 + r.val) / 2048, by have := lt32 t; omega⟩ : Fin 8) = ⟨t.val / 4, by have := lt32 t; omega⟩ :=
    Fin.ext (by show (t.val * 512 + r.val) / 2048 = t.val / 4; omega)
  pointwise [k0_pay3]
  unfold h2At
  simp only [hq, pay_x1, blk_g, blk_sc, blk_sh]

/-- The array of residual rows after the run. -/
theorem final_x1 (c : Dev nD) : (dats m 0 c).arrAt 9 cfg0.N
    = x1Val (m ((c : Thread nD τ).loc main_arg0)) (m ((c : Thread nD τ).loc main_arg1)) (m ((c : Thread nD τ).loc main_arg2)) (m ((c : Thread nD τ).loc main_arg4)) := by
  refine (dats m 0 c).arrAt_eq_of_covers 9 _ (by decide +kernel) fun t hf y => ?_
  blk_simp
  rw [after0_9]; unfold out0_9; frame_out
  refine (congrArg _ (eq_ix2 (n0 := 512) (n1 := 1024) y)).trans ((pay_x1 m c t (y 0) (y 1)).trans
    (congrArg (x1Val (m ((c : Thread nD τ).loc main_arg0)) (m ((c : Thread nD τ).loc main_arg1)) (m ((c : Thread nD τ).loc main_arg2)) (m ((c : Thread nD τ).loc main_arg4))) (?_ : (ix2 (n0 := 16384) (n1 := 1024) _ _) = _)))
  blk_ext [idx9]

/-- The array of normalised rows after the run. -/
theorem final_h2 (c : Dev nD) : (dats m 0 c).arrAt 10 cfg0.N
    = h2Val (m ((c : Thread nD τ).loc main_arg0)) (m ((c : Thread nD τ).loc main_arg1)) (m ((c : Thread nD τ).loc main_arg2))
            (m ((c : Thread nD τ).loc main_arg3)) (m ((c : Thread nD τ).loc main_arg4)) := by
  refine (dats m 0 c).arrAt_eq_of_covers 10 _ (by decide +kernel) fun t hf y => ?_
  blk_simp
  rw [after0_10]; unfold out0_10 k0_pay24; frame_out
  refine (congrArg _ (eq_ix2 (n0 := 512) (n1 := 1024) y)).trans ((pay_h2 m c t (y 0) (y 1)).trans
    (congrArg (h2Val (m ((c : Thread nD τ).loc main_arg0)) (m ((c : Thread nD τ).loc main_arg1)) (m ((c : Thread nD τ).loc main_arg2)) (m ((c : Thread nD τ).loc main_arg3)) (m ((c : Thread nD τ).loc main_arg4))) (?_ : (ix2 (n0 := 16384) (n1 := 1024) _ _) = _)))
  blk_ext [idx10]

/-- The kernel's run: the two results at these functions of the arguments, the arguments unchanged. -/
theorem run : θ_run defs (onTc (τ := τ) (main (F := Ideal))) ⟨m, fun _ => 0, ρ⟩ fun r => ∀ c : Dev nD,
      r.2.mem ((c : Thread nD τ).loc main_v1_0)
        = x1Val (m ((c : Thread nD τ).loc main_arg0)) (m ((c : Thread nD τ).loc main_arg1)) (m ((c : Thread nD τ).loc main_arg2)) (m ((c : Thread nD τ).loc main_arg4))
      ∧ r.2.mem ((c : Thread nD τ).loc main_v1_1)
        = h2Val (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final_x1 m c), (h c).2.1.trans (final_h2 m c), (h c).2.2.2.2⟩)
    (Value.run_blocks m ρ)

end Cert.Proof.PostValue
end
-- ==== Proof.PostRoute.lean ====
/-
  On finite arguments the output projection's kernel writes, of each row, the four greatest router logits' places and their gates.
-/
module

public import proofs.«01_k».proof.Proof.PostRounds
public import proofs.«01_k».proof.Proof.PostValue
public import proofs.«01_k».proof.Proof.SampleReal

@[expose] public section
noncomputable section

namespace Cert.Proof.PostRoute
open Idealize.ShloMosaic Idealize.ShloMosaic.TcCoe Idealize.SL.Sem
open Idealize.ShloMosaic.Pipeline (Dat)
open Cert.PostIdeal Cert.PostIdeal.Gen Cert.Proof.PostValue Cert.Proof.PostTopK Cert.Proof.PostRounds Cert.Proof.SampleReal

/-- A number less itself, where it is finite. -/
theorem sub_self_real {x : EReal} (hx : IsReal x) : x - x = 0 := by
  obtain ⟨a, rfl⟩ := hx
  rw [← EReal.coe_sub, sub_self, EReal.coe_zero]

theorem coe_sum {n : ℕ} (a : Fin n → ℝ) : ∑ i, (a i : EReal) = ((∑ i, a i : ℝ) : EReal) :=
  (map_sum (⟨⟨Real.toEReal, EReal.coe_zero⟩, EReal.coe_add⟩ : ℝ →+ EReal) a Finset.univ).symm

theorem isReal_sum {n : ℕ} (f : Fin n → EReal) (hf : ∀ i, IsReal (f i)) : IsReal (∑ i, f i) := by
  choose a ha using hf
  exact ⟨∑ i, a i, by simp only [ha]; exact coe_sum a⟩

/-- On finite rows and weights the three-part products add up to the plain one. -/
theorem pay4_apply (H : FVec Ideal S512x1024 .f32) (w : FVec Ideal S1024x32 .f32) (b : FVec Ideal S1x32 .f32) (r : Fin 512)
    (hH : ∀ d, IsReal (H (ix2 r d))) (hw : ∀ d e, IsReal (w (ix2 d e))) (e : Fin 32) :
    k0_pay4 H w b (ix2 r e) = ∑ d, H (ix2 r d) * w (ix2 d e) + b (ix2 0 e) := by
  pointwise [k0_pay4]
  simp only [sub_self_real (hH _), sub_self_real (hw _ _), mul_zero, zero_mul, Finset.sum_const_zero, add_zero, zero_add, sub_zero]

section
variable (x : S16384x1024.Idx → EReal) (o : S16384x1024.Idx → EReal) (mod : S8x1x6144.Idx → EReal) (g : S1x1024.Idx → EReal)
    (w : S1024x1024.Idx → EReal) (rw : S1024x32.Idx → EReal) (rb : S1x32.Idx → EReal)

/-- The router's logit of row `r` for expert `e`. -/
def logitAt (r : Fin 16384) (e : Fin 32) : EReal := ∑ d, h2At x o mod g w r d * rw (ix2 d e) + rb (ix2 0 e)

/-- The chosen experts of every row, from the rows' logits; then their gates. -/
def idxArr (l : Fin 16384 → Fin 32 → EReal) (j : S16384x4.Idx) : BitVec 32 := idxOf (l (j 0)) (j 1)
def gateArr (l : Fin 16384 → Fin 32 → EReal) (j : S16384x4.Idx) : EReal := gateOf (l (j 0)) (j 1)

/-- The arguments hold no infinity, of the modulation the features read. -/
structure Finite : Prop where
  x : ∀ j, IsReal (x j)
  o : ∀ j, IsReal (o j)
  mod : ∀ (b : Fin 8) (l : Fin 3072), IsReal (mod (ix3 b 0 (⟨2048 + l.val, by omega⟩ : Fin 6144)))
  g : ∀ j, IsReal (g j)
  w : ∀ j, IsReal (w j)
  rw : ∀ j, IsReal (rw j)
  rb : ∀ j, IsReal (rb j)

variable {x o mod g w rw rb} (hf : Finite x o mod g w rw rb)
include hf

theorem isReal_mod (b : Fin 8) (n : ℕ) (h : n < 6144) (h' : 2048 ≤ n) (h'' : n < 5120) : IsReal (mod (ix3 b 0 (⟨n, h⟩ : Fin 6144))) := by
  have := hf.mod b ⟨n - 2048, by omega⟩
  have e : (⟨2048 + (n - 2048), by omega⟩ : Fin 6144) = ⟨n, h⟩ := Fin.ext (by show 2048 + (n - 2048) = n; omega)
  exact e ▸ this

theorem isReal_x1 (r : Fin 16384) (d : Fin 1024) : IsReal (x1At x o mod w r d) :=
  isReal_add (hf.x _) (isReal_mul (isReal_mod hf _ _ _ (by omega) (by omega)) (isReal_sum _ fun _ => isReal_mul (hf.o _) (hf.w _)))

theorem isReal_h2 (r : Fin 16384) (d : Fin 1024) : IsReal (h2At x o mod g w r d) := by
  unfold h2At
  refine isReal_add (isReal_mul (isReal_mul (isReal_mul (isReal_x1 hf r d) ?_) (hf.g _))
    (isReal_add isReal_one (isReal_mod hf _ _ _ (by omega) (by omega)))) (isReal_mod hf _ _ _ (by omega) (by omega))
  have hx := isReal_x1 hf r
  choose a ha using hx
  simp only [ha]
  have e1 : Ideal.ofBits .f32 1149239296#32 = ((1024 : ℝ) : EReal) := by
    simp [Ideal.ofBits, Ideal.ieee, -EReal.coe_mul]; norm_num
  obtain ⟨q, hq, hq0⟩ : ∃ q : ℝ, Ideal.ofBits .f32 897988541#32 = (q : EReal) ∧ 0 < q := by
    refine ⟨_, by simp [Ideal.ofBits, Ideal.ieee, -EReal.coe_mul]; rfl, by norm_num⟩
  have e2 : ∑ k, ((a k : ℝ) : EReal) * (a k : EReal) = ((∑ k, a k * a k : ℝ) : EReal) := by
    rw [← coe_sum]; simp only [EReal.coe_mul]
  have h0 : 0 ≤ ∑ k, a k * a k := Finset.sum_nonneg fun k _ => mul_self_nonneg _
  have h1 : Ideal.div ((∑ k, a k * a k : ℝ) : EReal) ((1024 : ℝ) : EReal) = (((∑ k, a k * a k) * (1 / 1024 : ℝ) : ℝ) : EReal) := by
    rw [Ideal.div_coe (by norm_num), EReal.coe_mul]
  have h2 : 0 < (∑ k, a k * a k) * (1 / 1024 : ℝ) + q := by positivity
  rw [e1, hq, e2, h1, ← EReal.coe_add, Ideal.rsqrt_coe, if_neg h2.not_gt, if_neg h2.ne']
  exact ⟨_, rfl⟩

theorem isReal_logit (r : Fin 16384) (e : Fin 32) : IsReal (logitAt x o mod g w rw rb r e) :=
  isReal_add (isReal_sum _ fun _ => isReal_mul (isReal_h2 hf _ _) (hf.rw _)) (hf.rb _)

theorem logit_ne_bot (r : Fin 16384) (e : Fin 32) : logitAt x o mod g w rw rb r e ≠ ⊥ := by
  obtain ⟨a, ha⟩ := isReal_logit hf r e
  rw [ha]
  exact EReal.coe_ne_bot a

end

theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)

variable (m : (ℓ : Loc nD τ sig) → Buf (Elt Ideal) ℓ) (ρ : Dev nD → PrngReg)

theorem blk_rw (c : Dev nD) (t : Fin cfg0.N) (r : Fin 1024) (l : Fin 32) :
    iblk m c 7 t (ix2 r l) = (m ((c : Thread nD τ).loc main_arg5)) (ix2 r l) := by
  blk_simp [iblk]
  rw [V_main_arg5]
  congr 1
  blk_ext [idx7]

theorem blk_rb (c : Dev nD) (t : Fin cfg0.N) (l : Fin 32) :
    iblk m c 8 t (ix2 0 l) = (m ((c : Thread nD τ).loc main_arg6)) (ix2 0 l) := by
  blk_simp [iblk]
  rw [V_main_arg6]
  congr 1
  blk_ext [idx8]

/-- The device's arguments are finite. -/
def FiniteAt (c : Dev nD) : Prop := Finite (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

/-- The device's logits. -/
def lg (c : Dev nD) : Fin 16384 → Fin 32 → EReal := logitAt (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

/-- The block's normalised rows. -/
def hB (c : Dev nD) (t : Fin cfg0.N) : FVec Ideal S512x1024 .f32 :=
  k0_pay3 (iblk m c 0 t) (iblk m c 2 t) (iblk m c 1 t) (iblk m c 6 t) (iblk m c 5 t) (iblk m c 4 t) (iblk m c 3 t)

theorem pay_lg (c : Dev nD) (hf : FiniteAt m c) (t : Fin cfg0.N) (r : Fin 512) (e : Fin 32) :
    k0_pay4 (hB m c t) (iblk m c 7 t) (iblk m c 8 t) (ix2 r e) = lg m c (⟨t.val * 512 + r.val, by have := lt32 t; omega⟩ : Fin 16384) e := by
  rw [pay4_apply]
  · unfold lg logitAt hB
    simp only [pay_h2, blk_rw, blk_rb]
  · intro d
    unfold hB
    rw [pay_h2]
    exact isReal_h2 hf _ _
  · intro d e
    rw [blk_rw]
    exact hf.rw _

theorem blk_idxArr (c : Dev nD) (hf : FiniteAt m c) (t : Fin cfg0.N) (r : Fin 512) (k : Fin 4) :
    idxBlk (hB m c t) (iblk m c 7 t) (iblk m c 8 t) (ix2 r k) = idxArr (lg m c) (ix2 (⟨t.val * 512 + r.val, by have := lt32 t; omega⟩ : Fin 16384) k) :=
  idx_apply (lg m c (⟨t.val * 512 + r.val, by have := lt32 t; omega⟩ : Fin 16384)) r (hB m c t) _ _ (logit_ne_bot hf _) (pay_lg m c hf t r) k

/-- The array of chosen experts after the run. -/
theorem final_idxArr (c : Dev nD) (hf : FiniteAt m c) : (dats m 0 c).arrAt 11 cfg0.N = idxArr (lg m c) := by
  refine (dats m 0 c).arrAt_eq_of_covers 11 _ (by decide +kernel) fun t hf' y => ?_
  blk_simp
  rw [after0_11]; unfold_out out0_11; frame_out
  show idxBlk (hB m c t) (iblk m c 7 t) (iblk m c 8 t) y = _
  refine (congrArg _ (eq_ix2 (n0 := 512) (n1 := 4) y)).trans ((blk_idxArr m c hf t (y 0) (y 1)).trans
    (congrArg (idxArr (lg m c)) (?_ : (ix2 (n0 := 16384) (n1 := 4) _ _) = _)))
  blk_ext [idx11]

theorem blk_gateArr (c : Dev nD) (hf : FiniteAt m c) (t : Fin cfg0.N) (r : Fin 512) (k : Fin 4) :
    gateBlk (hB m c t) (iblk m c 7 t) (iblk m c 8 t) (ix2 r k) = gateArr (lg m c) (ix2 (⟨t.val * 512 + r.val, by have := lt32 t; omega⟩ : Fin 16384) k) :=
  gate_apply (lg m c (⟨t.val * 512 + r.val, by have := lt32 t; omega⟩ : Fin 16384)) r (hB m c t) _ _ (logit_ne_bot hf _) (pay_lg m c hf t r) k

/-- The array of gates after the run. -/
theorem final_gateArr (c : Dev nD) (hf : FiniteAt m c) : (dats m 0 c).arrAt 12 cfg0.N = gateArr (lg m c) := by
  refine (dats m 0 c).arrAt_eq_of_covers 12 _ (by decide +kernel) fun t hf' y => ?_
  blk_simp
  rw [after0_12]; unfold_out out0_12; frame_out
  show gateBlk (hB m c t) (iblk m c 7 t) (iblk m c 8 t) y = _
  refine (congrArg _ (eq_ix2 (n0 := 512) (n1 := 4) y)).trans ((blk_gateArr m c hf t (y 0) (y 1)).trans
    (congrArg (gateArr (lg m c)) (?_ : (ix2 (n0 := 16384) (n1 := 4) _ _) = _)))
  blk_ext [idx12]

/-- The kernel's run on finite arguments: the four results at these functions of the arguments, the arguments unchanged. -/
theorem run (hf : ∀ c, FiniteAt m c) : θ_run defs (onTc (τ := τ) (main (F := Ideal))) ⟨m, fun _ => 0, ρ⟩ fun r => ∀ c : Dev nD,
      r.2.mem ((c : Thread nD τ).loc main_v1_0)
        = x1Val (m ((c : Thread nD τ).loc main_arg0)) (m ((c : Thread nD τ).loc main_arg1)) (m ((c : Thread nD τ).loc main_arg2)) (m ((c : Thread nD τ).loc main_arg4))
      ∧ r.2.mem ((c : Thread nD τ).loc main_v1_1)
        = h2Val (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_v1_2)
        = idxArr (lg m c)
      ∧ r.2.mem ((c : Thread nD τ).loc main_v1_3)
        = gateArr (lg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final_x1 m c), (h c).2.1.trans (final_h2 m c), (h c).2.2.1.trans (final_idxArr m c (hf c)),
    (h c).2.2.2.1.trans (final_gateArr m c (hf c)), (h c).2.2.2.2⟩)
    (Value.run_blocks m ρ)

end Cert.Proof.PostRoute
end
-- ==== Proof.PostRef.lean ====
/-
  The reference of the output projection reads, index by index, as the same functions of the arguments, and the claims.
-/
module

public import proofs.«01_k».proof.Defs
public import proofs.«01_k».proof.Proof.PostRoute
public import proofs.«01_k».proof.Proof.Gen.PostRefIdeal.Run
public import proofs.«01_k».proof.Proof.Gen.Post.Frame
public import proofs.«01_k».proof.Proof.Gen.Pre_all_finite
public import Idealize.ShloMosaic.Lib.ReduceAll
public import Idealize.ShloMosaic.Lib.Quiescent

@[expose] public section
noncomputable section

namespace Cert.Proof.PostRef
open Idealize.ShloMosaic Idealize.ShloMosaic.TcCoe Idealize.SL.Sem
open Cert.PostRefIdeal Cert.PostRefIdeal.Gen Cert.Proof.PostValue Cert.Proof.PostTopK Cert.Proof.PostRounds Cert.Proof.PostRoute Cert.Proof.SampleReal

/-- The reference's residual rows, as its operations compose them. -/
def refX (x : FVec Ideal S16384x1024 .f32) (o : FVec Ideal S16384x1024 .bf16) (mod : FVec Ideal S8x1x6144 .f32) (w : FVec Ideal S1024x1024 .f32) : FVec Ideal S8x2048x1024 .f32 :=
  (addf (shapeCast _ x shapeCasts_S16384x1024_S8x2048x1024) (mulf (broadcastInDim S8x2048x1024 ![0, 1, 2] bcast_S8x1x1024_S8x2048x1024_0_1_2 (extractStridedSlice (s := S8x1x6144) S8x1x1024 ![0, 0, 2048] mod slices_S8x1x6144_S8x1x1024_0_0_2048)) (Host.dotGeneral dot_S8x2048x1024_S1024x1024_S8x2048x1024_2_0_01_1_n_n none (extf .f32 (shapeCast _ o shapeCasts_S16384x1024_S8x2048x1024) bitsLt_bf16_f32) w)))

theorem refX_apply (x : FVec Ideal S16384x1024 .f32) (o : FVec Ideal S16384x1024 .bf16) (mod : FVec Ideal S8x1x6144 .f32) (w : FVec Ideal S1024x1024 .f32) (b : Fin 8) (t : Fin 2048) (d : Fin 1024) :
    refX x o mod w (ix3 b t d) = x1At x o mod w (⟨b.val * 2048 + t.val, by omega⟩ : Fin 16384) d := by
  have hq : (⟨(b.val * 2048 + t.val) / 2048, by omega⟩ : Fin 8) = b :=
    Fin.ext (by show (b.val * 2048 + t.val) / 2048 = b.val; omega)
  pointwise [refX]
  unfold x1At
  simp only [hq]

/-- Its normalised and modulated rows from those. -/
def refN (x1 : FVec Ideal S8x2048x1024 .f32) (mod : FVec Ideal S8x1x6144 .f32) (g : FVec Ideal S1x1024 .f32) : FVec Ideal S8x2048x1024 .f32 :=
  (addf (mulf (mulf (mulf x1 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x1 x1) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![1, 2] bcast_S1x1024_S1x1x1024_1_2 g))) (broadcastInDim S8x2048x1024 ![0, 1, 2] bcast_S8x1x1024_S8x2048x1024_0_1_2 (addf (broadcastInDim S8x1x1024 ![] bcast_S_S8x1x1024 (constant S_ .f32 0x3F800000#32)) (extractStridedSlice (s := S8x1x6144) S8x1x1024 ![0, 0, 4096] mod slices_S8x1x6144_S8x1x1024_0_0_4096)))) (broadcastInDim S8x2048x1024 ![0, 1, 2] bcast_S8x1x1024_S8x2048x1024_0_1_2 (extractStridedSlice (s := S8x1x6144) S8x1x1024 ![0, 0, 3072] mod slices_S8x1x6144_S8x1x1024_0_0_3072)))

theorem refN_apply (x : FVec Ideal S16384x1024 .f32) (o : FVec Ideal S16384x1024 .bf16) (mod : FVec Ideal S8x1x6144 .f32) (g : FVec Ideal S1x1024 .f32) (w : FVec Ideal S1024x1024 .f32) (b : Fin 8) (t : Fin 2048) (d : Fin 1024) :
    refN (refX x o mod w) mod g (ix3 b t d) = h2At x o mod g w (⟨b.val * 2048 + t.val, by omega⟩ : Fin 16384) d := by
  have hq : (⟨(b.val * 2048 + t.val) / 2048, by omega⟩ : Fin 8) = b :=
    Fin.ext (by show (b.val * 2048 + t.val) / 2048 = b.val; omega)
  pointwise [refN, refX_apply]
  unfold h2At
  simp only [hq]

/-- The batch's rows as one list of rows. -/
def flat (y : FVec Ideal S8x2048x1024 .f32) : FVec Ideal S16384x1024 .f32 := shapeCast _ y shapeCasts_S8x2048x1024_S16384x1024

theorem flat_apply (y : FVec Ideal S8x2048x1024 .f32) (r : Fin 16384) (d : Fin 1024) :
    flat y (ix2 r d) = y (ix3 (⟨r.val / 2048, by omega⟩ : Fin 8) (⟨r.val % 2048, by omega⟩ : Fin 2048) d) := by
  pointwise [flat]

theorem row_eq (r : Fin 16384) : (⟨r.val / 2048 * 2048 + r.val % 2048, by omega⟩ : Fin 16384) = r :=
  Fin.ext (by show r.val / 2048 * 2048 + r.val % 2048 = r.val; omega)

theorem refX_flat (x : FVec Ideal S16384x1024 .f32) (o : FVec Ideal S16384x1024 .bf16) (mod : FVec Ideal S8x1x6144 .f32) (w : FVec Ideal S1024x1024 .f32) : flat (refX x o mod w) = x1Val x o mod w :=
  funext fun j => (congrArg _ (eq_ix2 (n0 := 16384) (n1 := 1024) j)).trans ((flat_apply _ _ _).trans ((refX_apply x o mod w _ _ _).trans
    (congrArg (fun r => x1At x o mod w r _) (row_eq _))))

theorem refN_flat (x : FVec Ideal S16384x1024 .f32) (o : FVec Ideal S16384x1024 .bf16) (mod : FVec Ideal S8x1x6144 .f32) (g : FVec Ideal S1x1024 .f32) (w : FVec Ideal S1024x1024 .f32) : flat (refN (refX x o mod w) mod g) = h2Val x o mod g w :=
  funext fun j => (congrArg _ (eq_ix2 (n0 := 16384) (n1 := 1024) j)).trans ((flat_apply _ _ _).trans ((refN_apply x o mod g w _ _ _).trans
    (congrArg (fun r => h2At x o mod g w r _) (row_eq _))))

/-- The router's logits of every row, as the reference composes them. -/
def refL (h : FVec Ideal S16384x1024 .f32) (w : FVec Ideal S1024x32 .f32) (b : FVec Ideal S1x32 .f32) : FVec Ideal S16384x32 .f32 :=
  addf (Host.dotGeneral dot_S16384x1024_S1024x32_S16384x32_1_0_0_1_n_n none h w) (broadcastInDim S16384x32 ![0, 1] bcast_S1x32_S16384x32_0_1 b)

theorem refL_apply (x : FVec Ideal S16384x1024 .f32) (o : FVec Ideal S16384x1024 .bf16) (mod : FVec Ideal S8x1x6144 .f32) (g : FVec Ideal S1x1024 .f32) (w : FVec Ideal S1024x1024 .f32)
    (rw : FVec Ideal S1024x32 .f32) (rb : FVec Ideal S1x32 .f32) (r : Fin 16384) (e : Fin 32) :
    refL (h2Val x o mod g w) rw rb (ix2 r e) = logitAt x o mod g w rw rb r e := by
  pointwise [refL]
  rfl

/-- The four greatest logits of every row and their places. -/
def top (l : FVec Ideal S16384x32 .f32) : FVec Ideal S16384x4 .f32 × IVec S16384x4 32 :=
  Host.topK S16384x4 1 (FloatOps.cmpfTotal .gt) l sliceFits_S16384x32_S16384x4

/-- A place of row `r` with its column replaced. -/
theorem along_ix2 (r : Fin 16384) (i k : Fin 32) : Shape.Idx.along (s := S16384x32) (ix2 r i) (1 : Fin 2) k = ix2 r k := by
  funext a
  fin_cases a <;> rfl

theorem slice_apply {α : Type} (y : S16384x32.Idx → α) (h : S16384x32.Slices (fun _ => 0) S16384x4) (r : Fin 16384) (k : Fin 4) :
    extractStridedSlice S16384x4 (fun _ => 0) y h (ix2 r k) = y (ix2 r (rank k)) := by
  unfold extractStridedSlice
  refine congrArg y (funext fun a => ?_)
  fin_cases a <;> exact Fin.ext (Nat.zero_add _)

/-- The column of row `r` the sort puts at `i`. -/
theorem place_eq (l : FVec Ideal S16384x32 .f32) (r : Fin 16384) (i : Fin 32) :
    Shape.Idx.along (s := S16384x32) (ix2 r i) (1 : Fin 2) (sortedFrom (n := 32) (fun k k' =>
      Ideal.cmp .ogt (l (Shape.Idx.along (s := S16384x32) (ix2 r i) (1 : Fin 2) k)) (l (Shape.Idx.along (s := S16384x32) (ix2 r i) (1 : Fin 2) k')) == 1#1) i)
      = ix2 r (srt (fun i => l (ix2 r i)) i) := by
  rw [along_ix2]
  have e : (fun k : Fin 32 => l (Shape.Idx.along (s := S16384x32) (ix2 r i) (1 : Fin 2) k)) = fun k => l (ix2 r k) :=
    funext fun k => congrArg l (along_ix2 r i k)
  exact congrArg (fun L : Fin 32 → EReal => ix2 r (srt L i)) e

/-- The sort of a row's entries, and of what goes with them. -/
theorem sort_fst (l : FVec Ideal S16384x32 .f32) (y : IVec S16384x32 32) (r : Fin 16384) (i : Fin 32) :
    (Host.sort2 S16384x32 1 (fun p q => FloatOps.cmpfTotal (F := Ideal) (φ := .f32) .gt p.1 q.1) l y).1 (ix2 r i) = l (ix2 r (srt (fun i => l (ix2 r i)) i)) := by
  unfold Host.sort2
  rw [dif_pos (show 1 < S16384x32.rank by decide)]
  exact congrArg l (place_eq l r i)

theorem sort_snd (l : FVec Ideal S16384x32 .f32) (y : IVec S16384x32 32) (r : Fin 16384) (i : Fin 32) :
    (Host.sort2 S16384x32 1 (fun p q => FloatOps.cmpfTotal (F := Ideal) (φ := .f32) .gt p.1 q.1) l y).2 (ix2 r i) = y (ix2 r (srt (fun i => l (ix2 r i)) i)) := by
  unfold Host.sort2
  rw [dif_pos (show 1 < S16384x32.rank by decide)]
  exact congrArg y (place_eq l r i)

theorem top_val (l : FVec Ideal S16384x32 .f32) (r : Fin 16384) (k : Fin 4) :
    (top l).1 (ix2 r k) = l (ix2 r (srt (fun i => l (ix2 r i)) (rank k))) := by
  unfold top Host.topK
  dsimp only
  rw [slice_apply, sort_fst]

theorem top_idx (l : FVec Ideal S16384x32 .f32) (r : Fin 16384) (k : Fin 4) :
    (top l).2 (ix2 r k) = idxOf (fun i => l (ix2 r i)) k := by
  unfold top Host.topK
  dsimp only
  rw [slice_apply, sort_snd, dif_pos (show 1 < S16384x32.rank by decide)]
  rfl

/-- The softmax of every row's four. -/
def soft (v : FVec Ideal S16384x4 .f32) : FVec Ideal S16384x4 .f32 :=
  Host.divf (Host.exp (subf v (broadcastInDim S16384x4 ![0, 1] bcast_S16384x1_S16384x4_0_1 (broadcastInDim S16384x1 ![0] bcast_S16384_S16384x1_0 (maximumf (broadcastInDim S16384 ![] bcast_S_S16384 (constant S_ .f32 0xFF800000#32)) (Host.reduce FloatOps.maximumf v (constant S_ .f32 0xFF800000#32) reducesTo_S16384x4_S16384_d1 h_S_)))))) (broadcastInDim S16384x4 ![0, 1] bcast_S16384x1_S16384x4_0_1 (broadcastInDim S16384x1 ![0] bcast_S16384_S16384x1_0 (Host.reduceAdd (Host.exp (subf v (broadcastInDim S16384x4 ![0, 1] bcast_S16384x1_S16384x4_0_1 (broadcastInDim S16384x1 ![0] bcast_S16384_S16384x1_0 (maximumf (broadcastInDim S16384 ![] bcast_S_S16384 (constant S_ .f32 0xFF800000#32)) (Host.reduce FloatOps.maximumf v (constant S_ .f32 0xFF800000#32) reducesTo_S16384x4_S16384_d1 h_S_)))))) (constant S_ .f32 0x00000000#32) reducesTo_S16384x4_S16384_d1 h_S_)))

/-- Of the four the first is the greatest. -/
theorem max_four (L : Fin 32 → EReal) : Finset.univ.fold max ⊥ (fun k : Fin 4 => L (srt L (rank k))) = L (srt L 0) := by
  refine le_antisymm ?_ ?_
  · rw [Finset.fold_max_le]
    exact ⟨bot_le, fun k _ => srt_le L (Fin.zero_le _)⟩
  · rw [Finset.le_fold_max]
    exact Or.inr ⟨0, Finset.mem_univ _, le_rfl⟩

theorem soft_apply (l : FVec Ideal S16384x32 .f32) (r : Fin 16384) (k : Fin 4) :
    soft (top l).1 (ix2 r k) = gateOf (fun i => l (ix2 r i)) k := by
  pointwise [soft, top_val]
  rw [ofBits_bot, max_four fun i => l (ix2 r i), max_eq_right bot_le]
  rfl

variable (m : (ℓ : Loc nD τ sig) → Buf (Elt Ideal) ℓ) (ρ : Dev nD → PrngReg)

/-- The reference's logits of the device's rows. -/
def lgR (c : Dev nD) : Fin 16384 → Fin 32 → EReal :=
  logitAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem refL_rows (c : Dev nD) (r : Fin 16384) :
    (fun i => refL (h2Val (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) (ix2 r i)) = lgR m c r :=
  funext fun i => refL_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r i

theorem idx_eq (c : Dev nD) : (top (refL (flat (refN (refX (m ((c : Thread nD τ).loc main_arg0)) (m ((c : Thread nD τ).loc main_arg1)) (m ((c : Thread nD τ).loc main_arg2)) (m ((c : Thread nD τ).loc main_arg4))) (m ((c : Thread nD τ).loc main_arg2)) (m ((c : Thread nD τ).loc main_arg3)))) (m ((c : Thread nD τ).loc main_arg5)) (m ((c : Thread nD τ).loc main_arg6)))).2 = idxArr (lgR m c) := by
  rw [refN_flat]
  exact funext fun j => (congrArg _ (eq_ix2 (n0 := 16384) (n1 := 4) j)).trans ((top_idx _ _ _).trans (congrArg (fun l => idxOf l _) (refL_rows m c _)))

theorem gate_eq (c : Dev nD) : soft (top (refL (flat (refN (refX (m ((c : Thread nD τ).loc main_arg0)) (m ((c : Thread nD τ).loc main_arg1)) (m ((c : Thread nD τ).loc main_arg2)) (m ((c : Thread nD τ).loc main_arg4))) (m ((c : Thread nD τ).loc main_arg2)) (m ((c : Thread nD τ).loc main_arg3)))) (m ((c : Thread nD τ).loc main_arg5)) (m ((c : Thread nD τ).loc main_arg6)))).1 = gateArr (lgR m c) := by
  rw [refN_flat]
  exact funext fun j => (congrArg _ (eq_ix2 (n0 := 16384) (n1 := 4) j)).trans ((soft_apply _ _ _).trans (congrArg (fun l => gateOf l _) (refL_rows m c _)))

/-- The reference's run, its four results read at every index. -/
theorem run : θ_run defs (onTc (τ := τ) (main (F := Ideal))) ⟨m, fun _ => 0, ρ⟩ fun r => ∀ c : Dev nD,
      r.2.mem ((c : Thread nD τ).loc main_v33)
        = x1Val (m ((c : Thread nD τ).loc main_arg0)) (m ((c : Thread nD τ).loc main_arg1)) (m ((c : Thread nD τ).loc main_arg2)) (m ((c : Thread nD τ).loc main_arg4))
      ∧ r.2.mem ((c : Thread nD τ).loc main_v29)
        = h2Val (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_indices) = idxArr (lgR m c)
      ∧ r.2.mem ((c : Thread nD τ).loc main_v44) = gateArr (lgR m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (refX_flat _ _ _ _), (h c).2.1.trans (refN_flat _ _ _ _ _),
    (h c).2.2.1.trans (idx_eq m c), (h c).2.2.2.1.trans (gate_eq m c), (h c).2.2.2.2⟩) (Value.run m ρ)

/-! ## The claims -/

/-- No operation of the kernel was rewritten. -/
theorem preserves : Cert.preserves_Post_PostIdeal := trivial

/-- The kernel as printed runs to its end and leaves its arguments and counters as they were. -/
theorem frame : Cert.quiescent_Post := fun m ρ _ => Cert.Post.Gen.frame m ρ

/-- The kernel read in exact arithmetic likewise. -/
theorem frame_ideal : Cert.quiescent_PostIdeal := fun m ρ _ => Cert.PostIdeal.Gen.frame m ρ
theorem frame_ideal_finite : Cert.quiescent_PostIdeal_pre_all_finite := fun m ρ _ => Cert.PostIdeal.Gen.frame m ρ

/-- The reference likewise. -/
theorem frame_ref : Cert.quiescent_PostRefIdeal := fun m ρ _ =>
  (θ_run Cert.PostRefIdeal.defs _ _).mono (fun r h => ⟨fun c => (h c).2.2.2.2,
      Idealize.ShloMosaic.sem_eq_zero_of_no_sems (by decide) r.2⟩) (run m ρ)
theorem frame_ref_finite : Cert.quiescent_PostRefIdeal_pre_all_finite := fun m ρ _ =>
  (θ_run Cert.PostRefIdeal.defs _ _).mono (fun r h => ⟨fun c => (h c).2.2.2.2,
      Idealize.ShloMosaic.sem_eq_zero_of_no_sems (by decide) r.2⟩) (run m ρ)

/-- A number whose absolute value is below infinity is real. -/
theorem real_of_abs {x : EReal} (h : FloatOps.cmpf (F := Ideal) (φ := .f32) .olt (FloatOps.absf (F := Ideal) (φ := .f32) x) (Ideal.ofBits .f32 0x7F800000#32) = 1) :
    IsReal x := by
  have h : max x (-x) < ⊤ := PostRounds.ofBits_top ▸ (Ideal.cmp_olt_eq_one _ _).1 h
  induction x with
  | bot => simp at h
  | top => simp at h
  | coe r => exact ⟨r, rfl⟩

/-- What the precondition says. -/
theorem finite_of_pre (x : FVec Ideal S16384x1024 .f32) (o : FVec Ideal S16384x1024 .bf16) (mod : FVec Ideal S8x1x6144 .f32) (g : FVec Ideal S1x1024 .f32) (w : FVec Ideal S1024x1024 .f32)
    (rw : FVec Ideal S1024x32 .f32) (rb : FVec Ideal S1x32 .f32) (h : Cert.Pre_all_finite.fn (F := Ideal) x o mod g w rw rb = fun _ => 1#1) :
    Finite x o mod g w rw rb := by
  have e := congrFun h (fun a => a.elim0)
  simp only [Cert.Pre_all_finite.fn, Cert.Pre_all_finite.fn_part1, Cert.Pre_all_finite.fn_part2] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  refine ⟨fun j => real_of_abs (Host.reduce_andi_all _ _ _ _ _ e1 j), fun j => real_of_abs (Host.reduce_andi_all _ _ _ _ _ e2 j), fun b l => ?_,
    fun j => real_of_abs (Host.reduce_andi_all _ _ _ _ _ e4 j), fun j => real_of_abs (Host.reduce_andi_all _ _ _ _ _ e5 j),
    fun j => real_of_abs (Host.reduce_andi_all _ _ _ _ _ e6 j), fun j => real_of_abs (Host.reduce_andi_all _ _ _ _ _ e7 j)⟩
  have h3 := real_of_abs (Host.reduce_andi_all _ _ _ _ _ e3 (ix3 b 0 l))
  refine (congrArg IsReal ?_).mp h3
  pointwise

/-- On finite arguments the kernel and the reference leave the same four arrays. -/
theorem algebraic : Cert.algebraic_PostIdeal_PostRefIdeal_pre_all_finite := by
  intro m ρ m' ρ' hp hag
  refine ⟨_, _, _, _, PostRoute.run m ρ fun c => finite_of_pre _ _ _ _ _ _ _ (hp c), ?_⟩
  refine (θ_run Cert.PostRefIdeal.defs _ _).mono (fun _ h c => ?_) (run m' ρ')
  obtain ⟨h0, h1, h2, h3, h4, h5, h6⟩ := hag c
  have hl : lgR m' c = lg m c := by unfold lgR lg; rw [h0, h1, h2, h3, h4, h5, h6]
  refine ⟨(h c).1.trans ?_, (h c).2.1.trans ?_, (h c).2.2.1.trans (congrArg _ hl), (h c).2.2.2.1.trans (congrArg _ hl), (h c).2.2.2.2⟩
  · rw [h0, h1, h2, h4]
  · rw [h0, h1, h2, h3, h4]

end Cert.Proof.PostRef
end
-- ==== Proof.InProjSampleValue.lean ====
/-
  The value of the input projection's kernel on the sample group: after the run each of the two result arrays is one function of the
  arguments, given index by index. The kernel's one block of 128 rows is read at coordinates, it covers the
  arrays, and the two chains of contractions are opened to sums.
-/
module

public import proofs.«01_k».proof.Proof.Gen.InProjSampleIdeal.Value
public import Idealize.ShloMosaic.Lib.Pipeline.ValueKit
public import Idealize.ShloMosaic.Lib.Pointwise
public import Idealize.ShloMosaic.Lib.StableHlo.ReadAt

@[expose] public section
noncomputable section

namespace Cert.Proof.InProjSampleValue
open Idealize.ShloMosaic Idealize.ShloMosaic.TcCoe Idealize.SL.Sem
open Idealize.ShloMosaic.Pipeline (Dat)
open Cert.InProjSampleIdeal Cert.InProjSampleIdeal.Gen

/-- The normalised and modulated row `r` at feature `d`: the row divided by its root mean square, times the gain, times
    one plus the row's own scale, plus its shift. -/
def hval (x : S128x1024.Idx → EReal) (mod : S128x6144.Idx → EReal) (g : S1x1024.Idx → EReal)
    (r : Fin 128) (d : Fin 1024) : EReal :=
  x (ix2 r d) * Ideal.rsqrt (Ideal.div (∑ k, x (ix2 r k) * x (ix2 r k)) (Ideal.ofBits FTy.f32 1149239296#32)
      + Ideal.ofBits FTy.f32 897988541#32) * g (ix2 0 d)
    * (1 + mod (ix2 r ⟨1024 + d.val, by omega⟩))
    + mod (ix2 r ⟨d.val, by omega⟩)

/-- The main projection: the row times the first 3584 columns of the weights. -/
def mainVal (x : S128x1024.Idx → EReal) (mod : S128x6144.Idx → EReal) (g : S1x1024.Idx → EReal)
    (w : S1024x3600.Idx → EReal) (j : S128x3584.Idx) : EReal :=
  ∑ d : Fin 1024, hval x mod g (j 0) d * w (ix2 d (⟨(j 1).val, lt_of_lt_of_le (show (j 1).val < 3584 from (j 1).isLt) (by decide)⟩ : Fin 3600))

/-- The low-rank gate: the row times the last 16 columns, times the second factor, plus the bias. -/
def gateVal (x : S128x1024.Idx → EReal) (mod : S128x6144.Idx → EReal) (g : S1x1024.Idx → EReal)
    (w : S1024x3600.Idx → EReal) (w2 : S16x256.Idx → EReal) (b : S1x256.Idx → EReal) (j : S128x256.Idx) : EReal :=
  ∑ k : Fin 16, (∑ d : Fin 1024, hval x mod g (j 0) d * w (ix2 d (⟨3584 + k.val, by omega⟩ : Fin 3600)))
    * w2 (ix2 k (j 1)) + b (ix2 0 (j 1))

variable (m : (ℓ : Loc nD τ sig) → Buf (Elt Ideal) ℓ) (ρ : Dev nD → PrngReg)

/-- The weights' first 3584 columns, as the call is given them. -/
theorem V_main (c : Dev nD) (r : Fin 1024) (l : Fin 3584) :
    V m c main_v1 (ix2 r l) = m ((c : Thread nD τ).loc main_arg3) (ix2 r (⟨l.val, by omega⟩ : Fin 3600)) := by
  unfold V
  after_reads_at

/-- The weights' last 16 columns, as the call is given them. -/
theorem V_rank (c : Dev nD) (r : Fin 1024) (l : Fin 16) :
    V m c main_v3 (ix2 r l) = m ((c : Thread nD τ).loc main_arg3) (ix2 r (⟨3584 + l.val, by omega⟩ : Fin 3600)) := by
  unfold V
  after_reads_at

/-- The gate's second factor, as the call is given it. -/
theorem V_gk2 (c : Dev nD) (r : Fin 16) (l : Fin 256) :
    V m c main_v4 (ix2 r l) = m ((c : Thread nD τ).loc main_arg4) (ix2 r l) := by
  unfold V
  after_reads_at

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 1] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)

/-- The one block of the rows is all of them. -/
theorem blk_x (c : Dev nD) (t : Fin cfg0.N) (r : Fin 128) (d : Fin 1024) :
    iblk m c 0 t (ix2 r d)
      = m ((c : Thread nD τ).loc main_arg0) (ix2 r d) := by
  blk_simp [iblk]
  rw [V_main_arg0]
  congr 1
  blk_ext [idx0]

/-- The shifts of the block are those of its rows. -/
theorem blk_sh (c : Dev nD) (t : Fin cfg0.N) (r : Fin 128) (d : Fin 1024) :
    iblk m c 1 t (ix2 r d)
      = m ((c : Thread nD τ).loc main_arg1) (ix2 r (⟨d.val, by omega⟩ : Fin 6144)) := by
  blk_simp [iblk]
  rw [V_main_arg1]
  congr 1
  blk_ext [idx1]

/-- The scales of the block are those of its rows. -/
theorem blk_sc (c : Dev nD) (t : Fin cfg0.N) (r : Fin 128) (d : Fin 1024) :
    iblk m c 2 t (ix2 r d)
      = m ((c : Thread nD τ).loc main_arg1) (ix2 r (⟨1024 + d.val, by omega⟩ : Fin 6144)) := by
  blk_simp [iblk]
  rw [V_main_arg1]
  congr 1
  blk_ext [idx2]

/-- The gain, the weights and the bias are whole at every point. -/
theorem blk_g (c : Dev nD) (t : Fin cfg0.N) (d : Fin 1024) :
    iblk m c 3 t (ix2 0 d) = m ((c : Thread nD τ).loc main_arg2) (ix2 0 d) := by
  blk_simp [iblk]
  rw [V_main_arg2]
  congr 1
  blk_ext [idx3]

theorem blk_main (c : Dev nD) (t : Fin cfg0.N) (r : Fin 1024) (l : Fin 3584) :
    iblk m c 4 t (ix2 r l) = m ((c : Thread nD τ).loc main_arg3) (ix2 r (⟨l.val, by omega⟩ : Fin 3600)) := by
  refine Eq.trans ?_ (V_main m c r l)
  blk_simp [iblk]
  congr 1
  blk_ext [idx4]

theorem blk_rank (c : Dev nD) (t : Fin cfg0.N) (r : Fin 1024) (l : Fin 16) :
    iblk m c 5 t (ix2 r l) = m ((c : Thread nD τ).loc main_arg3) (ix2 r (⟨3584 + l.val, by omega⟩ : Fin 3600)) := by
  refine Eq.trans ?_ (V_rank m c r l)
  blk_simp [iblk]
  congr 1
  blk_ext [idx5]

theorem blk_gk2 (c : Dev nD) (t : Fin cfg0.N) (r : Fin 16) (l : Fin 256) :
    iblk m c 6 t (ix2 r l) = m ((c : Thread nD τ).loc main_arg4) (ix2 r l) := by
  refine Eq.trans ?_ (V_gk2 m c r l)
  blk_simp [iblk]
  congr 1
  blk_ext [idx6]

theorem blk_b (c : Dev nD) (t : Fin cfg0.N) (l : Fin 256) :
    iblk m c 7 t (ix2 0 l) = m ((c : Thread nD τ).loc main_arg5) (ix2 0 l) := by
  blk_simp [iblk]
  rw [V_main_arg5]
  congr 1
  blk_ext [idx7]

/-- The body's normalised rows of the block, at coordinates. -/
theorem pay_h (c : Dev nD) (t : Fin cfg0.N) (r : Fin 128) (d : Fin 1024) :
    k0_pay2 (iblk m c 0 t) (iblk m c 3 t) (iblk m c 2 t) (iblk m c 1 t) (ix2 r d)
      = hval (m ((c : Thread nD τ).loc main_arg0)) (m ((c : Thread nD τ).loc main_arg1)) (m ((c : Thread nD τ).loc main_arg2))
          r d := by
  pointwise [k0_pay2]
  unfold hval
  simp only [blk_x, blk_g, blk_sc, blk_sh]

/-- The main projection of the block, at coordinates. -/
theorem pay_main (c : Dev nD) (t : Fin cfg0.N) (r : Fin 128) (l : Fin 3584) :
    k0_pay3 (iblk m c 0 t) (iblk m c 3 t) (iblk m c 2 t) (iblk m c 1 t) (iblk m c 4 t) (ix2 r l)
      = mainVal (m ((c : Thread nD τ).loc main_arg0)) (m ((c : Thread nD τ).loc main_arg1)) (m ((c : Thread nD τ).loc main_arg2))
          (m ((c : Thread nD τ).loc main_arg3)) (ix2 r l) := by
  pointwise [k0_pay3]
  unfold mainVal
  exact Finset.sum_congr rfl fun d _ => congrArg₂ (· * ·) (pay_h m c t r d) (blk_main m c t d l)

/-- The gate of the block, at coordinates. -/
theorem pay_gate (c : Dev nD) (t : Fin cfg0.N) (r : Fin 128) (l : Fin 256) :
    k0_pay1 (k0_pay4 (iblk m c 0 t) (iblk m c 3 t) (iblk m c 2 t) (iblk m c 1 t) (iblk m c 5 t) (iblk m c 6 t)) (iblk m c 7 t) (ix2 r l)
      = gateVal (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (ix2 r l) := by
  pointwise [k0_pay1, k0_pay4]
  unfold gateVal
  refine congrArg₂ (· + ·) (Finset.sum_congr rfl fun k _ => congrArg₂ (· * ·) (Finset.sum_congr rfl fun d _ =>
    congrArg₂ (· * ·) (pay_h m c t r d) (blk_rank m c t d k)) (blk_gk2 m c t k l)) (blk_b m c t l)

/-- The array of main projections after the run. -/
theorem final_main (c : Dev nD) : (dats m 0 c).arrAt 8 cfg0.N
    = mainVal (m ((c : Thread nD τ).loc main_arg0)) (m ((c : Thread nD τ).loc main_arg1)) (m ((c : Thread nD τ).loc main_arg2))
        (m ((c : Thread nD τ).loc main_arg3)) := by
  refine (dats m 0 c).arrAt_eq_of_covers 8 _ (by decide +kernel) fun t hf y => ?_
  blk_simp
  rw [after0_8]; unfold out0_8; frame_out
  refine (congrArg _ (eq_ix2 (n0 := 128) (n1 := 3584) y)).trans ((pay_main m c t (y 0) (y 1)).trans (congrArg _ ?_))
  blk_ext [idx8]

/-- The array of gates after the run. -/
theorem final_gate (c : Dev nD) : (dats m 0 c).arrAt 9 cfg0.N
    = gateVal (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]; unfold out0_9; frame_out
  refine (congrArg _ (eq_ix2 (n0 := 128) (n1 := 256) y)).trans ((pay_gate m c t (y 0) (y 1)).trans (congrArg _ ?_))
  blk_ext [idx9]

/-- The kernel's run: the two results at these functions of the arguments, the arguments unchanged. -/
theorem run : θ_run defs (onTc (τ := τ) (main (F := Ideal))) ⟨m, fun _ => 0, ρ⟩ fun r => ∀ c : Dev nD,
      (r.2.mem ((c : Thread nD τ).loc main_v5_0)
        = mainVal (m ((c : Thread nD τ).loc main_arg0)) (m ((c : Thread nD τ).loc main_arg1)) (m ((c : Thread nD τ).loc main_arg2))
        (m ((c : Thread nD τ).loc main_arg3))
      ∧ r.2.mem ((c : Thread nD τ).loc main_v5_1)
        = gateVal (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨⟨(h c).1.trans (final_main m c), (h c).2.1.trans (final_gate m c)⟩, (h c).2.2⟩)
    (Value.run_blocks m ρ)

end Cert.Proof.InProjSampleValue
end
-- ==== Proof.InProjSampleRef.lean ====
/-
  The reference of the sample group's input projection reads, index by index, as the same functions of the arguments, and the claim.
-/
module

public import proofs.«01_k».proof.Defs
public import proofs.«01_k».proof.Proof.InProjSampleValue
public import proofs.«01_k».proof.Proof.Gen.InProjSampleRefIdeal.Run
public import proofs.«01_k».proof.Proof.Gen.InProjSample.Frame
public import Idealize.ShloMosaic.Lib.Quiescent

@[expose] public section
noncomputable section

namespace Cert.Proof.InProjSampleRef
open Idealize.ShloMosaic Idealize.ShloMosaic.TcCoe Idealize.SL.Sem
open Cert.InProjSampleRefIdeal Cert.InProjSampleRefIdeal.Gen Cert.Proof.InProjSampleValue

/-- The reference's normalised and modulated rows, as its operations compose them. -/
def refH (x : FVec Ideal S128x1024 .f32) (mod : FVec Ideal S128x6144 .f32) (g : FVec Ideal S1x1024 .f32) : FVec Ideal S128x1x1024 .f32 :=
  (addf (mulf (mulf (mulf (shapeCast _ x shapeCasts_S128x1024_S128x1x1024) (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf (shapeCast _ x shapeCasts_S128x1024_S128x1x1024) (shapeCast _ x shapeCasts_S128x1024_S128x1x1024)) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![1, 2] bcast_S1x1024_S1x1x1024_1_2 g))) (addf (broadcastInDim S128x1x1024 ![] bcast_S_S128x1x1024 (constant S_ .f32 0x3F800000#32)) (extractStridedSlice (s := S128x1x6144) S128x1x1024 ![0, 0, 1024] (broadcastInDim S128x1x6144 ![0, 2] bcast_S128x6144_S128x1x6144_0_2 mod) slices_S128x1x6144_S128x1x1024_0_0_1024))) (extractStridedSlice (s := S128x1x6144) S128x1x1024 ![0, 0, 0] (broadcastInDim S128x1x6144 ![0, 2] bcast_S128x6144_S128x1x6144_0_2 mod) slices_S128x1x6144_S128x1x1024_0_0_0))

theorem refH_apply (x : FVec Ideal S128x1024 .f32) (mod : FVec Ideal S128x6144 .f32) (g : FVec Ideal S1x1024 .f32)
    (r : Fin 128) (d : Fin 1024) :
    refH x mod g (ix3 r 0 d) = hval x mod g r d := by
  pointwise [refH]
  unfold hval
  rfl

/-- The reference's main projection from the rows. -/
def refP (h : FVec Ideal S128x1x1024 .f32) (w : FVec Ideal S1024x3600 .f32) : FVec Ideal S128x3584 .f32 :=
 shapeCast _ (extractStridedSlice (s := S128x1x3600) S128x1x3584 ![0, 0, 0] (Host.dotGeneral dot_S128x1x1024_S1024x3600_S128x1x3600_2_0_01_1_n_n none h w) slices_S128x1x3600_S128x1x3584_0_0_0) shapeCasts_S128x1x3584_S128x3584

theorem refP_apply (h : FVec Ideal S128x1x1024 .f32) (w : FVec Ideal S1024x3600 .f32) (r : Fin 128) (l : Fin 3584) :
    refP h w (ix2 r l) = ∑ d : Fin 1024, h (ix3 r 0 d)
      * w (ix2 d (⟨l.val, by omega⟩ : Fin 3600)) := by
  pointwise [refP]

/-- The reference's low-rank gate from the rows. -/
def refG (h : FVec Ideal S128x1x1024 .f32) (w : FVec Ideal S1024x3600 .f32) (w2 : FVec Ideal S16x256 .f32) (b : FVec Ideal S1x256 .f32) : FVec Ideal S128x256 .f32 :=
 shapeCast _ (addf (Host.dotGeneral dot_S128x1x16_S16x256_S128x1x256_2_0_01_1_n_n none (extractStridedSlice (s := S128x1x3600) S128x1x16 ![0, 0, 3584] (Host.dotGeneral dot_S128x1x1024_S1024x3600_S128x1x3600_2_0_01_1_n_n none h w) slices_S128x1x3600_S128x1x16_0_0_3584) w2) (broadcastInDim S128x1x256 ![0, 1, 2] bcast_S1x1x256_S128x1x256_0_1_2 (broadcastInDim S1x1x256 ![1, 2] bcast_S1x256_S1x1x256_1_2 b))) shapeCasts_S128x1x256_S128x256

theorem refG_apply (h : FVec Ideal S128x1x1024 .f32) (w : FVec Ideal S1024x3600 .f32) (w2 : FVec Ideal S16x256 .f32) (b : FVec Ideal S1x256 .f32) (r : Fin 128) (l : Fin 256) :
    refG h w w2 b (ix2 r l) = ∑ k : Fin 16, (∑ d : Fin 1024,
        h (ix3 r 0 d)
          * w (ix2 d (⟨3584 + k.val, by omega⟩ : Fin 3600))) * w2 (ix2 k l) + b (ix2 0 l) := by
  pointwise [refG]

variable (m : (ℓ : Loc nD τ sig) → Buf (Elt Ideal) ℓ) (ρ : Dev nD → PrngReg)

/-- The reference's run, its two results read at every index. -/
theorem run : θ_run defs (onTc (τ := τ) (main (F := Ideal))) ⟨m, fun _ => 0, ρ⟩ fun r => ∀ c : Dev nD,
      (r.2.mem ((c : Thread nD τ).loc main_v28)
        = mainVal (m ((c : Thread nD τ).loc main_arg0)) (m ((c : Thread nD τ).loc main_arg1)) (m ((c : Thread nD τ).loc main_arg2))
        (m ((c : Thread nD τ).loc main_arg3))
      ∧ r.2.mem ((c : Thread nD τ).loc main_v29)
        = gateVal (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun _ h c => ⟨⟨(h c).1.trans (?_ : refP (refH _ _ _) _ = _),
    (h c).2.1.trans (?_ : refG (refH _ _ _) _ _ _ = _)⟩, (h c).2.2⟩) (Value.run m ρ)
  · refine funext fun j => (congrArg _ (eq_ix2 (n0 := 128) (n1 := 3584) j)).trans ((refP_apply _ _ _ _).trans ?_)
    unfold mainVal
    exact Finset.sum_congr rfl fun d _ => congrArg (· * _) (refH_apply _ _ _ _ d)
  · refine funext fun j => (congrArg _ (eq_ix2 (n0 := 128) (n1 := 256) j)).trans ((refG_apply _ _ _ _ _ _).trans ?_)
    unfold gateVal
    exact congrArg (· + _) (Finset.sum_congr rfl fun k _ => congrArg (· * _) (Finset.sum_congr rfl fun d _ =>
      congrArg (· * _) (refH_apply _ _ _ _ d)))

/-- No operation of the kernel was rewritten. -/
theorem preserves : Cert.preserves_InProjSample_InProjSampleIdeal := trivial

/-- The kernel as printed runs to its end and leaves its arguments and counters as they were. -/
theorem frame : Cert.quiescent_InProjSample := fun m ρ _ => Cert.InProjSample.Gen.frame m ρ

/-- The kernel read in exact arithmetic likewise. -/
theorem frame_ideal : Cert.quiescent_InProjSampleIdeal := fun m ρ _ => Cert.InProjSampleIdeal.Gen.frame m ρ

/-- The reference likewise. -/
theorem frame_ref : Cert.quiescent_InProjSampleRefIdeal := fun m ρ _ =>
  (θ_run Cert.InProjSampleRefIdeal.defs _ _).mono (fun r h => ⟨fun c => (h c).2,
      Idealize.ShloMosaic.sem_eq_zero_of_no_sems (by decide) r.2⟩) (run m ρ)

/-- The kernel and the reference leave the same two arrays. -/
theorem algebraic : Cert.algebraic_InProjSampleIdeal_InProjSampleRefIdeal := by
  intro m ρ m' ρ' _ hag
  refine ⟨fun c => mainVal (m ((c.tc : Thread Cert.InProjSampleIdeal.nD Cert.InProjSampleIdeal.τ).loc Cert.InProjSampleIdeal.main_arg0)) (m ((c.tc : Thread Cert.InProjSampleIdeal.nD Cert.InProjSampleIdeal.τ).loc Cert.InProjSampleIdeal.main_arg1))
      (m ((c.tc : Thread Cert.InProjSampleIdeal.nD Cert.InProjSampleIdeal.τ).loc Cert.InProjSampleIdeal.main_arg2)) (m ((c.tc : Thread Cert.InProjSampleIdeal.nD Cert.InProjSampleIdeal.τ).loc Cert.InProjSampleIdeal.main_arg3)),
    fun c => gateVal (m ((c.tc : Thread Cert.InProjSampleIdeal.nD Cert.InProjSampleIdeal.τ).loc Cert.InProjSampleIdeal.main_arg0)) (m ((c.tc : Thread Cert.InProjSampleIdeal.nD Cert.InProjSampleIdeal.τ).loc Cert.InProjSampleIdeal.main_arg1))
      (m ((c.tc : Thread Cert.InProjSampleIdeal.nD Cert.InProjSampleIdeal.τ).loc Cert.InProjSampleIdeal.main_arg2)) (m ((c.tc : Thread Cert.InProjSampleIdeal.nD Cert.InProjSampleIdeal.τ).loc Cert.InProjSampleIdeal.main_arg3))
      (m ((c.tc : Thread Cert.InProjSampleIdeal.nD Cert.InProjSampleIdeal.τ).loc Cert.InProjSampleIdeal.main_arg4)) (m ((c.tc : Thread Cert.InProjSampleIdeal.nD Cert.InProjSampleIdeal.τ).loc Cert.InProjSampleIdeal.main_arg5)), ?_, ?_⟩
  · exact (θ_run Cert.InProjSampleIdeal.defs _ _).mono (fun _ h c => ⟨(h c).1.1, (h c).1.2, (h c).2⟩) (InProjSampleValue.run m ρ)
  · refine (θ_run Cert.InProjSampleRefIdeal.defs _ _).mono (fun _ h c => ⟨(h c).1.1.trans ?_, (h c).1.2.trans ?_, (h c).2⟩) (run m' ρ')
    · obtain ⟨h0, h1, h2, h3, _, _⟩ := hag c
      rw [h0, h1, h2, h3]
    · obtain ⟨h0, h1, h2, h3, h4, h5⟩ := hag c
      rw [h0, h1, h2, h3, h4, h5]

end Cert.Proof.InProjSampleRef
end
-- ==== Proof.PostSampleRounds.lean ====
/-
  On the sample group's rows the output projection picks each row's four experts in rounds: what the rounds hold, row by row.
-/
module

public import proofs.«01_k».proof.Proof.PostRounds
public import proofs.«01_k».proof.Proof.Gen.PostSampleIdeal.Value
public import Idealize.ShloMosaic.Lib.Pointwise

@[expose] public section
noncomputable section

namespace Cert.Proof.PostSampleRounds
open Idealize.ShloMosaic
open Cert.PostSampleIdeal Cert.PostSampleIdeal.Gen Cert.Proof.PostTopK
open Cert.Proof.PostRounds (ofBits_bot ofBits_top ofBits_32 rank idxOf gateOf fptosi_lane)

/-- The kernel's lane numbers are the places of the row. -/
theorem lane (r : Fin 128) (i : Fin 32) : k0_pay6 (F := Ideal) (ix2 r i) = ((i.val : ℝ) : EReal) := by
  pointwise [k0_pay6]
  show ((((BitVec.ofNat 32 i.val).toInt : ℤ) : ℝ) : EReal) = _
  have : (BitVec.ofNat 32 i.val).toInt = (i.val : ℤ) := (by decide : ∀ i : Fin 32, (BitVec.ofNat 32 i.val).toInt = (i.val : ℤ)) i
  rw [this, Int.cast_natCast]

/-- A row's greatest entry. -/
def mx (v : FVec Ideal S128x32 .f32) : FVec Ideal S128x1 .f32 :=
  shapeCast S128x1 (multiReduction .maximumf [1] S128 v 0xFF800000#32 reduces_S128x32_S128 (.inl rfl) rfl) shapeCasts_S128_S128x1

/-- The least lane where a row holds `a`, `32` if none. -/
def amx (v : FVec Ideal S128x32 .f32) (a : FVec Ideal S128x1 .f32) : FVec Ideal S128x1 .f32 :=
  shapeCast S128x1 (multiReduction .minimumf [1] S128 (select (cmpf .oeq v (broadcastTo S128x32 a broadcasts_S128x1_S128x32))
    (k0_pay6 (F := Ideal)) (broadcast S128x32 (Scalar.ofBits .f32 0x42000000#32))) 0x7F800000#32 reduces_S128x32_S128 (.inl rfl) rfl) shapeCasts_S128_S128x1

/-- The row with lane `p` struck out. -/
def out (v : FVec Ideal S128x32 .f32) (p : FVec Ideal S128x1 .f32) : FVec Ideal S128x32 .f32 :=
  select (cmpf .oeq (k0_pay6 (F := Ideal)) (broadcastTo S128x32 p broadcasts_S128x1_S128x32)) (broadcast S128x32 (Scalar.ofBits (F := Ideal) .f32 0xFF800000#32)) v

variable (L : Fin 32 → EReal) (v : FVec Ideal S128x32 .f32) (r : Fin 128) (k : Fin 32)

theorem mx_apply (h : ∀ i, v (ix2 r i) = gone L k.val i) : mx v (ix2 r 0) = L (srt L k) := by
  rw [← max_gone L]
  pointwise [mx, h]
  rw [ofBits_bot]

theorem amx_apply (hL : ∀ i, L i ≠ ⊥) (h : ∀ i, v (ix2 r i) = gone L k.val i) (a : FVec Ideal S128x1 .f32) (ha : a (ix2 r 0) = L (srt L k)) :
    amx v a (ix2 r 0) = (((srt L k).val : ℝ) : EReal) := by
  rw [← min_gone L hL]
  pointwise [amx, h, lane, ha]
  rw [ofBits_top, ofBits_32]

theorem out_apply (h : ∀ i, v (ix2 r i) = gone L k.val i) (p : FVec Ideal S128x1 .f32) (hp : p (ix2 r 0) = (((srt L k).val : ℝ) : EReal)) (i : Fin 32) :
    out v p (ix2 r i) = gone L (k.val + 1) i := by
  rw [gone_succ]
  pointwise [out, h, lane, hp]
  rw [ofBits_bot]
  refine if_congr ?_ rfl rfl
  rw [EReal.coe_eq_coe_iff, Nat.cast_inj, Fin.ext_iff]

/-- The rows after `n` rounds. -/
def vs (v : FVec Ideal S128x32 .f32) : ℕ → FVec Ideal S128x32 .f32
  | 0 => v
  | n + 1 => out (vs v n) (amx (vs v n) (mx (vs v n)))

theorem vs_apply (hL : ∀ i, L i ≠ ⊥) (h : ∀ i, v (ix2 r i) = L i) (n : ℕ) (hn : n ≤ 32) (i : Fin 32) : vs v n (ix2 r i) = gone L n i := by
  induction n generalizing i with
  | zero => rw [gone_zero]; exact h i
  | succ n ih =>
    have ih := ih (by omega)
    exact out_apply L _ r ⟨n, by omega⟩ ih _ (amx_apply L _ r ⟨n, by omega⟩ hL ih _ (mx_apply L _ r ⟨n, by omega⟩ ih)) i

theorem mx_vs (hL : ∀ i, L i ≠ ⊥) (h : ∀ i, v (ix2 r i) = L i) (n : ℕ) (hn : n < 32) : mx (vs v n) (ix2 r 0) = L (srt L ⟨n, hn⟩) :=
  mx_apply L _ r ⟨n, hn⟩ (vs_apply L v r hL h n hn.le)

theorem amx_vs (hL : ∀ i, L i ≠ ⊥) (h : ∀ i, v (ix2 r i) = L i) (n : ℕ) (hn : n < 32) :
    amx (vs v n) (mx (vs v n)) (ix2 r 0) = (((srt L ⟨n, hn⟩).val : ℝ) : EReal) :=
  amx_apply L _ r ⟨n, hn⟩ hL (vs_apply L v r hL h n hn.le) _ (mx_vs L v r hL h n hn)

variable (H : FVec Ideal S128x1024 .f32) (w : FVec Ideal S1024x32 .f32) (b : FVec Ideal S1x32 .f32)

/-- The router's logits of the block. -/
def lgB : FVec Ideal S128x32 .f32 := k0_pay5 H w H H b

/-- The block of chosen places the body writes, from the block's rows, the router's weights and its bias. -/
def idxBlk : IVec S128x4 32 := k0_pay18 (k0_pay6 (F := Ideal)) (k0_pay8 H w H H b) (k0_pay9 H w H H b) (k0_pay11 H w H H b)

theorem idxBlk_eq : idxBlk H w b
    = fptosi 32 (concatenate S128x4 1 [⟨S128x1, amx (vs (lgB H w b) 0) (mx (vs (lgB H w b) 0))⟩, ⟨S128x1, amx (vs (lgB H w b) 1) (mx (vs (lgB H w b) 1))⟩,
        ⟨S128x1, amx (vs (lgB H w b) 2) (mx (vs (lgB H w b) 2))⟩, ⟨S128x1, amx (vs (lgB H w b) 3) (mx (vs (lgB H w b) 3))⟩]
        concatenates_S128x1_S128x1_S128x1_S128x1_S128x4_d1) := rfl

/-- The four places the kernel writes are the sort's first four. -/
theorem idx_apply (hL : ∀ i, L i ≠ ⊥) (h : ∀ i, lgB H w b (ix2 r i) = L i) (k : Fin 4) :
    idxBlk H w b (ix2 r k)
      = idxOf L k := by
  rw [idxOf, idxBlk_eq, ← fptosi_lane]
  have e := fun n hn => amx_vs L (lgB H w b) r hL h n hn
  fin_cases k <;> pointwise [e] <;> rfl

def ex (v : FVec Ideal S128x32 .f32) (n : ℕ) : FVec Ideal S128x1 .f32 := exp (subf (mx (vs v n)) (mx (vs v 0)))

/-- Four columns over their sum, side by side. -/
def gates4 (e0 e1 e2 e3 q : FVec Ideal S128x1 .f32) : FVec Ideal S128x4 .f32 :=
  concatenate S128x4 1 [⟨S128x1, divf e0 q⟩, ⟨S128x1, divf e1 q⟩, ⟨S128x1, divf e2 q⟩, ⟨S128x1, divf e3 q⟩] concatenates_S128x1_S128x1_S128x1_S128x1_S128x4_d1

/-- The block of gates likewise. -/
def gateBlk : FVec Ideal S128x4 .f32 :=
  k0_pay19 (k0_pay6 (F := Ideal)) (k0_pay7 H w H H b) (k0_pay9 H w H H b) (k0_pay10 H w H H b) (k0_pay11 H w H H b)

theorem gateBlk_eq : gateBlk H w b
    = gates4 (ex (lgB H w b) 0) (ex (lgB H w b) 1) (ex (lgB H w b) 2) (ex (lgB H w b) 3)
      (addf (addf (addf (ex (lgB H w b) 0) (ex (lgB H w b) 1)) (ex (lgB H w b) 2)) (ex (lgB H w b) 3)) := rfl

theorem ex_apply (hL : ∀ i, L i ≠ ⊥) (h : ∀ i, v (ix2 r i) = L i) (n : ℕ) (hn : n < 32) :
    ex v n (ix2 r 0) = Ideal.exp (L (srt L ⟨n, hn⟩) - L (srt L 0)) := by
  pointwise [ex, mx_vs L v r hL h n hn, mx_vs L v r hL h 0 (by omega)]

/-- The four gates the kernel writes. -/
theorem gate_apply (hL : ∀ i, L i ≠ ⊥) (h : ∀ i, lgB H w b (ix2 r i) = L i) (k : Fin 4) :
    gateBlk H w b (ix2 r k)
      = gateOf L k := by
  rw [gateBlk_eq]
  have e := fun n hn => ex_apply L (lgB H w b) r hL h n hn
  unfold gateOf
  rw [Fin.sum_univ_four]
  fin_cases k <;> pointwise [gates4, e] <;> rfl

end Cert.Proof.PostSampleRounds
end
-- ==== Proof.PostSampleValue.lean ====
/-
  The value of the sample group's output projection: on the sample group: after the run its first two result arrays are functions of the arguments,
  given index by index.
-/
module

public import proofs.«01_k».proof.Proof.Gen.PostSampleIdeal.Value
public import Idealize.ShloMosaic.Lib.Pipeline.ValueKit
public import Idealize.ShloMosaic.Lib.Pointwise
public import Idealize.ShloMosaic.Lib.StableHlo.ReadAt

@[expose] public section
noncomputable section

namespace Cert.Proof.PostSampleValue
open Idealize.ShloMosaic Idealize.ShloMosaic.TcCoe Idealize.SL.Sem
open Idealize.ShloMosaic.Pipeline (Dat)
open Cert.PostSampleIdeal Cert.PostSampleIdeal.Gen

/-- The residual row `r` at feature `d`: the token plus its own gate times the mixers' outputs through the projection. -/
def x1At (x : S128x1024.Idx → EReal) (o : S128x1024.Idx → EReal) (mod : S128x6144.Idx → EReal) (w : S1024x1024.Idx → EReal)
    (r : Fin 128) (d : Fin 1024) : EReal :=
  x (ix2 r d) + mod (ix2 r ⟨2048 + d.val, by omega⟩) * ∑ k : Fin 1024, o (ix2 r k) * w (ix2 k d)

/-- That row divided by its root mean square, times the gain, times one plus its own scale, plus its shift. -/
def h2At (x : S128x1024.Idx → EReal) (o : S128x1024.Idx → EReal) (mod : S128x6144.Idx → EReal) (g : S1x1024.Idx → EReal)
    (w : S1024x1024.Idx → EReal) (r : Fin 128) (d : Fin 1024) : EReal :=
  x1At x o mod w r d * Ideal.rsqrt (Ideal.div (∑ k, x1At x o mod w r k * x1At x o mod w r k) (Ideal.ofBits FTy.f32 1149239296#32)
      + Ideal.ofBits FTy.f32 897988541#32) * g (ix2 0 d)
    * (1 + mod (ix2 r ⟨4096 + d.val, by omega⟩))
    + mod (ix2 r ⟨3072 + d.val, by omega⟩)

def x1Val (x : S128x1024.Idx → EReal) (o : S128x1024.Idx → EReal) (mod : S128x6144.Idx → EReal) (w : S1024x1024.Idx → EReal)
    (j : S128x1024.Idx) : EReal := x1At x o mod w (j 0) (j 1)
def h2Val (x : S128x1024.Idx → EReal) (o : S128x1024.Idx → EReal) (mod : S128x6144.Idx → EReal) (g : S1x1024.Idx → EReal)
    (w : S1024x1024.Idx → EReal) (j : S128x1024.Idx) : EReal := h2At x o mod g w (j 0) (j 1)

variable (m : (ℓ : Loc nD τ sig) → Buf (Elt Ideal) ℓ) (ρ : Dev nD → PrngReg)

/-- The projection's weights, as the call is given them. -/
theorem V_w (c : Dev nD) (r : Fin 1024) (l : Fin 1024) :
    V m c main_v0 (ix2 r l) = (m ((c : Thread nD τ).loc main_arg4)) (ix2 r l) := by
  unfold V
  after_reads_at

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 2] := (by decide +kernel : ∀ t : Fin grid0.N, _)
theorem idx3 : ∀ t : Fin cfg0.N, win0_3.index t = ![0, 3] := (by decide +kernel : ∀ t : Fin grid0.N, _)
theorem idx4 : ∀ t : Fin cfg0.N, win0_4.index t = ![0, 4] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)

/-! ## The windows' blocks: the rows, their modulation and the weights, all whole -/

theorem blk_x (c : Dev nD) (t : Fin cfg0.N) (r : Fin 128) (l : Fin 1024) :
    iblk m c 0 t (ix2 r l) = (m ((c : Thread nD τ).loc main_arg0)) (ix2 r l) := by
  blk_simp [iblk]
  rw [V_main_arg0]
  congr 1
  blk_ext [idx0]

theorem blk_o (c : Dev nD) (t : Fin cfg0.N) (r : Fin 128) (l : Fin 1024) :
    iblk m c 1 t (ix2 r l) = (m ((c : Thread nD τ).loc main_arg1)) (ix2 r l) := by
  blk_simp [iblk]
  rw [V_main_arg1]
  congr 1
  blk_ext [idx1]

theorem blk_g1 (c : Dev nD) (t : Fin cfg0.N) (r : Fin 128) (l : Fin 1024) :
    iblk m c 2 t (ix2 r l) = (m ((c : Thread nD τ).loc main_arg2)) (ix2 r (⟨2048 + l.val, by omega⟩ : Fin 6144)) := by
  blk_simp [iblk]
  rw [V_main_arg2]
  congr 1
  blk_ext [idx2]

theorem blk_sh (c : Dev nD) (t : Fin cfg0.N) (r : Fin 128) (l : Fin 1024) :
    iblk m c 3 t (ix2 r l) = (m ((c : Thread nD τ).loc main_arg2)) (ix2 r (⟨3072 + l.val, by omega⟩ : Fin 6144)) := by
  blk_simp [iblk]
  rw [V_main_arg2]
  congr 1
  blk_ext [idx3]

theorem blk_sc (c : Dev nD) (t : Fin cfg0.N) (r : Fin 128) (l : Fin 1024) :
    iblk m c 4 t (ix2 r l) = (m ((c : Thread nD τ).loc main_arg2)) (ix2 r (⟨4096 + l.val, by omega⟩ : Fin 6144)) := by
  blk_simp [iblk]
  rw [V_main_arg2]
  congr 1
  blk_ext [idx4]

theorem blk_g (c : Dev nD) (t : Fin cfg0.N) (l : Fin 1024) :
    iblk m c 5 t (ix2 0 l) = (m ((c : Thread nD τ).loc main_arg3)) (ix2 0 l) := by
  blk_simp [iblk]
  rw [V_main_arg3]
  congr 1
  blk_ext [idx5]

theorem blk_w (c : Dev nD) (t : Fin cfg0.N) (r : Fin 1024) (l : Fin 1024) :
    iblk m c 6 t (ix2 r l) = (m ((c : Thread nD τ).loc main_arg4)) (ix2 r l) := by
  refine Eq.trans ?_ (V_w m c r l)
  blk_simp [iblk]
  congr 1
  blk_ext [idx6]

/-- The body's residual rows of the block, at coordinates. -/
theorem pay_x1 (c : Dev nD) (t : Fin cfg0.N) (r : Fin 128) (d : Fin 1024) :
    k0_pay1 (iblk m c 0 t) (iblk m c 2 t) (iblk m c 1 t) (iblk m c 6 t) (ix2 r d)
      = x1At (m ((c : Thread nD τ).loc main_arg0)) (m ((c : Thread nD τ).loc main_arg1)) (m ((c : Thread nD τ).loc main_arg2)) (m ((c : Thread nD τ).loc main_arg4)) r d := by
  pointwise [k0_pay1]
  unfold x1At
  simp only [blk_x, blk_o, blk_g1, blk_w]

/-- Its normalised and modulated rows. -/
theorem pay_h2 (c : Dev nD) (t : Fin cfg0.N) (r : Fin 128) (d : Fin 1024) :
    k0_pay2 (iblk m c 0 t) (iblk m c 2 t) (iblk m c 1 t) (iblk m c 6 t) (iblk m c 5 t) (iblk m c 4 t) (iblk m c 3 t) (ix2 r d)
      = h2At (m ((c : Thread nD τ).loc main_arg0)) (m ((c : Thread nD τ).loc main_arg1)) (m ((c : Thread nD τ).loc main_arg2)) (m ((c : Thread nD τ).loc main_arg3)) (m ((c : Thread nD τ).loc main_arg4)) r d := by
  pointwise [k0_pay2]
  unfold h2At
  simp only [pay_x1, blk_g, blk_sc, blk_sh]

/-- The array of residual rows after the run. -/
theorem final_x1 (c : Dev nD) : (dats m 0 c).arrAt 9 cfg0.N
    = x1Val (m ((c : Thread nD τ).loc main_arg0)) (m ((c : Thread nD τ).loc main_arg1)) (m ((c : Thread nD τ).loc main_arg2)) (m ((c : Thread nD τ).loc main_arg4)) := by
  refine (dats m 0 c).arrAt_eq_of_covers 9 _ (by decide +kernel) fun t hf y => ?_
  blk_simp
  rw [after0_9]; unfold out0_9; frame_out
  refine (congrArg _ (eq_ix2 (n0 := 128) (n1 := 1024) y)).trans ((pay_x1 m c t (y 0) (y 1)).trans
    (congrArg (x1Val (m ((c : Thread nD τ).loc main_arg0)) (m ((c : Thread nD τ).loc main_arg1)) (m ((c : Thread nD τ).loc main_arg2)) (m ((c : Thread nD τ).loc main_arg4))) ?_))
  blk_ext [idx9]

/-- The array of normalised rows after the run. -/
theorem final_h2 (c : Dev nD) : (dats m 0 c).arrAt 10 cfg0.N
    = h2Val (m ((c : Thread nD τ).loc main_arg0)) (m ((c : Thread nD τ).loc main_arg1)) (m ((c : Thread nD τ).loc main_arg2))
            (m ((c : Thread nD τ).loc main_arg3)) (m ((c : Thread nD τ).loc main_arg4)) := by
  refine (dats m 0 c).arrAt_eq_of_covers 10 _ (by decide +kernel) fun t hf y => ?_
  blk_simp
  rw [after0_10]; unfold out0_10; frame_out
  refine (congrArg _ (eq_ix2 (n0 := 128) (n1 := 1024) y)).trans ((pay_h2 m c t (y 0) (y 1)).trans
    (congrArg (h2Val (m ((c : Thread nD τ).loc main_arg0)) (m ((c : Thread nD τ).loc main_arg1)) (m ((c : Thread nD τ).loc main_arg2)) (m ((c : Thread nD τ).loc main_arg3)) (m ((c : Thread nD τ).loc main_arg4))) ?_))
  blk_ext [idx10]

end Cert.Proof.PostSampleValue
end
-- ==== Proof.PostSampleRoute.lean ====
/-
  On finite arguments the sample group's output projection writes, of each row, the four greatest router logits' places and their gates.
-/
module

public import proofs.«01_k».proof.Proof.PostSampleRounds
public import proofs.«01_k».proof.Proof.PostRoute
public import proofs.«01_k».proof.Proof.PostSampleValue
public import proofs.«01_k».proof.Proof.SampleReal

@[expose] public section
noncomputable section

namespace Cert.Proof.PostSampleRoute
open Idealize.ShloMosaic Idealize.ShloMosaic.TcCoe Idealize.SL.Sem
open Idealize.ShloMosaic.Pipeline (Dat)
open Cert.PostSampleIdeal Cert.PostSampleIdeal.Gen Cert.Proof.PostSampleValue Cert.Proof.PostTopK Cert.Proof.PostSampleRounds Cert.Proof.SampleReal
open Cert.Proof.PostRounds (idxOf gateOf)
open Cert.Proof.PostRoute (sub_self_real coe_sum isReal_sum)

/-- On finite rows and weights the three-part products add up to the plain one. -/
theorem lgB_apply (H : FVec Ideal S128x1024 .f32) (w : FVec Ideal S1024x32 .f32) (b : FVec Ideal S1x32 .f32) (r : Fin 128)
    (hH : ∀ d, IsReal (H (ix2 r d))) (hw : ∀ d e, IsReal (w (ix2 d e))) (e : Fin 32) :
    lgB H w b (ix2 r e) = ∑ d, H (ix2 r d) * w (ix2 d e) + b (ix2 0 e) := by
  pointwise [lgB, k0_pay5]
  simp only [sub_self_real (hH _), sub_self_real (hw _ _), mul_zero, zero_mul, Finset.sum_const_zero, add_zero, zero_add, sub_zero]

section
variable (x : S128x1024.Idx → EReal) (o : S128x1024.Idx → EReal) (mod : S128x6144.Idx → EReal) (g : S1x1024.Idx → EReal)
    (w : S1024x1024.Idx → EReal) (rw : S1024x32.Idx → EReal) (rb : S1x32.Idx → EReal)

/-- The router's logit of row `r` for expert `e`. -/
def logitAt (r : Fin 128) (e : Fin 32) : EReal := ∑ d, h2At x o mod g w r d * rw (ix2 d e) + rb (ix2 0 e)

/-- The chosen experts of every row, from the rows' logits; then their gates. -/
def idxArr (l : Fin 128 → Fin 32 → EReal) (j : S128x4.Idx) : BitVec 32 := idxOf (l (j 0)) (j 1)
def gateArr (l : Fin 128 → Fin 32 → EReal) (j : S128x4.Idx) : EReal := gateOf (l (j 0)) (j 1)

/-- The arguments hold no infinity, of the modulation the features read. -/
structure Finite : Prop where
  x : ∀ j, IsReal (x j)
  o : ∀ j, IsReal (o j)
  mod : ∀ (b : Fin 128) (l : Fin 3072), IsReal (mod (ix2 b (⟨2048 + l.val, by omega⟩ : Fin 6144)))
  g : ∀ j, IsReal (g j)
  w : ∀ j, IsReal (w j)
  rw : ∀ j, IsReal (rw j)
  rb : ∀ j, IsReal (rb j)

variable {x o mod g w rw rb} (hf : Finite x o mod g w rw rb)
include hf

theorem isReal_mod (b : Fin 128) (n : ℕ) (h : n < 6144) (h' : 2048 ≤ n) (h'' : n < 5120) : IsReal (mod (ix2 b (⟨n, h⟩ : Fin 6144))) := by
  have := hf.mod b ⟨n - 2048, by omega⟩
  have e : (⟨2048 + (n - 2048), by omega⟩ : Fin 6144) = ⟨n, h⟩ := Fin.ext (by show 2048 + (n - 2048) = n; omega)
  exact e ▸ this

theorem isReal_x1 (r : Fin 128) (d : Fin 1024) : IsReal (x1At x o mod w r d) :=
  isReal_add (hf.x _) (isReal_mul (isReal_mod hf _ _ _ (by omega) (by omega)) (isReal_sum _ fun _ => isReal_mul (hf.o _) (hf.w _)))

theorem isReal_h2 (r : Fin 128) (d : Fin 1024) : IsReal (h2At x o mod g w r d) := by
  unfold h2At
  refine isReal_add (isReal_mul (isReal_mul (isReal_mul (isReal_x1 hf r d) ?_) (hf.g _))
    (isReal_add isReal_one (isReal_mod hf _ _ _ (by omega) (by omega)))) (isReal_mod hf _ _ _ (by omega) (by omega))
  have hx := isReal_x1 hf r
  choose a ha using hx
  simp only [ha]
  have e1 : Ideal.ofBits .f32 1149239296#32 = ((1024 : ℝ) : EReal) := by
    simp [Ideal.ofBits, Ideal.ieee, -EReal.coe_mul]; norm_num
  obtain ⟨q, hq, hq0⟩ : ∃ q : ℝ, Ideal.ofBits .f32 897988541#32 = (q : EReal) ∧ 0 < q := by
    refine ⟨_, by simp [Ideal.ofBits, Ideal.ieee, -EReal.coe_mul]; rfl, by norm_num⟩
  have e2 : ∑ k, ((a k : ℝ) : EReal) * (a k : EReal) = ((∑ k, a k * a k : ℝ) : EReal) := by
    rw [← coe_sum]; simp only [EReal.coe_mul]
  have h0 : 0 ≤ ∑ k, a k * a k := Finset.sum_nonneg fun k _ => mul_self_nonneg _
  have h1 : Ideal.div ((∑ k, a k * a k : ℝ) : EReal) ((1024 : ℝ) : EReal) = (((∑ k, a k * a k) * (1 / 1024 : ℝ) : ℝ) : EReal) := by
    rw [Ideal.div_coe (by norm_num), EReal.coe_mul]
  have h2 : 0 < (∑ k, a k * a k) * (1 / 1024 : ℝ) + q := by positivity
  rw [e1, hq, e2, h1, ← EReal.coe_add, Ideal.rsqrt_coe, if_neg h2.not_gt, if_neg h2.ne']
  exact ⟨_, rfl⟩

theorem isReal_logit (r : Fin 128) (e : Fin 32) : IsReal (logitAt x o mod g w rw rb r e) :=
  isReal_add (isReal_sum _ fun _ => isReal_mul (isReal_h2 hf _ _) (hf.rw _)) (hf.rb _)

theorem logit_ne_bot (r : Fin 128) (e : Fin 32) : logitAt x o mod g w rw rb r e ≠ ⊥ := by
  obtain ⟨a, ha⟩ := isReal_logit hf r e
  rw [ha]
  exact EReal.coe_ne_bot a

end

theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)

variable (m : (ℓ : Loc nD τ sig) → Buf (Elt Ideal) ℓ) (ρ : Dev nD → PrngReg)

theorem blk_rw (c : Dev nD) (t : Fin cfg0.N) (r : Fin 1024) (l : Fin 32) :
    iblk m c 7 t (ix2 r l) = (m ((c : Thread nD τ).loc main_arg5)) (ix2 r l) := by
  blk_simp [iblk]
  rw [V_main_arg5]
  congr 1
  blk_ext [idx7]

theorem blk_rb (c : Dev nD) (t : Fin cfg0.N) (l : Fin 32) :
    iblk m c 8 t (ix2 0 l) = (m ((c : Thread nD τ).loc main_arg6)) (ix2 0 l) := by
  blk_simp [iblk]
  rw [V_main_arg6]
  congr 1
  blk_ext [idx8]

/-- The device's arguments are finite. -/
def FiniteAt (c : Dev nD) : Prop := Finite (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

/-- The device's logits. -/
def lg (c : Dev nD) : Fin 128 → Fin 32 → EReal := logitAt (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

/-- The block's normalised rows. -/
def hB (c : Dev nD) (t : Fin cfg0.N) : FVec Ideal S128x1024 .f32 :=
  k0_pay2 (iblk m c 0 t) (iblk m c 2 t) (iblk m c 1 t) (iblk m c 6 t) (iblk m c 5 t) (iblk m c 4 t) (iblk m c 3 t)

theorem pay_lg (c : Dev nD) (hf : FiniteAt m c) (t : Fin cfg0.N) (r : Fin 128) (e : Fin 32) :
    lgB (hB m c t) (iblk m c 7 t) (iblk m c 8 t) (ix2 r e) = lg m c r e := by
  rw [lgB_apply]
  · unfold lg logitAt hB
    simp only [pay_h2, blk_rw, blk_rb]
  · intro d
    unfold hB
    rw [pay_h2]
    exact isReal_h2 hf _ _
  · intro d e
    rw [blk_rw]
    exact hf.rw _

theorem blk_idxArr (c : Dev nD) (hf : FiniteAt m c) (t : Fin cfg0.N) (r : Fin 128) (k : Fin 4) :
    idxBlk (hB m c t) (iblk m c 7 t) (iblk m c 8 t) (ix2 r k) = idxArr (lg m c) (ix2 r k) :=
  idx_apply (lg m c r) r (hB m c t) _ _ (logit_ne_bot hf _) (pay_lg m c hf t r) k

/-- The array of chosen experts after the run. -/
theorem final_idxArr (c : Dev nD) (hf : FiniteAt m c) : (dats m 0 c).arrAt 11 cfg0.N = idxArr (lg m c) := by
  refine (dats m 0 c).arrAt_eq_of_covers 11 _ (by decide +kernel) fun t hf' y => ?_
  blk_simp
  rw [after0_11]; unfold_out out0_11; frame_out
  show idxBlk (hB m c t) (iblk m c 7 t) (iblk m c 8 t) y = _
  refine (congrArg _ (eq_ix2 (n0 := 128) (n1 := 4) y)).trans ((blk_idxArr m c hf t (y 0) (y 1)).trans
    (congrArg (idxArr (lg m c)) (?_ : (ix2 (n0 := 128) (n1 := 4) _ _) = _)))
  blk_ext [idx11]

theorem blk_gateArr (c : Dev nD) (hf : FiniteAt m c) (t : Fin cfg0.N) (r : Fin 128) (k : Fin 4) :
    gateBlk (hB m c t) (iblk m c 7 t) (iblk m c 8 t) (ix2 r k) = gateArr (lg m c) (ix2 r k) :=
  gate_apply (lg m c r) r (hB m c t) _ _ (logit_ne_bot hf _) (pay_lg m c hf t r) k

/-- The array of gates after the run. -/
theorem final_gateArr (c : Dev nD) (hf : FiniteAt m c) : (dats m 0 c).arrAt 12 cfg0.N = gateArr (lg m c) := by
  refine (dats m 0 c).arrAt_eq_of_covers 12 _ (by decide +kernel) fun t hf' y => ?_
  blk_simp
  rw [after0_12]; unfold_out out0_12; frame_out
  show gateBlk (hB m c t) (iblk m c 7 t) (iblk m c 8 t) y = _
  refine (congrArg _ (eq_ix2 (n0 := 128) (n1 := 4) y)).trans ((blk_gateArr m c hf t (y 0) (y 1)).trans
    (congrArg (gateArr (lg m c)) (?_ : (ix2 (n0 := 128) (n1 := 4) _ _) = _)))
  blk_ext [idx12]

/-- The kernel's run on finite arguments: the four results at these functions of the arguments, the arguments unchanged. -/
theorem run (hf : ∀ c, FiniteAt m c) : θ_run defs (onTc (τ := τ) (main (F := Ideal))) ⟨m, fun _ => 0, ρ⟩ fun r => ∀ c : Dev nD,
      r.2.mem ((c : Thread nD τ).loc main_v1_0)
        = x1Val (m ((c : Thread nD τ).loc main_arg0)) (m ((c : Thread nD τ).loc main_arg1)) (m ((c : Thread nD τ).loc main_arg2)) (m ((c : Thread nD τ).loc main_arg4))
      ∧ r.2.mem ((c : Thread nD τ).loc main_v1_1)
        = h2Val (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_v1_2)
        = idxArr (lg m c)
      ∧ r.2.mem ((c : Thread nD τ).loc main_v1_3)
        = gateArr (lg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final_x1 m c), (h c).2.1.trans (final_h2 m c), (h c).2.2.1.trans (final_idxArr m c (hf c)),
    (h c).2.2.2.1.trans (final_gateArr m c (hf c)), (h c).2.2.2.2⟩)
    (Value.run_blocks m ρ)

end Cert.Proof.PostSampleRoute
end
-- ==== Proof.PostSampleRef.lean ====
/-
  The reference of the output projection reads, index by index, as the same functions of the arguments, and the claims.
-/
module

public import proofs.«01_k».proof.Defs
public import proofs.«01_k».proof.Proof.PostSampleRoute
public import proofs.«01_k».proof.Proof.PostRef
public import proofs.«01_k».proof.Proof.Gen.PostSampleRefIdeal.Run
public import proofs.«01_k».proof.Proof.Gen.PostSample.Frame
public import proofs.«01_k».proof.Proof.Gen.Pre_all_finite_sample
public import Idealize.ShloMosaic.Lib.ReduceAll
public import Idealize.ShloMosaic.Lib.Quiescent

@[expose] public section
noncomputable section

namespace Cert.Proof.PostSampleRef
open Idealize.ShloMosaic Idealize.ShloMosaic.TcCoe Idealize.SL.Sem
open Cert.PostSampleRefIdeal Cert.PostSampleRefIdeal.Gen Cert.Proof.PostSampleValue Cert.Proof.PostTopK Cert.Proof.PostSampleRoute Cert.Proof.SampleReal
open Cert.Proof.PostRounds (ofBits_bot rank idxOf gateOf)
open Cert.Proof.PostRef (max_four real_of_abs)

/-- The reference's residual rows, as its operations compose them. -/
def refX (x : FVec Ideal S128x1024 .f32) (o : FVec Ideal S128x1024 .bf16) (mod : FVec Ideal S128x6144 .f32) (w : FVec Ideal S1024x1024 .f32) : FVec Ideal S128x1x1024 .f32 :=
  (addf (shapeCast _ x shapeCasts_S128x1024_S128x1x1024) (mulf (extractStridedSlice (s := S128x1x6144) S128x1x1024 ![0, 0, 2048] (broadcastInDim S128x1x6144 ![0, 2] bcast_S128x6144_S128x1x6144_0_2 mod) slices_S128x1x6144_S128x1x1024_0_0_2048) (Host.dotGeneral dot_S128x1x1024_S1024x1024_S128x1x1024_2_0_01_1_n_n none (extf .f32 (shapeCast _ o shapeCasts_S128x1024_S128x1x1024) bitsLt_bf16_f32) w)))

theorem refX_apply (x : FVec Ideal S128x1024 .f32) (o : FVec Ideal S128x1024 .bf16) (mod : FVec Ideal S128x6144 .f32) (w : FVec Ideal S1024x1024 .f32) (r : Fin 128) (d : Fin 1024) :
    refX x o mod w (ix3 r 0 d) = x1At x o mod w r d := by
  pointwise [refX]
  unfold x1At
  rfl

/-- Its normalised and modulated rows from those. -/
def refN (x1 : FVec Ideal S128x1x1024 .f32) (mod : FVec Ideal S128x6144 .f32) (g : FVec Ideal S1x1024 .f32) : FVec Ideal S128x1x1024 .f32 :=
  (addf (mulf (mulf (mulf x1 (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x1 x1) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![1, 2] bcast_S1x1024_S1x1x1024_1_2 g))) (addf (broadcastInDim S128x1x1024 ![] bcast_S_S128x1x1024 (constant S_ .f32 0x3F800000#32)) (extractStridedSlice (s := S128x1x6144) S128x1x1024 ![0, 0, 4096] (broadcastInDim S128x1x6144 ![0, 2] bcast_S128x6144_S128x1x6144_0_2 mod) slices_S128x1x6144_S128x1x1024_0_0_4096))) (extractStridedSlice (s := S128x1x6144) S128x1x1024 ![0, 0, 3072] (broadcastInDim S128x1x6144 ![0, 2] bcast_S128x6144_S128x1x6144_0_2 mod) slices_S128x1x6144_S128x1x1024_0_0_3072))

theorem refN_apply (x : FVec Ideal S128x1024 .f32) (o : FVec Ideal S128x1024 .bf16) (mod : FVec Ideal S128x6144 .f32) (g : FVec Ideal S1x1024 .f32) (w : FVec Ideal S1024x1024 .f32) (r : Fin 128) (d : Fin 1024) :
    refN (refX x o mod w) mod g (ix3 r 0 d) = h2At x o mod g w r d := by
  pointwise [refN, refX_apply]
  unfold h2At
  rfl

/-- The batch's rows as one list of rows. -/
def flat (y : FVec Ideal S128x1x1024 .f32) : FVec Ideal S128x1024 .f32 := shapeCast _ y shapeCasts_S128x1x1024_S128x1024

theorem flat_apply (y : FVec Ideal S128x1x1024 .f32) (r : Fin 128) (d : Fin 1024) :
    flat y (ix2 r d) = y (ix3 r 0 d) := by
  pointwise [flat]

theorem refX_flat (x : FVec Ideal S128x1024 .f32) (o : FVec Ideal S128x1024 .bf16) (mod : FVec Ideal S128x6144 .f32) (w : FVec Ideal S1024x1024 .f32) : flat (refX x o mod w) = x1Val x o mod w :=
  funext fun j => (congrArg _ (eq_ix2 (n0 := 128) (n1 := 1024) j)).trans ((flat_apply _ _ _).trans (refX_apply x o mod w _ _))

theorem refN_flat (x : FVec Ideal S128x1024 .f32) (o : FVec Ideal S128x1024 .bf16) (mod : FVec Ideal S128x6144 .f32) (g : FVec Ideal S1x1024 .f32) (w : FVec Ideal S1024x1024 .f32) : flat (refN (refX x o mod w) mod g) = h2Val x o mod g w :=
  funext fun j => (congrArg _ (eq_ix2 (n0 := 128) (n1 := 1024) j)).trans ((flat_apply _ _ _).trans (refN_apply x o mod g w _ _))

/-- The router's logits of every row, as the reference composes them. -/
def refL (h : FVec Ideal S128x1024 .f32) (w : FVec Ideal S1024x32 .f32) (b : FVec Ideal S1x32 .f32) : FVec Ideal S128x32 .f32 :=
  addf (Host.dotGeneral dot_S128x1024_S1024x32_S128x32_1_0_0_1_n_n none h w) (broadcastInDim S128x32 ![0, 1] bcast_S1x32_S128x32_0_1 b)

theorem refL_apply (x : FVec Ideal S128x1024 .f32) (o : FVec Ideal S128x1024 .bf16) (mod : FVec Ideal S128x6144 .f32) (g : FVec Ideal S1x1024 .f32) (w : FVec Ideal S1024x1024 .f32)
    (rw : FVec Ideal S1024x32 .f32) (rb : FVec Ideal S1x32 .f32) (r : Fin 128) (e : Fin 32) :
    refL (h2Val x o mod g w) rw rb (ix2 r e) = logitAt x o mod g w rw rb r e := by
  pointwise [refL]
  rfl

/-- The four greatest logits of every row and their places. -/
def top (l : FVec Ideal S128x32 .f32) : FVec Ideal S128x4 .f32 × IVec S128x4 32 :=
  Host.topK S128x4 1 (FloatOps.cmpfTotal .gt) l sliceFits_S128x32_S128x4

/-- A place of row `r` with its column replaced. -/
theorem along_ix2 (r : Fin 128) (i k : Fin 32) : Shape.Idx.along (s := S128x32) (ix2 r i) (1 : Fin 2) k = ix2 r k := by
  funext a
  fin_cases a <;> rfl

theorem slice_apply {α : Type} (y : S128x32.Idx → α) (h : S128x32.Slices (fun _ => 0) S128x4) (r : Fin 128) (k : Fin 4) :
    extractStridedSlice S128x4 (fun _ => 0) y h (ix2 r k) = y (ix2 r (rank k)) := by
  unfold extractStridedSlice
  refine congrArg y (funext fun a => ?_)
  fin_cases a <;> exact Fin.ext (Nat.zero_add _)

/-- The column of row `r` the sort puts at `i`. -/
theorem place_eq (l : FVec Ideal S128x32 .f32) (r : Fin 128) (i : Fin 32) :
    Shape.Idx.along (s := S128x32) (ix2 r i) (1 : Fin 2) (sortedFrom (n := 32) (fun k k' =>
      Ideal.cmp .ogt (l (Shape.Idx.along (s := S128x32) (ix2 r i) (1 : Fin 2) k)) (l (Shape.Idx.along (s := S128x32) (ix2 r i) (1 : Fin 2) k')) == 1#1) i)
      = ix2 r (srt (fun i => l (ix2 r i)) i) := by
  rw [along_ix2]
  have e : (fun k : Fin 32 => l (Shape.Idx.along (s := S128x32) (ix2 r i) (1 : Fin 2) k)) = fun k => l (ix2 r k) :=
    funext fun k => congrArg l (along_ix2 r i k)
  exact congrArg (fun L : Fin 32 → EReal => ix2 r (srt L i)) e

/-- The sort of a row's entries, and of what goes with them. -/
theorem sort_fst (l : FVec Ideal S128x32 .f32) (y : IVec S128x32 32) (r : Fin 128) (i : Fin 32) :
    (Host.sort2 S128x32 1 (fun p q => FloatOps.cmpfTotal (F := Ideal) (φ := .f32) .gt p.1 q.1) l y).1 (ix2 r i) = l (ix2 r (srt (fun i => l (ix2 r i)) i)) := by
  unfold Host.sort2
  rw [dif_pos (show 1 < S128x32.rank by decide)]
  exact congrArg l (place_eq l r i)

theorem sort_snd (l : FVec Ideal S128x32 .f32) (y : IVec S128x32 32) (r : Fin 128) (i : Fin 32) :
    (Host.sort2 S128x32 1 (fun p q => FloatOps.cmpfTotal (F := Ideal) (φ := .f32) .gt p.1 q.1) l y).2 (ix2 r i) = y (ix2 r (srt (fun i => l (ix2 r i)) i)) := by
  unfold Host.sort2
  rw [dif_pos (show 1 < S128x32.rank by decide)]
  exact congrArg y (place_eq l r i)

theorem top_val (l : FVec Ideal S128x32 .f32) (r : Fin 128) (k : Fin 4) :
    (top l).1 (ix2 r k) = l (ix2 r (srt (fun i => l (ix2 r i)) (rank k))) := by
  unfold top Host.topK
  dsimp only
  rw [slice_apply, sort_fst]

theorem top_idx (l : FVec Ideal S128x32 .f32) (r : Fin 128) (k : Fin 4) :
    (top l).2 (ix2 r k) = idxOf (fun i => l (ix2 r i)) k := by
  unfold top Host.topK
  dsimp only
  rw [slice_apply, sort_snd, dif_pos (show 1 < S128x32.rank by decide)]
  rfl

/-- The softmax of every row's four. -/
def soft (v : FVec Ideal S128x4 .f32) : FVec Ideal S128x4 .f32 :=
  Host.divf (Host.exp (subf v (broadcastInDim S128x4 ![0, 1] bcast_S128x1_S128x4_0_1 (broadcastInDim S128x1 ![0] bcast_S128_S128x1_0 (maximumf (broadcastInDim S128 ![] bcast_S_S128 (constant S_ .f32 0xFF800000#32)) (Host.reduce FloatOps.maximumf v (constant S_ .f32 0xFF800000#32) reducesTo_S128x4_S128_d1 h_S_)))))) (broadcastInDim S128x4 ![0, 1] bcast_S128x1_S128x4_0_1 (broadcastInDim S128x1 ![0] bcast_S128_S128x1_0 (Host.reduceAdd (Host.exp (subf v (broadcastInDim S128x4 ![0, 1] bcast_S128x1_S128x4_0_1 (broadcastInDim S128x1 ![0] bcast_S128_S128x1_0 (maximumf (broadcastInDim S128 ![] bcast_S_S128 (constant S_ .f32 0xFF800000#32)) (Host.reduce FloatOps.maximumf v (constant S_ .f32 0xFF800000#32) reducesTo_S128x4_S128_d1 h_S_)))))) (constant S_ .f32 0x00000000#32) reducesTo_S128x4_S128_d1 h_S_)))

theorem soft_apply (l : FVec Ideal S128x32 .f32) (r : Fin 128) (k : Fin 4) :
    soft (top l).1 (ix2 r k) = gateOf (fun i => l (ix2 r i)) k := by
  pointwise [soft, top_val]
  rw [ofBits_bot, max_four fun i => l (ix2 r i), max_eq_right bot_le]
  rfl

variable (m : (ℓ : Loc nD τ sig) → Buf (Elt Ideal) ℓ) (ρ : Dev nD → PrngReg)

/-- The reference's logits of the device's rows. -/
def lgR (c : Dev nD) : Fin 128 → Fin 32 → EReal :=
  logitAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem refL_rows (c : Dev nD) (r : Fin 128) :
    (fun i => refL (h2Val (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) (ix2 r i)) = lgR m c r :=
  funext fun i => refL_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r i

theorem idx_eq (c : Dev nD) : (top (refL (flat (refN (refX (m ((c : Thread nD τ).loc main_arg0)) (m ((c : Thread nD τ).loc main_arg1)) (m ((c : Thread nD τ).loc main_arg2)) (m ((c : Thread nD τ).loc main_arg4))) (m ((c : Thread nD τ).loc main_arg2)) (m ((c : Thread nD τ).loc main_arg3)))) (m ((c : Thread nD τ).loc main_arg5)) (m ((c : Thread nD τ).loc main_arg6)))).2 = idxArr (lgR m c) := by
  rw [refN_flat]
  exact funext fun j => (congrArg _ (eq_ix2 (n0 := 128) (n1 := 4) j)).trans ((top_idx _ _ _).trans (congrArg (fun l => idxOf l _) (refL_rows m c _)))

theorem gate_eq (c : Dev nD) : soft (top (refL (flat (refN (refX (m ((c : Thread nD τ).loc main_arg0)) (m ((c : Thread nD τ).loc main_arg1)) (m ((c : Thread nD τ).loc main_arg2)) (m ((c : Thread nD τ).loc main_arg4))) (m ((c : Thread nD τ).loc main_arg2)) (m ((c : Thread nD τ).loc main_arg3)))) (m ((c : Thread nD τ).loc main_arg5)) (m ((c : Thread nD τ).loc main_arg6)))).1 = gateArr (lgR m c) := by
  rw [refN_flat]
  exact funext fun j => (congrArg _ (eq_ix2 (n0 := 128) (n1 := 4) j)).trans ((soft_apply _ _ _).trans (congrArg (fun l => gateOf l _) (refL_rows m c _)))

/-- The reference's run, its four results read at every index. -/
theorem run : θ_run defs (onTc (τ := τ) (main (F := Ideal))) ⟨m, fun _ => 0, ρ⟩ fun r => ∀ c : Dev nD,
      r.2.mem ((c : Thread nD τ).loc main_v31)
        = x1Val (m ((c : Thread nD τ).loc main_arg0)) (m ((c : Thread nD τ).loc main_arg1)) (m ((c : Thread nD τ).loc main_arg2)) (m ((c : Thread nD τ).loc main_arg4))
      ∧ r.2.mem ((c : Thread nD τ).loc main_v27)
        = h2Val (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_indices) = idxArr (lgR m c)
      ∧ r.2.mem ((c : Thread nD τ).loc main_v42) = gateArr (lgR m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (refX_flat _ _ _ _), (h c).2.1.trans (refN_flat _ _ _ _ _),
    (h c).2.2.1.trans (idx_eq m c), (h c).2.2.2.1.trans (gate_eq m c), (h c).2.2.2.2⟩) (Value.run m ρ)

/-! ## The claims -/

/-- No operation of the kernel was rewritten. -/
theorem preserves : Cert.preserves_PostSample_PostSampleIdeal := trivial

/-- The kernel as printed runs to its end and leaves its arguments and counters as they were. -/
theorem frame : Cert.quiescent_PostSample := fun m ρ _ => Cert.PostSample.Gen.frame m ρ

/-- The kernel read in exact arithmetic likewise. -/
theorem frame_ideal : Cert.quiescent_PostSampleIdeal := fun m ρ _ => Cert.PostSampleIdeal.Gen.frame m ρ
theorem frame_ideal_finite : Cert.quiescent_PostSampleIdeal_pre_all_finite_sample := fun m ρ _ => Cert.PostSampleIdeal.Gen.frame m ρ

/-- The reference likewise. -/
theorem frame_ref : Cert.quiescent_PostSampleRefIdeal := fun m ρ _ =>
  (θ_run Cert.PostSampleRefIdeal.defs _ _).mono (fun r h => ⟨fun c => (h c).2.2.2.2,
      Idealize.ShloMosaic.sem_eq_zero_of_no_sems (by decide) r.2⟩) (run m ρ)
theorem frame_ref_finite : Cert.quiescent_PostSampleRefIdeal_pre_all_finite_sample := fun m ρ _ =>
  (θ_run Cert.PostSampleRefIdeal.defs _ _).mono (fun r h => ⟨fun c => (h c).2.2.2.2,
      Idealize.ShloMosaic.sem_eq_zero_of_no_sems (by decide) r.2⟩) (run m ρ)

/-- What the precondition says. -/
theorem finite_of_pre (x : FVec Ideal S128x1024 .f32) (o : FVec Ideal S128x1024 .bf16) (mod : FVec Ideal S128x6144 .f32) (g : FVec Ideal S1x1024 .f32) (w : FVec Ideal S1024x1024 .f32)
    (rw : FVec Ideal S1024x32 .f32) (rb : FVec Ideal S1x32 .f32) (h : Cert.Pre_all_finite_sample.fn (F := Ideal) x o mod g w rw rb = fun _ => 1#1) :
    Finite x o mod g w rw rb := by
  have e := congrFun h (fun a => a.elim0)
  simp only [Cert.Pre_all_finite_sample.fn, Cert.Pre_all_finite_sample.fn_part1, Cert.Pre_all_finite_sample.fn_part2] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  refine ⟨fun j => real_of_abs (Host.reduce_andi_all _ _ _ _ _ e1 j), fun j => real_of_abs (Host.reduce_andi_all _ _ _ _ _ e2 j), fun b l => ?_,
    fun j => real_of_abs (Host.reduce_andi_all _ _ _ _ _ e4 j), fun j => real_of_abs (Host.reduce_andi_all _ _ _ _ _ e5 j),
    fun j => real_of_abs (Host.reduce_andi_all _ _ _ _ _ e6 j), fun j => real_of_abs (Host.reduce_andi_all _ _ _ _ _ e7 j)⟩
  have h3 := real_of_abs (Host.reduce_andi_all _ _ _ _ _ e3 (ix2 b l))
  refine (congrArg IsReal ?_).mp h3
  pointwise

/-- On finite arguments the kernel and the reference leave the same four arrays. -/
theorem algebraic : Cert.algebraic_PostSampleIdeal_PostSampleRefIdeal_pre_all_finite_sample := by
  intro m ρ m' ρ' hp hag
  refine ⟨_, _, _, _, PostSampleRoute.run m ρ fun c => finite_of_pre _ _ _ _ _ _ _ (hp c), ?_⟩
  refine (θ_run Cert.PostSampleRefIdeal.defs _ _).mono (fun _ h c => ?_) (run m' ρ')
  obtain ⟨h0, h1, h2, h3, h4, h5, h6⟩ := hag c
  have hl : lgR m' c = lg m c := by unfold lgR lg; rw [h0, h1, h2, h3, h4, h5, h6]
  refine ⟨(h c).1.trans ?_, (h c).2.1.trans ?_, (h c).2.2.1.trans (congrArg _ hl), (h c).2.2.2.1.trans (congrArg _ hl), (h c).2.2.2.2⟩
  · rw [h0, h1, h2, h4]
  · rw [h0, h1, h2, h3, h4]

end Cert.Proof.PostSampleRef
end
-- ==== Proof.lean ====
/-
  The proof of the certificate's claim: each conjunct is a theorem of the module named after its program.
-/
module

public import proofs.«01_k».proof.Defs
public import proofs.«01_k».proof.Proof.SampleEq
public import proofs.«01_k».proof.Proof.ExpertsRef
public import proofs.«01_k».proof.Proof.InProjRef
public import proofs.«01_k».proof.Proof.AdaModRef
public import proofs.«01_k».proof.Proof.PostRef
public import proofs.«01_k».proof.Proof.InProjSampleRef
public import proofs.«01_k».proof.Proof.PostSampleRef

@[expose] public section

noncomputable section

namespace Cert.Proof

open Idealize.ShloMosaic Idealize.SL.Sem

/-- The conjunction of all claims. -/
theorem claim : Cert.Claim := ⟨Cert.Kernel.Gen.facts, Cert.KernelIdeal.Gen.facts, Cert.ReferenceIdeal.Gen.facts,
  Cert.Experts.Gen.facts, Cert.ExpertsIdeal.Gen.facts, Cert.ExpertsRefIdeal.Gen.facts,
  Cert.InProj.Gen.facts, Cert.InProjIdeal.Gen.facts, Cert.InProjRefIdeal.Gen.facts,
  Cert.AdaMod.Gen.facts, Cert.AdaModIdeal.Gen.facts, Cert.AdaModRefIdeal.Gen.facts,
  Cert.Post.Gen.facts, Cert.PostIdeal.Gen.facts, Cert.PostRefIdeal.Gen.facts,
  Cert.InProjSample.Gen.facts, Cert.InProjSampleIdeal.Gen.facts, Cert.InProjSampleRefIdeal.Gen.facts,
  Cert.PostSample.Gen.facts, Cert.PostSampleIdeal.Gen.facts, Cert.PostSampleRefIdeal.Gen.facts,
  Cert.Pre_tame.Gen.facts, Cert.Pre_experts_in_range.Gen.facts, Cert.Pre_all_finite.Gen.facts, Cert.Pre_all_finite_sample.Gen.facts,
  SampleEq.frame, SampleEq.frame_ideal, SampleEq.frame_ideal_tame, SampleEq.frame_ref, SampleEq.frame_ref_tame,
  ExpertsTables.frame_bits, ExpertsTables.frame_ideal, ExpertsRef.frame_ref,
  InProjRef.frame, InProjRef.frame_ideal, InProjRef.frame_ref, AdaModRef.frame, AdaModRef.frame_ideal, AdaModRef.frame_ref,
  PostRef.frame, PostRef.frame_ideal, PostRef.frame_ideal_finite, PostRef.frame_ref, PostRef.frame_ref_finite,
  InProjSampleRef.frame, InProjSampleRef.frame_ideal, InProjSampleRef.frame_ref,
  PostSampleRef.frame, PostSampleRef.frame_ideal, PostSampleRef.frame_ideal_finite, PostSampleRef.frame_ref, PostSampleRef.frame_ref_finite,
  SampleEq.preserves, SampleEq.algebraic, ExpertsRef.preserves, ExpertsRef.algebraic,
  InProjRef.preserves, InProjRef.algebraic, AdaModRef.preserves, AdaModRef.algebraic,
  PostRef.preserves, PostRef.algebraic, InProjSampleRef.preserves, InProjSampleRef.algebraic,
  PostSampleRef.preserves, PostSampleRef.algebraic⟩

end Cert.Proof

end
